-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.BufferStatement Cert.KernelIdeal.S4608x2x128 Cert.KernelIdeal.S4608x1x128
  ∧ IdealRules.bf16_pair.PackStatement Cert.KernelIdeal.S128x128
  ∧ IdealRules.bf16_pair.Statement Cert.KernelIdeal.S128x2x128 Cert.KernelIdeal.S128x1x128
  ∧ IdealRules.bf16_pair.Statement Cert.KernelIdeal.S32x2x128 Cert.KernelIdeal.S32x1x128
  ∧ IdealRules.bf16_pair.Statement Cert.KernelIdeal.S64x128 Cert.KernelIdeal.S32x128
  ∧ IdealRules.bf16_pair.Statement Cert.KernelIdeal.S256x128 Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_v15) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_v19) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x768x96 : Shape := ⟨3, ![32, 768, 96]⟩
abbrev S768 : Shape := ⟨1, ![768]⟩
abbrev S768x96x64 : Shape := ⟨3, ![768, 96, 64]⟩
abbrev S32x2048x64 : Shape := ⟨3, ![32, 2048, 64]⟩
abbrev S_ : Shape := ⟨0, ![]⟩
abbrev S2x768x2048 : Shape := ⟨3, ![2, 768, 2048]⟩
abbrev S32x96x768 : Shape := ⟨3, ![32, 96, 768]⟩
abbrev S96x64x768 : Shape := ⟨3, ![96, 64, 768]⟩
abbrev S32x64x2048 : Shape := ⟨3, ![32, 64, 2048]⟩
abbrev S2x2048x768 : Shape := ⟨3, ![2, 2048, 768]⟩
abbrev S2x2048x6x128 : Shape := ⟨4, ![2, 2048, 6, 128]⟩
abbrev S6x2x2048x128 : Shape := ⟨4, ![6, 2, 2048, 128]⟩
abbrev S1 : Shape := ⟨1, ![1]⟩
abbrev S32x64x768 : Shape := ⟨3, ![32, 64, 768]⟩
abbrev S32x96x128 : Shape := ⟨3, ![32, 96, 128]⟩
abbrev S96x64x128 : Shape := ⟨3, ![96, 64, 128]⟩
abbrev S1x2x2048x128 : Shape := ⟨4, ![1, 2, 2048, 128]⟩
abbrev S32x64x128 : Shape := ⟨3, ![32, 64, 128]⟩
abbrev S2x896x128 : Shape := ⟨3, ![2, 896, 128]⟩
abbrev S2x1920x128 : Shape := ⟨3, ![2, 1920, 128]⟩
abbrev S1536x128 : Shape := ⟨2, ![1536, 128]⟩
abbrev S4608x128 : Shape := ⟨2, ![4608, 128]⟩
abbrev S6656x128 : Shape := ⟨2, ![6656, 128]⟩
abbrev S1x128 : Shape := ⟨2, ![1, 128]⟩
abbrev S128 : Shape := ⟨1, ![128]⟩
abbrev S1x1x2048x128 : Shape := ⟨4, ![1, 1, 2048, 128]⟩
abbrev S2048x128 : Shape := ⟨2, ![2048, 128]⟩
abbrev S2048x256 : Shape := ⟨2, ![2048, 256]⟩
abbrev S4x64x2048 : Shape := ⟨3, ![4, 64, 2048]⟩
abbrev S256x2048 : Shape := ⟨2, ![256, 2048]⟩
abbrev S256x256 : Shape := ⟨2, ![256, 256]⟩
abbrev S256x128 : Shape := ⟨2, ![256, 128]⟩
abbrev S4x64x128 : Shape := ⟨3, ![4, 64, 128]⟩
abbrev S1x64x128 : Shape := ⟨3, ![1, 64, 128]⟩
abbrev S64x128 : Shape := ⟨2, ![64, 128]⟩
abbrev S128x128 : Shape := ⟨2, ![128, 128]⟩
abbrev S1x96x128 : Shape := ⟨3, ![1, 96, 128]⟩
abbrev S96x128 : Shape := ⟨2, ![96, 128]⟩
abbrev S24x128 : Shape := ⟨2, ![24, 128]⟩
abbrev S1x24x128 : Shape := ⟨3, ![1, 24, 128]⟩
abbrev S16x128 : Shape := ⟨2, ![16, 128]⟩
abbrev S1x16x128 : Shape := ⟨3, ![1, 16, 128]⟩
abbrev S1x896x128 : Shape := ⟨3, ![1, 896, 128]⟩
abbrev S896x128 : Shape := ⟨2, ![896, 128]⟩
abbrev S32x128 : Shape := ⟨2, ![32, 128]⟩
abbrev S1x1920x128 : Shape := ⟨3, ![1, 1920, 128]⟩
abbrev S1920x128 : Shape := ⟨2, ![1920, 128]⟩
abbrev S64x256 : Shape := ⟨2, ![64, 256]⟩
abbrev S128x256 : Shape := ⟨2, ![128, 256]⟩
abbrev S48x128 : Shape := ⟨2, ![48, 128]⟩
abbrev S48x256 : Shape := ⟨2, ![48, 256]⟩
abbrev S32x768x64 : Shape := ⟨3, ![32, 768, 64]⟩

abbrev nBuf : Space → Nat
  | .hbm => 30
  | .vmem => 32
  | .smem => 2
  | _ => 0

abbrev bufTy : (tb : Table) → Fin (tcTables nBuf tb) → BufTy
  | .hbm, ⟨0, _⟩ => ⟨S32x768x96, .i8⟩
  | .hbm, ⟨1, _⟩ => ⟨S32x768x96, .i8⟩
  | .hbm, ⟨2, _⟩ => ⟨S768, .f32⟩
  | .hbm, ⟨3, _⟩ => ⟨S768x96x64, .i8⟩
  | .hbm, ⟨4, _⟩ => ⟨S768x96x64, .i8⟩
  | .hbm, ⟨5, _⟩ => ⟨S768, .f32⟩
  | .hbm, ⟨6, _⟩ => ⟨S32x2048x64, .fp8e5m2⟩
  | .hbm, ⟨7, _⟩ => ⟨S_, .f32⟩
  | .hbm, ⟨8, _⟩ => ⟨S2x768x2048, .bf16⟩
  | .hbm, ⟨9, _⟩ => ⟨S32x96x768, .i8⟩
  | .hbm, ⟨10, _⟩ => ⟨S32x96x768, .i8⟩
  | .hbm, ⟨11, _⟩ => ⟨S96x64x768, .i8⟩
  | .hbm, ⟨12, _⟩ => ⟨S96x64x768, .i8⟩
  | .hbm, ⟨13, _⟩ => ⟨S32x64x2048, .fp8e5m2⟩
  | .hbm, ⟨14, _⟩ => ⟨S2x2048x768, .bf16⟩
  | .hbm, ⟨15, _⟩ => ⟨S2x2048x6x128, .bf16⟩
  | .hbm, ⟨16, _⟩ => ⟨S6x2x2048x128, .bf16⟩
  | .hbm, ⟨17, _⟩ => ⟨S1, .f32⟩
  | .hbm, ⟨18, _⟩ => ⟨S96x64x768, .f32⟩
  | .hbm, ⟨19, _⟩ => ⟨S96x64x768, .f32⟩
  | .hbm, ⟨20, _⟩ => ⟨S32x96x768, .bf16⟩
  | .hbm, ⟨21, _⟩ => ⟨S32x96x768, .bf16⟩
  | .hbm, ⟨22, _⟩ => ⟨S32x64x768, .bf16⟩
  | .hbm, ⟨23, _⟩ => ⟨S32x64x768, .bf16⟩
  | .hbm, ⟨24, _⟩ => ⟨S768x96x64, .f32⟩
  | .hbm, ⟨25, _⟩ => ⟨S768x96x64, .f32⟩
  | .hbm, ⟨26, _⟩ => ⟨S32x768x96, .bf16⟩
  | .hbm, ⟨27, _⟩ => ⟨S32x768x96, .bf16⟩
  | .hbm, ⟨28, _⟩ => ⟨S32x768x64, .bf16⟩
  | .hbm, ⟨29, _⟩ => ⟨S32x768x64, .bf16⟩
  | .local _ .vmem, ⟨0, _⟩ => ⟨S768, .f32⟩
  | .local _ .vmem, ⟨1, _⟩ => ⟨S32x96x128, .i8⟩
  | .local _ .vmem, ⟨2, _⟩ => ⟨S32x96x128, .i8⟩
  | .local _ .vmem, ⟨3, _⟩ => ⟨S32x96x128, .i8⟩
  | .local _ .vmem, ⟨4, _⟩ => ⟨S32x96x128, .i8⟩
  | .local _ .vmem, ⟨5, _⟩ => ⟨S96x64x128, .i8⟩
  | .local _ .vmem, ⟨6, _⟩ => ⟨S96x64x128, .i8⟩
  | .local _ .vmem, ⟨7, _⟩ => ⟨S96x64x128, .i8⟩
  | .local _ .vmem, ⟨8, _⟩ => ⟨S96x64x128, .i8⟩
  | .local _ .vmem, ⟨9, _⟩ => ⟨S32x64x2048, .fp8e5m2⟩
  | .local _ .vmem, ⟨10, _⟩ => ⟨S1x2x2048x128, .bf16⟩
  | .local _ .vmem, ⟨11, _⟩ => ⟨S1x2x2048x128, .bf16⟩
  | .local _ .vmem, ⟨12, _⟩ => ⟨S96x64x128, .f32⟩
  | .local _ .vmem, ⟨13, _⟩ => ⟨S96x64x128, .f32⟩
  | .local _ .vmem, ⟨14, _⟩ => ⟨S96x64x128, .f32⟩
  | .local _ .vmem, ⟨15, _⟩ => ⟨S96x64x128, .f32⟩
  | .local _ .vmem, ⟨16, _⟩ => ⟨S32x96x128, .bf16⟩
  | .local _ .vmem, ⟨17, _⟩ => ⟨S32x96x128, .bf16⟩
  | .local _ .vmem, ⟨18, _⟩ => ⟨S32x96x128, .bf16⟩
  | .local _ .vmem, ⟨19, _⟩ => ⟨S32x96x128, .bf16⟩
  | .local _ .vmem, ⟨20, _⟩ => ⟨S32x64x128, .bf16⟩
  | .local _ .vmem, ⟨21, _⟩ => ⟨S32x64x128, .bf16⟩
  | .local _ .vmem, ⟨22, _⟩ => ⟨S32x64x128, .bf16⟩
  | .local _ .vmem, ⟨23, _⟩ => ⟨S32x64x128, .bf16⟩
  | .local _ .vmem, ⟨24, _⟩ => ⟨S2x896x128, .i32⟩
  | .local _ .vmem, ⟨25, _⟩ => ⟨S2x1920x128, .i32⟩
  | .local _ .vmem, ⟨26, _⟩ => ⟨S1536x128, .i32⟩
  | .local _ .vmem, ⟨27, _⟩ => ⟨S4608x128, .i32⟩
  | .local _ .vmem, ⟨28, _⟩ => ⟨S4608x128, .i32⟩
  | .local _ .vmem, ⟨29, _⟩ => ⟨S6656x128, .f32⟩
  | .local _ .vmem, ⟨30, _⟩ => ⟨S6656x128, .f32⟩
  | .local _ .vmem, ⟨31, _⟩ => ⟨S4608x128, .i32⟩
  | .local _ .smem, ⟨0, _⟩ => ⟨S768, .f32⟩
  | .local _ .smem, ⟨1, _⟩ => ⟨S1, .f32⟩
  | _, _ => ⟨S32x768x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [BitOps F]

abbrev grid0 : Pipeline.Grid := ⟨1, ![6], ![false]⟩

def k0_mult1 (i : grid0.Coords) : BitVec 32 :=
  let arg0 : BitVec 32 := BitVec.ofNat 32 (i 0).val
  let c128_i32_2 : BitVec 32 := 128#32
  let v14 : BitVec 32 := Scalar.muli arg0 c128_i32_2
  v14
def k0_off1 (i : grid0.Coords) : Fin 1 → Nat :=
  let arg0 : BitVec 32 := BitVec.ofNat 32 (i 0).val
  let c128_i32_2 : BitVec 32 := 128#32
  let v14 : BitVec 32 := Scalar.muli arg0 c128_i32_2
  let v15 : BitVec 32 := v14
  let v16 : Index := Scalar.indexCast v15
  ![v16.toNat]
@[reducible] def k0_t1_loop : Scf.Loop 32 :=
  let c0_i32_10 : BitVec 32 := 0#32
  let c8_i32 : BitVec 32 := 8#32
  let v24 : BitVec 32 := Scalar.addi c0_i32_10 c8_i32
  let c1_i32 : BitVec 32 := 1#32
  ⟨c0_i32_10, v24, c1_i32⟩
def k0_off2 (k0_t1 : Fin k0_t1_loop.trips) : Fin 3 → Nat :=
  let c0_i32_10 : BitVec 32 := 0#32
  let c1_i32 : BitVec 32 := 1#32
  let arg24 : BitVec 32 := Scf.iv c0_i32_10 c1_i32 k0_t1
  let c4_i32 : BitVec 32 := 4#32
  let v1566 : BitVec 32 := Scalar.muli arg24 c4_i32
  let v1567 : Index := Scalar.indexCast v1566
  let c0_1358 : Index := 0#32
  let c0_1359 : Index := 0#32
  ![v1567.toNat, 0, 0]
def k0_off3 (k0_t1 : Fin k0_t1_loop.trips) : Fin 3 → Nat :=
  let c0_i32_10 : BitVec 32 := 0#32
  let c1_i32 : BitVec 32 := 1#32
  let arg24 : BitVec 32 := Scf.iv c0_i32_10 c1_i32 k0_t1
  let c4_i32_1361 : BitVec 32 := 4#32
  let v1582 : BitVec 32 := Scalar.muli arg24 c4_i32_1361
  let v1583 : Index := Scalar.indexCast v1582
  let c0_1362 : Index := 0#32
  let c0_1363 : Index := 0#32
  ![v1583.toNat, 0, 0]
def k0_off4 (k0_t1 : Fin k0_t1_loop.trips) (c0_i32_1367 : BitVec 32) : Fin 2 → Nat :=
  let c0_i32_10 : BitVec 32 := 0#32
  let c1_i32 : BitVec 32 := 1#32
  let arg24 : BitVec 32 := Scf.iv c0_i32_10 c1_i32 k0_t1
  let c2_i32 : BitVec 32 := 2#32
  let v1589 : BitVec 32 := Scalar.muli arg24 c2_i32
  let v1590 : BitVec 32 := Scalar.addi v1589 c0_i32_1367
  let v1621 : Index := Scalar.indexCast v1590
  let c0_1370 : Index := 0#32
  ![v1621.toNat, 0]
def k0_off5 (k0_t1 : Fin k0_t1_loop.trips) (c0_i32_1367 : BitVec 32) : Fin 2 → Nat :=
  let c16_i32_1371 : BitVec 32 := 16#32
  let c0_i32_10 : BitVec 32 := 0#32
  let c1_i32 : BitVec 32 := 1#32
  let arg24 : BitVec 32 := Scf.iv c0_i32_10 c1_i32 k0_t1
  let c2_i32 : BitVec 32 := 2#32
  let v1589 : BitVec 32 := Scalar.muli arg24 c2_i32
  let v1590 : BitVec 32 := Scalar.addi v1589 c0_i32_1367
  let v1625 : BitVec 32 := Scalar.addi c16_i32_1371 v1590
  let v1626 : Index := Scalar.indexCast v1625
  let c0_1372 : Index := 0#32
  ![v1626.toNat, 0]
@[reducible] def k0_t2_loop : Scf.Loop 32 :=
  let c0_i32_1341 : BitVec 32 := 0#32
  let c12_i32 : BitVec 32 := 12#32
  let v1561 : BitVec 32 := Scalar.addi c0_i32_1341 c12_i32
  let c1_i32_1342 : BitVec 32 := 1#32
  ⟨c0_i32_1341, v1561, c1_i32_1342⟩
def k0_off6 (k0_t2 : Fin k0_t2_loop.trips) (c0_i32_1358 : BitVec 32) : Fin 2 → Nat :=
  let c0_i32_1341 : BitVec 32 := 0#32
  let c1_i32_1342 : BitVec 32 := 1#32
  let arg24 : BitVec 32 := Scf.iv c0_i32_1341 c1_i32_1342 k0_t2
  let v1566 : BitVec 32 := Scalar.addi arg24 c0_i32_1358
  let v1569 : Index := Scalar.indexCast v1566
  let c0_1362 : Index := 0#32
  ![v1569.toNat, 0]
def k0_off7 (k0_t2 : Fin k0_t2_loop.trips) : Fin 2 → Nat :=
  let c0_i32_1341 : BitVec 32 := 0#32
  let c1_i32_1342 : BitVec 32 := 1#32
  let arg24 : BitVec 32 := Scf.iv c0_i32_1341 c1_i32_1342 k0_t2
  let v1588 : Index := Scalar.indexCast arg24
  let c0_1378 : Index := 0#32
  ![v1588.toNat, 0]
@[reducible] def k0_t3_loop : Scf.Loop 32 :=
  let c0_i32_1344 : BitVec 32 := 0#32
  let c16_i32 : BitVec 32 := 16#32
  let v1562 : BitVec 32 := Scalar.addi c0_i32_1344 c16_i32
  let c1_i32_1345 : BitVec 32 := 1#32
  ⟨c0_i32_1344, v1562, c1_i32_1345⟩
def k0_off8 (k0_t3 : Fin k0_t3_loop.trips) : Fin 2 → Nat :=
  let c0_i32_1344 : BitVec 32 := 0#32
  let c1_i32_1345 : BitVec 32 := 1#32
  let arg24 : BitVec 32 := Scf.iv c0_i32_1344 c1_i32_1345 k0_t3
  let v1568 : Index := Scalar.indexCast arg24
  let c0_1361 : Index := 0#32
  ![v1568.toNat, 0]
def k0_off9 (k0_t3 : Fin k0_t3_loop.trips) (c0_i32_1363 : BitVec 32) : Fin 2 → Nat :=
  let c0_i32_1344 : BitVec 32 := 0#32
  let c1_i32_1345 : BitVec 32 := 1#32
  let arg24 : BitVec 32 := Scf.iv c0_i32_1344 c1_i32_1345 k0_t3
  let v1573 : BitVec 32 := Scalar.addi c0_i32_1363 arg24
  let v1574 : Index := Scalar.indexCast v1573
  let c0_1364 : Index := 0#32
  ![v1574.toNat, 0]
@[reducible] def k0_t4_loop : Scf.Loop 32 :=
  let c0_i32_1347 : BitVec 32 := 0#32
  let c16_i32_1348 : BitVec 32 := 16#32
  let v1563 : BitVec 32 := Scalar.addi c0_i32_1347 c16_i32_1348
  let c1_i32_1349 : BitVec 32 := 1#32
  ⟨c0_i32_1347, v1563, c1_i32_1349⟩
def k0_mult2 (k0_t4 : Fin k0_t4_loop.trips) : BitVec 32 :=
  let c0_i32_1347 : BitVec 32 := 0#32
  let c1_i32_1349 : BitVec 32 := 1#32
  let arg24 : BitVec 32 := Scf.iv c0_i32_1347 c1_i32_1349 k0_t4
  let c8_i32_1358 : BitVec 32 := 8#32
  let v1566 : BitVec 32 := Scalar.muli arg24 c8_i32_1358
  let c0_i32_1359 : BitVec 32 := 0#32
  let v1567 : BitVec 32 := Scalar.addi v1566 c0_i32_1359
  let c12_i32_1360 : BitVec 32 := 12#32
  let v1568 : BitVec 32 := Scalar.muli v1567 c12_i32_1360
  v1568
def k0_off10 (k0_t4 : Fin k0_t4_loop.trips) (c0_i32_1359 : BitVec 32) : Fin 2 → Nat :=
  let c0_i32_1347 : BitVec 32 := 0#32
  let c1_i32_1349 : BitVec 32 := 1#32
  let arg24 : BitVec 32 := Scf.iv c0_i32_1347 c1_i32_1349 k0_t4
  let c8_i32_1358 : BitVec 32 := 8#32
  let v1566 : BitVec 32 := Scalar.muli arg24 c8_i32_1358
  let v1567 : BitVec 32 := Scalar.addi v1566 c0_i32_1359
  let c12_i32_1360 : BitVec 32 := 12#32
  let v1568 : BitVec 32 := Scalar.muli v1567 c12_i32_1360
  let v1569 : BitVec 32 := v1568
  let v1570 : Index := Scalar.indexCast v1569
  let c0_1361 : Index := 0#32
  ![v1570.toNat, 0]
def k0_off11 (k0_t4 : Fin k0_t4_loop.trips) (c0_i32_1359 : BitVec 32) (c0_i32_1362 : BitVec 32) : Fin 2 → Nat :=
  let c0_i32_1347 : BitVec 32 := 0#32
  let c1_i32_1349 : BitVec 32 := 1#32
  let arg24 : BitVec 32 := Scf.iv c0_i32_1347 c1_i32_1349 k0_t4
  let c8_i32_1358 : BitVec 32 := 8#32
  let v1566 : BitVec 32 := Scalar.muli arg24 c8_i32_1358
  let v1567 : BitVec 32 := Scalar.addi v1566 c0_i32_1359
  let v1574 : BitVec 32 := Scalar.addi v1567 c0_i32_1362
  let c36_i32 : BitVec 32 := 36#32
  let v1575 : BitVec 32 := Scalar.muli v1574 c36_i32
  let v1576 : Index := Scalar.indexCast v1575
  let c0_1363 : Index := 0#32
  ![v1576.toNat, 0]
def k0_off12 (k0_t4 : Fin k0_t4_loop.trips) (c0_i32_1359 : BitVec 32) (c0_i32_1362 : BitVec 32) : Fin 2 → Nat :=
  let c0_i32_1347 : BitVec 32 := 0#32
  let c1_i32_1349 : BitVec 32 := 1#32
  let arg24 : BitVec 32 := Scf.iv c0_i32_1347 c1_i32_1349 k0_t4
  let c8_i32_1358 : BitVec 32 := 8#32
  let v1566 : BitVec 32 := Scalar.muli arg24 c8_i32_1358
  let v1567 : BitVec 32 := Scalar.addi v1566 c0_i32_1359
  let v1574 : BitVec 32 := Scalar.addi v1567 c0_i32_1362
  let c52_i32 : BitVec 32 := 52#32
  let v1586 : BitVec 32 := Scalar.muli v1574 c52_i32
  let v1587 : Index := Scalar.indexCast v1586
  let c0_1366 : Index := 0#32
  ![v1587.toNat, 0]
def k0_off13 (i : grid0.Coords) (k0_t4 : Fin k0_t4_loop.trips) (c0_i32_1359 : BitVec 32) (c0_i32_1362 : BitVec 32) : Fin 1 → Nat :=
  let arg0 : BitVec 32 := BitVec.ofNat 32 (i 0).val
  let c128_i32_1372 : BitVec 32 := 128#32
  let v1603 : BitVec 32 := Scalar.muli arg0 c128_i32_1372
  let c0_i32_1347 : BitVec 32 := 0#32
  let c1_i32_1349 : BitVec 32 := 1#32
  let arg24 : BitVec 32 := Scf.iv c0_i32_1347 c1_i32_1349 k0_t4
  let c8_i32_1358 : BitVec 32 := 8#32
  let v1566 : BitVec 32 := Scalar.muli arg24 c8_i32_1358
  let v1567 : BitVec 32 := Scalar.addi v1566 c0_i32_1359
  let v1574 : BitVec 32 := Scalar.addi v1567 c0_i32_1362
  let v1604 : BitVec 32 := Scalar.addi v1603 v1574
  let v1605 : Index := Scalar.indexCast v1604
  ![v1605.toNat]
def k0_mult3 (k0_t4 : Fin k0_t4_loop.trips) : BitVec 32 :=
  let c0_i32_1347 : BitVec 32 := 0#32
  let c1_i32_1349 : BitVec 32 := 1#32
  let arg24 : BitVec 32 := Scf.iv c0_i32_1347 c1_i32_1349 k0_t4
  let c8_i32_1390 : BitVec 32 := 8#32
  let v1658 : BitVec 32 := Scalar.muli arg24 c8_i32_1390
  let c2_i32 : BitVec 32 := 2#32
  let v1659 : BitVec 32 := Scalar.addi v1658 c2_i32
  let c12_i32_1391 : BitVec 32 := 12#32
  let v1660 : BitVec 32 := Scalar.muli v1659 c12_i32_1391
  v1660
def k0_mult4 (k0_t4 : Fin k0_t4_loop.trips) : BitVec 32 :=
  let c0_i32_1347 : BitVec 32 := 0#32
  let c1_i32_1349 : BitVec 32 := 1#32
  let arg24 : BitVec 32 := Scf.iv c0_i32_1347 c1_i32_1349 k0_t4
  let c8_i32_1423 : BitVec 32 := 8#32
  let v1750 : BitVec 32 := Scalar.muli arg24 c8_i32_1423
  let c4_i32 : BitVec 32 := 4#32
  let v1751 : BitVec 32 := Scalar.addi v1750 c4_i32
  let c12_i32_1424 : BitVec 32 := 12#32
  let v1752 : BitVec 32 := Scalar.muli v1751 c12_i32_1424
  v1752
def k0_mult5 (k0_t4 : Fin k0_t4_loop.trips) : BitVec 32 :=
  let c0_i32_1347 : BitVec 32 := 0#32
  let c1_i32_1349 : BitVec 32 := 1#32
  let arg24 : BitVec 32 := Scf.iv c0_i32_1347 c1_i32_1349 k0_t4
  let c8_i32_1456 : BitVec 32 := 8#32
  let v1842 : BitVec 32 := Scalar.muli arg24 c8_i32_1456
  let c6_i32 : BitVec 32 := 6#32
  let v1843 : BitVec 32 := Scalar.addi v1842 c6_i32
  let c12_i32_1457 : BitVec 32 := 12#32
  let v1844 : BitVec 32 := Scalar.muli v1843 c12_i32_1457
  v1844
@[reducible] def k0_t5_loop : Scf.Loop 32 :=
  let c0_i32_1351 : BitVec 32 := 0#32
  let c48_i32 : BitVec 32 := 48#32
  let v1564 : BitVec 32 := Scalar.addi c0_i32_1351 c48_i32
  let c1_i32_1352 : BitVec 32 := 1#32
  ⟨c0_i32_1351, v1564, c1_i32_1352⟩
def k0_off14 (k0_t5 : Fin k0_t5_loop.trips) : Fin 2 → Nat :=
  let c0_i32_1351 : BitVec 32 := 0#32
  let c1_i32_1352 : BitVec 32 := 1#32
  let arg24 : BitVec 32 := Scf.iv c0_i32_1351 c1_i32_1352 k0_t5
  let v1566 : Index := Scalar.indexCast arg24
  let c0_1358 : Index := 0#32
  ![v1566.toNat, 0]
def k0_off15 (k0_t5 : Fin k0_t5_loop.trips) (c0_i32_1359 : BitVec 32) : Fin 3 → Nat :=
  let c0_i32_1351 : BitVec 32 := 0#32
  let c1_i32_1352 : BitVec 32 := 1#32
  let arg24 : BitVec 32 := Scf.iv c0_i32_1351 c1_i32_1352 k0_t5
  let v1572 : BitVec 32 := Scalar.addi c0_i32_1359 arg24
  let v1573 : Index := Scalar.indexCast v1572
  let c0_1360 : Index := 0#32
  let c0_1361 : Index := 0#32
  ![v1573.toNat, 0, 0]
@[reducible] def k0_t6_loop : Scf.Loop 32 :=
  let c0_i32_1354 : BitVec 32 := 0#32
  let c16_i32_1355 : BitVec 32 := 16#32
  let v1565 : BitVec 32 := Scalar.addi c0_i32_1354 c16_i32_1355
  let c1_i32_1356 : BitVec 32 := 1#32
  ⟨c0_i32_1354, v1565, c1_i32_1356⟩
def k0_off16 (k0_t6 : Fin k0_t6_loop.trips) (c0_i32_1358 : BitVec 32) : Fin 2 → Nat :=
  let c0_i32_1354 : BitVec 32 := 0#32
  let c1_i32_1356 : BitVec 32 := 1#32
  let arg24 : BitVec 32 := Scf.iv c0_i32_1354 c1_i32_1356 k0_t6
  let v1566 : BitVec 32 := Scalar.addi c0_i32_1358 arg24
  let v1567 : Index := Scalar.indexCast v1566
  let c0_1359 : Index := 0#32
  ![v1567.toNat, 0]
def k0_off17 (k0_t6 : Fin k0_t6_loop.trips) : Fin 3 → Nat :=
  let c2_i32 : BitVec 32 := 2#32
  let c0_i32_1354 : BitVec 32 := 0#32
  let c1_i32_1356 : BitVec 32 := 1#32
  let arg24 : BitVec 32 := Scf.iv c0_i32_1354 c1_i32_1356 k0_t6
  let v1580 : BitVec 32 := Scalar.muli c2_i32 arg24
  let v1581 : Index := Scalar.indexCast v1580
  let c0_1361 : Index := 0#32
  let c0_1362 : Index := 0#32
  ![v1581.toNat, 0, 0]
def k0_off18 (k0_t6 : Fin k0_t6_loop.trips) : Fin 3 → Nat :=
  let c2_i32_1363 : BitVec 32 := 2#32
  let c0_i32_1354 : BitVec 32 := 0#32
  let c1_i32_1356 : BitVec 32 := 1#32
  let arg24 : BitVec 32 := Scf.iv c0_i32_1354 c1_i32_1356 k0_t6
  let v1586 : BitVec 32 := Scalar.muli c2_i32_1363 arg24
  let c1_i32_1364 : BitVec 32 := 1#32
  let v1587 : BitVec 32 := Scalar.addi v1586 c1_i32_1364
  let v1588 : Index := Scalar.indexCast v1587
  let c0_1365 : Index := 0#32
  let c0_1366 : Index := 0#32
  ![v1588.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x96x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x96x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x64x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x64x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x64x2048 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S96x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S96x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x96x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x96x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x64x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x64x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
abbrev S32x768x96 : Shape := ⟨3, ![32, 768, 96]⟩
abbrev S768 : Shape := ⟨1, ![768]⟩
abbrev S768x96x64 : Shape := ⟨3, ![768, 96, 64]⟩
abbrev S32x2048x64 : Shape := ⟨3, ![32, 2048, 64]⟩
abbrev S_ : Shape := ⟨0, ![]⟩
abbrev S2x768x2048 : Shape := ⟨3, ![2, 768, 2048]⟩
abbrev S32x96x768 : Shape := ⟨3, ![32, 96, 768]⟩
abbrev S96x64x768 : Shape := ⟨3, ![96, 64, 768]⟩
abbrev S32x64x2048 : Shape := ⟨3, ![32, 64, 2048]⟩
abbrev S2x2048x768 : Shape := ⟨3, ![2, 2048, 768]⟩
abbrev S2x2048x6x128 : Shape := ⟨4, ![2, 2048, 6, 128]⟩
abbrev S6x2x2048x128 : Shape := ⟨4, ![6, 2, 2048, 128]⟩
abbrev S1 : Shape := ⟨1, ![1]⟩
abbrev S32x64x768 : Shape := ⟨3, ![32, 64, 768]⟩
abbrev S32x96x128 : Shape := ⟨3, ![32, 96, 128]⟩
abbrev S96x64x128 : Shape := ⟨3, ![96, 64, 128]⟩
abbrev S1x2x2048x128 : Shape := ⟨4, ![1, 2, 2048, 128]⟩
abbrev S32x64x128 : Shape := ⟨3, ![32, 64, 128]⟩
abbrev S2x896x128 : Shape := ⟨3, ![2, 896, 128]⟩
abbrev S2x1920x128 : Shape := ⟨3, ![2, 1920, 128]⟩
abbrev S1536x128 : Shape := ⟨2, ![1536, 128]⟩
abbrev S4608x128 : Shape := ⟨2, ![4608, 128]⟩
abbrev S4608x2x128 : Shape := ⟨3, ![4608, 2, 128]⟩
abbrev S4608x1x128 : Shape := ⟨3, ![4608, 1, 128]⟩
abbrev S6656x128 : Shape := ⟨2, ![6656, 128]⟩
abbrev S1x128 : Shape := ⟨2, ![1, 128]⟩
abbrev S128 : Shape := ⟨1, ![128]⟩
abbrev S1x1x2048x128 : Shape := ⟨4, ![1, 1, 2048, 128]⟩
abbrev S2048x128 : Shape := ⟨2, ![2048, 128]⟩
abbrev S2048x256 : Shape := ⟨2, ![2048, 256]⟩
abbrev S4x64x2048 : Shape := ⟨3, ![4, 64, 2048]⟩
abbrev S256x2048 : Shape := ⟨2, ![256, 2048]⟩
abbrev S256x256 : Shape := ⟨2, ![256, 256]⟩
abbrev S256x128 : Shape := ⟨2, ![256, 128]⟩
abbrev S4x64x128 : Shape := ⟨3, ![4, 64, 128]⟩
abbrev S1x64x128 : Shape := ⟨3, ![1, 64, 128]⟩
abbrev S64x128 : Shape := ⟨2, ![64, 128]⟩
abbrev S128x128 : Shape := ⟨2, ![128, 128]⟩
abbrev S128x2x128 : Shape := ⟨3, ![128, 2, 128]⟩
abbrev S128x1x128 : Shape := ⟨3, ![128, 1, 128]⟩
abbrev S1x96x128 : Shape := ⟨3, ![1, 96, 128]⟩
abbrev S96x128 : Shape := ⟨2, ![96, 128]⟩
abbrev S24x128 : Shape := ⟨2, ![24, 128]⟩
abbrev S1x24x128 : Shape := ⟨3, ![1, 24, 128]⟩
abbrev S16x128 : Shape := ⟨2, ![16, 128]⟩
abbrev S1x16x128 : Shape := ⟨3, ![1, 16, 128]⟩
abbrev S1x896x128 : Shape := ⟨3, ![1, 896, 128]⟩
abbrev S896x128 : Shape := ⟨2, ![896, 128]⟩
abbrev S32x128 : Shape := ⟨2, ![32, 128]⟩
abbrev S1x1920x128 : Shape := ⟨3, ![1, 1920, 128]⟩
abbrev S1920x128 : Shape := ⟨2, ![1920, 128]⟩
abbrev S32x2x128 : Shape := ⟨3, ![32, 2, 128]⟩
abbrev S32x1x128 : Shape := ⟨3, ![32, 1, 128]⟩
abbrev S64x256 : Shape := ⟨2, ![64, 256]⟩
abbrev S128x256 : Shape := ⟨2, ![128, 256]⟩
abbrev S48x128 : Shape := ⟨2, ![48, 128]⟩
abbrev S48x256 : Shape := ⟨2, ![48, 256]⟩
abbrev S32x768x64 : Shape := ⟨3, ![32, 768, 64]⟩

abbrev nBuf : Space → Nat
  | .hbm => 30
  | .vmem => 32
  | .smem => 2
  | _ => 0

abbrev bufTy : (tb : Table) → Fin (tcTables nBuf tb) → BufTy
  | .hbm, ⟨0, _⟩ => ⟨S32x768x96, .i8⟩
  | .hbm, ⟨1, _⟩ => ⟨S32x768x96, .i8⟩
  | .hbm, ⟨2, _⟩ => ⟨S768, .f32⟩
  | .hbm, ⟨3, _⟩ => ⟨S768x96x64, .i8⟩
  | .hbm, ⟨4, _⟩ => ⟨S768x96x64, .i8⟩
  | .hbm, ⟨5, _⟩ => ⟨S768, .f32⟩
  | .hbm, ⟨6, _⟩ => ⟨S32x2048x64, .fp8e5m2⟩
  | .hbm, ⟨7, _⟩ => ⟨S_, .f32⟩
  | .hbm, ⟨8, _⟩ => ⟨S2x768x2048, .bf16⟩
  | .hbm, ⟨9, _⟩ => ⟨S32x96x768, .i8⟩
  | .hbm, ⟨10, _⟩ => ⟨S32x96x768, .i8⟩
  | .hbm, ⟨11, _⟩ => ⟨S96x64x768, .i8⟩
  | .hbm, ⟨12, _⟩ => ⟨S96x64x768, .i8⟩
  | .hbm, ⟨13, _⟩ => ⟨S32x64x2048, .fp8e5m2⟩
  | .hbm, ⟨14, _⟩ => ⟨S2x2048x768, .bf16⟩
  | .hbm, ⟨15, _⟩ => ⟨S2x2048x6x128, .bf16⟩
  | .hbm, ⟨16, _⟩ => ⟨S6x2x2048x128, .bf16⟩
  | .hbm, ⟨17, _⟩ => ⟨S1, .f32⟩
  | .hbm, ⟨18, _⟩ => ⟨S96x64x768, .f32⟩
  | .hbm, ⟨19, _⟩ => ⟨S96x64x768, .f32⟩
  | .hbm, ⟨20, _⟩ => ⟨S32x96x768, .bf16⟩
  | .hbm, ⟨21, _⟩ => ⟨S32x96x768, .bf16⟩
  | .hbm, ⟨22, _⟩ => ⟨S32x64x768, .bf16⟩
  | .hbm, ⟨23, _⟩ => ⟨S32x64x768, .bf16⟩
  | .hbm, ⟨24, _⟩ => ⟨S768x96x64, .f32⟩
  | .hbm, ⟨25, _⟩ => ⟨S768x96x64, .f32⟩
  | .hbm, ⟨26, _⟩ => ⟨S32x768x96, .bf16⟩
  | .hbm, ⟨27, _⟩ => ⟨S32x768x96, .bf16⟩
  | .hbm, ⟨28, _⟩ => ⟨S32x768x64, .bf16⟩
  | .hbm, ⟨29, _⟩ => ⟨S32x768x64, .bf16⟩
  | .local _ .vmem, ⟨0, _⟩ => ⟨S768, .f32⟩
  | .local _ .vmem, ⟨1, _⟩ => ⟨S32x96x128, .i8⟩
  | .local _ .vmem, ⟨2, _⟩ => ⟨S32x96x128, .i8⟩
  | .local _ .vmem, ⟨3, _⟩ => ⟨S32x96x128, .i8⟩
  | .local _ .vmem, ⟨4, _⟩ => ⟨S32x96x128, .i8⟩
  | .local _ .vmem, ⟨5, _⟩ => ⟨S96x64x128, .i8⟩
  | .local _ .vmem, ⟨6, _⟩ => ⟨S96x64x128, .i8⟩
  | .local _ .vmem, ⟨7, _⟩ => ⟨S96x64x128, .i8⟩
  | .local _ .vmem, ⟨8, _⟩ => ⟨S96x64x128, .i8⟩
  | .local _ .vmem, ⟨9, _⟩ => ⟨S32x64x2048, .fp8e5m2⟩
  | .local _ .vmem, ⟨10, _⟩ => ⟨S1x2x2048x128, .bf16⟩
  | .local _ .vmem, ⟨11, _⟩ => ⟨S1x2x2048x128, .bf16⟩
  | .local _ .vmem, ⟨12, _⟩ => ⟨S96x64x128, .f32⟩
  | .local _ .vmem, ⟨13, _⟩ => ⟨S96x64x128, .f32⟩
  | .local _ .vmem, ⟨14, _⟩ => ⟨S96x64x128, .f32⟩
  | .local _ .vmem, ⟨15, _⟩ => ⟨S96x64x128, .f32⟩
  | .local _ .vmem, ⟨16, _⟩ => ⟨S32x96x128, .bf16⟩
  | .local _ .vmem, ⟨17, _⟩ => ⟨S32x96x128, .bf16⟩
  | .local _ .vmem, ⟨18, _⟩ => ⟨S32x96x128, .bf16⟩
  | .local _ .vmem, ⟨19, _⟩ => ⟨S32x96x128, .bf16⟩
  | .local _ .vmem, ⟨20, _⟩ => ⟨S32x64x128, .bf16⟩
  | .local _ .vmem, ⟨21, _⟩ => ⟨S32x64x128, .bf16⟩
  | .local _ .vmem, ⟨22, _⟩ => ⟨S32x64x128, .bf16⟩
  | .local _ .vmem, ⟨23, _⟩ => ⟨S32x64x128, .bf16⟩
  | .local _ .vmem, ⟨24, _⟩ => ⟨S2x896x128, .i32⟩
  | .local _ .vmem, ⟨25, _⟩ => ⟨S2x1920x128, .i32⟩
  | .local _ .vmem, ⟨26, _⟩ => ⟨S1536x128, .i32⟩
  | .local _ .vmem, ⟨27, _⟩ => ⟨S4608x2x128, .bf16⟩
  | .local _ .vmem, ⟨28, _⟩ => ⟨S4608x128, .i32⟩
  | .local _ .vmem, ⟨29, _⟩ => ⟨S6656x128, .f32⟩
  | .local _ .vmem, ⟨30, _⟩ => ⟨S6656x128, .f32⟩
  | .local _ .vmem, ⟨31, _⟩ => ⟨S4608x2x128, .bf16⟩
  | .local _ .smem, ⟨0, _⟩ => ⟨S768, .f32⟩
  | .local _ .smem, ⟨1, _⟩ => ⟨S1, .f32⟩
  | _, _ => ⟨S32x768x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![6], ![false]⟩

def k0_mult1 (i : grid0.Coords) : BitVec 32 :=
  let arg0 : BitVec 32 := BitVec.ofNat 32 (i 0).val
  let c128_i32_2 : BitVec 32 := 128#32
  let v14 : BitVec 32 := Scalar.muli arg0 c128_i32_2
  v14
def k0_off1 (i : grid0.Coords) : Fin 1 → Nat :=
  let arg0 : BitVec 32 := BitVec.ofNat 32 (i 0).val
  let c128_i32_2 : BitVec 32 := 128#32
  let v14 : BitVec 32 := Scalar.muli arg0 c128_i32_2
  let v15 : BitVec 32 := v14
  let v16 : Index := Scalar.indexCast v15
  ![v16.toNat]
@[reducible] def k0_t1_loop : Scf.Loop 32 :=
  let c0_i32_10 : BitVec 32 := 0#32
  let c8_i32 : BitVec 32 := 8#32
  let v24 : BitVec 32 := Scalar.addi c0_i32_10 c8_i32
  let c1_i32 : BitVec 32 := 1#32
  ⟨c0_i32_10, v24, c1_i32⟩
def k0_off2 (k0_t1 : Fin k0_t1_loop.trips) : Fin 3 → Nat :=
  let c0_i32_10 : BitVec 32 := 0#32
  let c1_i32 : BitVec 32 := 1#32
  let arg24 : BitVec 32 := Scf.iv c0_i32_10 c1_i32 k0_t1
  let c4_i32 : BitVec 32 := 4#32
  let v1566 : BitVec 32 := Scalar.muli arg24 c4_i32
  let v1567 : Index := Scalar.indexCast v1566
  let c0_1358 : Index := 0#32
  let c0_1359 : Index := 0#32
  ![v1567.toNat, 0, 0]
def k0_off3 (k0_t1 : Fin k0_t1_loop.trips) : Fin 3 → Nat :=
  let c0_i32_10 : BitVec 32 := 0#32
  let c1_i32 : BitVec 32 := 1#32
  let arg24 : BitVec 32 := Scf.iv c0_i32_10 c1_i32 k0_t1
  let c4_i32_1361 : BitVec 32 := 4#32
  let v1582 : BitVec 32 := Scalar.muli arg24 c4_i32_1361
  let v1583 : Index := Scalar.indexCast v1582
  let c0_1362 : Index := 0#32
  let c0_1363 : Index := 0#32
  ![v1583.toNat, 0, 0]
def k0_off4 (k0_t1 : Fin k0_t1_loop.trips) (c0_i32_1367 : BitVec 32) : Fin 3 → Nat :=
  let c0_i32_10 : BitVec 32 := 0#32
  let c1_i32 : BitVec 32 := 1#32
  let arg24 : BitVec 32 := Scf.iv c0_i32_10 c1_i32 k0_t1
  let c2_i32 : BitVec 32 := 2#32
  let v1589 : BitVec 32 := Scalar.muli arg24 c2_i32
  let v1590 : BitVec 32 := Scalar.addi v1589 c0_i32_1367
  let v1621 : Index := Scalar.indexCast v1590
  let c0_1370 : Index := 0#32
  ![v1621.toNat, 0, 0]
def k0_off5 (k0_t1 : Fin k0_t1_loop.trips) (c0_i32_1367 : BitVec 32) : Fin 3 → Nat :=
  let c16_i32_1371 : BitVec 32 := 16#32
  let c0_i32_10 : BitVec 32 := 0#32
  let c1_i32 : BitVec 32 := 1#32
  let arg24 : BitVec 32 := Scf.iv c0_i32_10 c1_i32 k0_t1
  let c2_i32 : BitVec 32 := 2#32
  let v1589 : BitVec 32 := Scalar.muli arg24 c2_i32
  let v1590 : BitVec 32 := Scalar.addi v1589 c0_i32_1367
  let v1625 : BitVec 32 := Scalar.addi c16_i32_1371 v1590
  let v1626 : Index := Scalar.indexCast v1625
  let c0_1372 : Index := 0#32
  ![v1626.toNat, 0, 0]
@[reducible] def k0_t2_loop : Scf.Loop 32 :=
  let c0_i32_1341 : BitVec 32 := 0#32
  let c12_i32 : BitVec 32 := 12#32
  let v1561 : BitVec 32 := Scalar.addi c0_i32_1341 c12_i32
  let c1_i32_1342 : BitVec 32 := 1#32
  ⟨c0_i32_1341, v1561, c1_i32_1342⟩
def k0_off6 (k0_t2 : Fin k0_t2_loop.trips) (c0_i32_1358 : BitVec 32) : Fin 2 → Nat :=
  let c0_i32_1341 : BitVec 32 := 0#32
  let c1_i32_1342 : BitVec 32 := 1#32
  let arg24 : BitVec 32 := Scf.iv c0_i32_1341 c1_i32_1342 k0_t2
  let v1566 : BitVec 32 := Scalar.addi arg24 c0_i32_1358
  let v1569 : Index := Scalar.indexCast v1566
  let c0_1362 : Index := 0#32
  ![v1569.toNat, 0]
def k0_off7 (k0_t2 : Fin k0_t2_loop.trips) : Fin 2 → Nat :=
  let c0_i32_1341 : BitVec 32 := 0#32
  let c1_i32_1342 : BitVec 32 := 1#32
  let arg24 : BitVec 32 := Scf.iv c0_i32_1341 c1_i32_1342 k0_t2
  let v1588 : Index := Scalar.indexCast arg24
  let c0_1378 : Index := 0#32
  ![v1588.toNat, 0]
@[reducible] def k0_t3_loop : Scf.Loop 32 :=
  let c0_i32_1344 : BitVec 32 := 0#32
  let c16_i32 : BitVec 32 := 16#32
  let v1562 : BitVec 32 := Scalar.addi c0_i32_1344 c16_i32
  let c1_i32_1345 : BitVec 32 := 1#32
  ⟨c0_i32_1344, v1562, c1_i32_1345⟩
def k0_off8 (k0_t3 : Fin k0_t3_loop.trips) : Fin 2 → Nat :=
  let c0_i32_1344 : BitVec 32 := 0#32
  let c1_i32_1345 : BitVec 32 := 1#32
  let arg24 : BitVec 32 := Scf.iv c0_i32_1344 c1_i32_1345 k0_t3
  let v1568 : Index := Scalar.indexCast arg24
  let c0_1361 : Index := 0#32
  ![v1568.toNat, 0]
def k0_off9 (k0_t3 : Fin k0_t3_loop.trips) (c0_i32_1363 : BitVec 32) : Fin 2 → Nat :=
  let c0_i32_1344 : BitVec 32 := 0#32
  let c1_i32_1345 : BitVec 32 := 1#32
  let arg24 : BitVec 32 := Scf.iv c0_i32_1344 c1_i32_1345 k0_t3
  let v1573 : BitVec 32 := Scalar.addi c0_i32_1363 arg24
  let v1574 : Index := Scalar.indexCast v1573
  let c0_1364 : Index := 0#32
  ![v1574.toNat, 0]
@[reducible] def k0_t4_loop : Scf.Loop 32 :=
  let c0_i32_1347 : BitVec 32 := 0#32
  let c16_i32_1348 : BitVec 32 := 16#32
  let v1563 : BitVec 32 := Scalar.addi c0_i32_1347 c16_i32_1348
  let c1_i32_1349 : BitVec 32 := 1#32
  ⟨c0_i32_1347, v1563, c1_i32_1349⟩
def k0_mult2 (k0_t4 : Fin k0_t4_loop.trips) : BitVec 32 :=
  let c0_i32_1347 : BitVec 32 := 0#32
  let c1_i32_1349 : BitVec 32 := 1#32
  let arg24 : BitVec 32 := Scf.iv c0_i32_1347 c1_i32_1349 k0_t4
  let c8_i32_1358 : BitVec 32 := 8#32
  let v1566 : BitVec 32 := Scalar.muli arg24 c8_i32_1358
  let c0_i32_1359 : BitVec 32 := 0#32
  let v1567 : BitVec 32 := Scalar.addi v1566 c0_i32_1359
  let c12_i32_1360 : BitVec 32 := 12#32
  let v1568 : BitVec 32 := Scalar.muli v1567 c12_i32_1360
  v1568
def k0_off10 (k0_t4 : Fin k0_t4_loop.trips) (c0_i32_1359 : BitVec 32) : Fin 2 → Nat :=
  let c0_i32_1347 : BitVec 32 := 0#32
  let c1_i32_1349 : BitVec 32 := 1#32
  let arg24 : BitVec 32 := Scf.iv c0_i32_1347 c1_i32_1349 k0_t4
  let c8_i32_1358 : BitVec 32 := 8#32
  let v1566 : BitVec 32 := Scalar.muli arg24 c8_i32_1358
  let v1567 : BitVec 32 := Scalar.addi v1566 c0_i32_1359
  let c12_i32_1360 : BitVec 32 := 12#32
  let v1568 : BitVec 32 := Scalar.muli v1567 c12_i32_1360
  let v1569 : BitVec 32 := v1568
  let v1570 : Index := Scalar.indexCast v1569
  let c0_1361 : Index := 0#32
  ![v1570.toNat, 0]
def k0_off11 (k0_t4 : Fin k0_t4_loop.trips) (c0_i32_1359 : BitVec 32) (c0_i32_1362 : BitVec 32) : Fin 3 → Nat :=
  let c0_i32_1347 : BitVec 32 := 0#32
  let c1_i32_1349 : BitVec 32 := 1#32
  let arg24 : BitVec 32 := Scf.iv c0_i32_1347 c1_i32_1349 k0_t4
  let c8_i32_1358 : BitVec 32 := 8#32
  let v1566 : BitVec 32 := Scalar.muli arg24 c8_i32_1358
  let v1567 : BitVec 32 := Scalar.addi v1566 c0_i32_1359
  let v1574 : BitVec 32 := Scalar.addi v1567 c0_i32_1362
  let c36_i32 : BitVec 32 := 36#32
  let v1575 : BitVec 32 := Scalar.muli v1574 c36_i32
  let v1576 : Index := Scalar.indexCast v1575
  let c0_1363 : Index := 0#32
  ![v1576.toNat, 0, 0]
def k0_off12 (k0_t4 : Fin k0_t4_loop.trips) (c0_i32_1359 : BitVec 32) (c0_i32_1362 : BitVec 32) : Fin 2 → Nat :=
  let c0_i32_1347 : BitVec 32 := 0#32
  let c1_i32_1349 : BitVec 32 := 1#32
  let arg24 : BitVec 32 := Scf.iv c0_i32_1347 c1_i32_1349 k0_t4
  let c8_i32_1358 : BitVec 32 := 8#32
  let v1566 : BitVec 32 := Scalar.muli arg24 c8_i32_1358
  let v1567 : BitVec 32 := Scalar.addi v1566 c0_i32_1359
  let v1574 : BitVec 32 := Scalar.addi v1567 c0_i32_1362
  let c52_i32 : BitVec 32 := 52#32
  let v1586 : BitVec 32 := Scalar.muli v1574 c52_i32
  let v1587 : Index := Scalar.indexCast v1586
  let c0_1366 : Index := 0#32
  ![v1587.toNat, 0]
def k0_off13 (k0_t4 : Fin k0_t4_loop.trips) (c0_i32_1359 : BitVec 32) (c0_i32_1362 : BitVec 32) : Fin 2 → Nat :=
  let c0_i32_1347 : BitVec 32 := 0#32
  let c1_i32_1349 : BitVec 32 := 1#32
  let arg24 : BitVec 32 := Scf.iv c0_i32_1347 c1_i32_1349 k0_t4
  let c8_i32_1358 : BitVec 32 := 8#32
  let v1566 : BitVec 32 := Scalar.muli arg24 c8_i32_1358
  let v1567 : BitVec 32 := Scalar.addi v1566 c0_i32_1359
  let v1574 : BitVec 32 := Scalar.addi v1567 c0_i32_1362
  let c36_i32_1369 : BitVec 32 := 36#32
  let v1597 : BitVec 32 := Scalar.muli v1574 c36_i32_1369
  let v1598 : Index := Scalar.indexCast v1597
  let c0_1370 : Index := 0#32
  ![v1598.toNat, 0]
def k0_off14 (i : grid0.Coords) (k0_t4 : Fin k0_t4_loop.trips) (c0_i32_1359 : BitVec 32) (c0_i32_1362 : BitVec 32) : Fin 1 → Nat :=
  let arg0 : BitVec 32 := BitVec.ofNat 32 (i 0).val
  let c128_i32_1372 : BitVec 32 := 128#32
  let v1603 : BitVec 32 := Scalar.muli arg0 c128_i32_1372
  let c0_i32_1347 : BitVec 32 := 0#32
  let c1_i32_1349 : BitVec 32 := 1#32
  let arg24 : BitVec 32 := Scf.iv c0_i32_1347 c1_i32_1349 k0_t4
  let c8_i32_1358 : BitVec 32 := 8#32
  let v1566 : BitVec 32 := Scalar.muli arg24 c8_i32_1358
  let v1567 : BitVec 32 := Scalar.addi v1566 c0_i32_1359
  let v1574 : BitVec 32 := Scalar.addi v1567 c0_i32_1362
  let v1604 : BitVec 32 := Scalar.addi v1603 v1574
  let v1605 : Index := Scalar.indexCast v1604
  ![v1605.toNat]
def k0_mult3 (k0_t4 : Fin k0_t4_loop.trips) : BitVec 32 :=
  let c0_i32_1347 : BitVec 32 := 0#32
  let c1_i32_1349 : BitVec 32 := 1#32
  let arg24 : BitVec 32 := Scf.iv c0_i32_1347 c1_i32_1349 k0_t4
  let c8_i32_1390 : BitVec 32 := 8#32
  let v1658 : BitVec 32 := Scalar.muli arg24 c8_i32_1390
  let c2_i32 : BitVec 32 := 2#32
  let v1659 : BitVec 32 := Scalar.addi v1658 c2_i32
  let c12_i32_1391 : BitVec 32 := 12#32
  let v1660 : BitVec 32 := Scalar.muli v1659 c12_i32_1391
  v1660
def k0_mult4 (k0_t4 : Fin k0_t4_loop.trips) : BitVec 32 :=
  let c0_i32_1347 : BitVec 32 := 0#32
  let c1_i32_1349 : BitVec 32 := 1#32
  let arg24 : BitVec 32 := Scf.iv c0_i32_1347 c1_i32_1349 k0_t4
  let c8_i32_1423 : BitVec 32 := 8#32
  let v1750 : BitVec 32 := Scalar.muli arg24 c8_i32_1423
  let c4_i32 : BitVec 32 := 4#32
  let v1751 : BitVec 32 := Scalar.addi v1750 c4_i32
  let c12_i32_1424 : BitVec 32 := 12#32
  let v1752 : BitVec 32 := Scalar.muli v1751 c12_i32_1424
  v1752
def k0_mult5 (k0_t4 : Fin k0_t4_loop.trips) : BitVec 32 :=
  let c0_i32_1347 : BitVec 32 := 0#32
  let c1_i32_1349 : BitVec 32 := 1#32
  let arg24 : BitVec 32 := Scf.iv c0_i32_1347 c1_i32_1349 k0_t4
  let c8_i32_1456 : BitVec 32 := 8#32
  let v1842 : BitVec 32 := Scalar.muli arg24 c8_i32_1456
  let c6_i32 : BitVec 32 := 6#32
  let v1843 : BitVec 32 := Scalar.addi v1842 c6_i32
  let c12_i32_1457 : BitVec 32 := 12#32
  let v1844 : BitVec 32 := Scalar.muli v1843 c12_i32_1457
  v1844
@[reducible] def k0_t5_loop : Scf.Loop 32 :=
  let c0_i32_1351 : BitVec 32 := 0#32
  let c48_i32 : BitVec 32 := 48#32
  let v1564 : BitVec 32 := Scalar.addi c0_i32_1351 c48_i32
  let c1_i32_1352 : BitVec 32 := 1#32
  ⟨c0_i32_1351, v1564, c1_i32_1352⟩
def k0_off15 (k0_t5 : Fin k0_t5_loop.trips) : Fin 2 → Nat :=
  let c0_i32_1351 : BitVec 32 := 0#32
  let c1_i32_1352 : BitVec 32 := 1#32
  let arg24 : BitVec 32 := Scf.iv c0_i32_1351 c1_i32_1352 k0_t5
  let v1566 : Index := Scalar.indexCast arg24
  let c0_1358 : Index := 0#32
  ![v1566.toNat, 0]
def k0_off16 (k0_t5 : Fin k0_t5_loop.trips) (c0_i32_1359 : BitVec 32) : Fin 3 → Nat :=
  let c0_i32_1351 : BitVec 32 := 0#32
  let c1_i32_1352 : BitVec 32 := 1#32
  let arg24 : BitVec 32 := Scf.iv c0_i32_1351 c1_i32_1352 k0_t5
  let v1572 : BitVec 32 := Scalar.addi c0_i32_1359 arg24
  let v1573 : Index := Scalar.indexCast v1572
  let c0_1360 : Index := 0#32
  let c0_1361 : Index := 0#32
  ![v1573.toNat, 0, 0]
@[reducible] def k0_t6_loop : Scf.Loop 32 :=
  let c0_i32_1354 : BitVec 32 := 0#32
  let c16_i32_1355 : BitVec 32 := 16#32
  let v1565 : BitVec 32 := Scalar.addi c0_i32_1354 c16_i32_1355
  let c1_i32_1356 : BitVec 32 := 1#32
  ⟨c0_i32_1354, v1565, c1_i32_1356⟩
def k0_off17 (k0_t6 : Fin k0_t6_loop.trips) (c0_i32_1358 : BitVec 32) : Fin 3 → Nat :=
  let c0_i32_1354 : BitVec 32 := 0#32
  let c1_i32_1356 : BitVec 32 := 1#32
  let arg24 : BitVec 32 := Scf.iv c0_i32_1354 c1_i32_1356 k0_t6
  let v1566 : BitVec 32 := Scalar.addi c0_i32_1358 arg24
  let v1567 : Index := Scalar.indexCast v1566
  let c0_1359 : Index := 0#32
  ![v1567.toNat, 0, 0]
def k0_off18 (k0_t6 : Fin k0_t6_loop.trips) : Fin 3 → Nat :=
  let c2_i32 : BitVec 32 := 2#32
  let c0_i32_1354 : BitVec 32 := 0#32
  let c1_i32_1356 : BitVec 32 := 1#32
  let arg24 : BitVec 32 := Scf.iv c0_i32_1354 c1_i32_1356 k0_t6
  let v1580 : BitVec 32 := Scalar.muli c2_i32 arg24
  let v1581 : Index := Scalar.indexCast v1580
  let c0_1361 : Index := 0#32
  let c0_1362 : Index := 0#32
  ![v1581.toNat, 0, 0]
def k0_off19 (k0_t6 : Fin k0_t6_loop.trips) : Fin 3 → Nat :=
  let c2_i32_1363 : BitVec 32 := 2#32
  let c0_i32_1354 : BitVec 32 := 0#32
  let c1_i32_1356 : BitVec 32 := 1#32
  let arg24 : BitVec 32 := Scf.iv c0_i32_1354 c1_i32_1356 k0_t6
  let v1586 : BitVec 32 := Scalar.muli c2_i32_1363 arg24
  let c1_i32_1364 : BitVec 32 := 1#32
  let v1587 : BitVec 32 := Scalar.addi v1586 c1_i32_1364
  let v1588 : Index := Scalar.indexCast v1587
  let c0_1365 : Index := 0#32
  let c0_1366 : Index := 0#32
  ![v1588.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x96x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x96x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x64x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x64x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x64x2048 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S96x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S96x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x96x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x96x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x64x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x64x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S32x768x96 : Shape := ⟨3, ![32, 768, 96]⟩
abbrev S768 : Shape := ⟨1, ![768]⟩
abbrev S768x96x64 : Shape := ⟨3, ![768, 96, 64]⟩
abbrev S32x2048x64 : Shape := ⟨3, ![32, 2048, 64]⟩
abbrev S_ : Shape := ⟨0, ![]⟩
abbrev S2x768x2048 : Shape := ⟨3, ![2, 768, 2048]⟩
abbrev S2x768x32x64 : Shape := ⟨4, ![2, 768, 32, 64]⟩
abbrev S1x768x1x1 : Shape := ⟨4, ![1, 768, 1, 1]⟩
abbrev S1x768x32x64 : Shape := ⟨4, ![1, 768, 32, 64]⟩
abbrev S768x32x64 : Shape := ⟨3, ![768, 32, 64]⟩
abbrev S32x768x64 : Shape := ⟨3, ![32, 768, 64]⟩
abbrev S768x2x32x64 : Shape := ⟨4, ![768, 2, 32, 64]⟩
abbrev S768x1x32x64 : Shape := ⟨4, ![768, 1, 32, 64]⟩
abbrev S1x32x768x96 : Shape := ⟨4, ![1, 32, 768, 96]⟩
abbrev S2x32x768x96 : Shape := ⟨4, ![2, 32, 768, 96]⟩
abbrev S768x1x2x32x64 : Shape := ⟨5, ![768, 1, 2, 32, 64]⟩
abbrev S768x2x2x32x64 : Shape := ⟨5, ![768, 2, 2, 32, 64]⟩
abbrev S768x96x2x64 : Shape := ⟨4, ![768, 96, 2, 64]⟩
abbrev S768x1x1x1 : Shape := ⟨4, ![768, 1, 1, 1]⟩
abbrev S768x96x1x64 : Shape := ⟨4, ![768, 96, 1, 64]⟩
abbrev S768x96x2x32 : Shape := ⟨4, ![768, 96, 2, 32]⟩
abbrev S1x1x768x1 : Shape := ⟨4, ![1, 1, 768, 1]⟩

abbrev nBuf : Space → Nat
  | .hbm => 75
  | .vmem => 10
  | .smem => 0
  | _ => 0

abbrev bufTy : (tb : Table) → Fin (tcTables nBuf tb) → BufTy
  | .hbm, ⟨0, _⟩ => ⟨S32x768x96, .i8⟩
  | .hbm, ⟨1, _⟩ => ⟨S32x768x96, .i8⟩
  | .hbm, ⟨2, _⟩ => ⟨S768, .f32⟩
  | .hbm, ⟨3, _⟩ => ⟨S768x96x64, .i8⟩
  | .hbm, ⟨4, _⟩ => ⟨S768x96x64, .i8⟩
  | .hbm, ⟨5, _⟩ => ⟨S768, .f32⟩
  | .hbm, ⟨6, _⟩ => ⟨S32x2048x64, .fp8e5m2⟩
  | .hbm, ⟨7, _⟩ => ⟨S_, .f32⟩
  | .hbm, ⟨8, _⟩ => ⟨S2x768x2048, .bf16⟩
  | .hbm, ⟨9, _⟩ => ⟨S32x768x96, .bf16⟩
  | .hbm, ⟨10, _⟩ => ⟨S32x768x96, .bf16⟩
  | .hbm, ⟨11, _⟩ => ⟨S768x96x64, .bf16⟩
  | .hbm, ⟨12, _⟩ => ⟨S768x96x64, .bf16⟩
  | .hbm, ⟨13, _⟩ => ⟨S32x2048x64, .bf16⟩
  | .hbm, ⟨14, _⟩ => ⟨S2x768x32x64, .f32⟩
  | .hbm, ⟨15, _⟩ => ⟨S768, .i32⟩
  | .hbm, ⟨16, _⟩ => ⟨S_, .i32⟩
  | .hbm, ⟨17, _⟩ => ⟨S768, .i32⟩
  | .hbm, ⟨18, _⟩ => ⟨S768, .i1⟩
  | .hbm, ⟨19, _⟩ => ⟨S_, .f32⟩
  | .hbm, ⟨20, _⟩ => ⟨S_, .f32⟩
  | .hbm, ⟨21, _⟩ => ⟨S768, .f32⟩
  | .hbm, ⟨22, _⟩ => ⟨S768, .f32⟩
  | .hbm, ⟨23, _⟩ => ⟨S768, .f32⟩
  | .hbm, ⟨24, _⟩ => ⟨S_, .f32⟩
  | .hbm, ⟨25, _⟩ => ⟨S768, .f32⟩
  | .hbm, ⟨26, _⟩ => ⟨S768, .f32⟩
  | .hbm, ⟨27, _⟩ => ⟨S768, .f32⟩
  | .hbm, ⟨28, _⟩ => ⟨S768, .f32⟩
  | .hbm, ⟨29, _⟩ => ⟨S1x768x1x1, .f32⟩
  | .hbm, ⟨30, _⟩ => ⟨S2x768x32x64, .f32⟩
  | .hbm, ⟨31, _⟩ => ⟨S2x768x32x64, .f32⟩
  | .hbm, ⟨32, _⟩ => ⟨S2x768x32x64, .bf16⟩
  | .hbm, ⟨33, _⟩ => ⟨S1x768x32x64, .bf16⟩
  | .hbm, ⟨34, _⟩ => ⟨S768x32x64, .bf16⟩
  | .hbm, ⟨35, _⟩ => ⟨S32x768x64, .bf16⟩
  | .hbm, ⟨36, _⟩ => ⟨S1x768x32x64, .bf16⟩
  | .hbm, ⟨37, _⟩ => ⟨S768x32x64, .bf16⟩
  | .hbm, ⟨38, _⟩ => ⟨S32x768x64, .bf16⟩
  | .hbm, ⟨39, _⟩ => ⟨S768x2x32x64, .bf16⟩
  | .hbm, ⟨40, _⟩ => ⟨S1x768x32x64, .bf16⟩
  | .hbm, ⟨41, _⟩ => ⟨S768x32x64, .bf16⟩
  | .hbm, ⟨42, _⟩ => ⟨S1x768x32x64, .bf16⟩
  | .hbm, ⟨43, _⟩ => ⟨S768x32x64, .bf16⟩
  | .hbm, ⟨44, _⟩ => ⟨S768x32x64, .bf16⟩
  | .hbm, ⟨45, _⟩ => ⟨S768x1x32x64, .bf16⟩
  | .hbm, ⟨46, _⟩ => ⟨S768x1x32x64, .bf16⟩
  | .hbm, ⟨47, _⟩ => ⟨S768x2x32x64, .bf16⟩
  | .hbm, ⟨48, _⟩ => ⟨S1x32x768x96, .bf16⟩
  | .hbm, ⟨49, _⟩ => ⟨S1x32x768x96, .bf16⟩
  | .hbm, ⟨50, _⟩ => ⟨S2x32x768x96, .bf16⟩
  | .hbm, ⟨51, _⟩ => ⟨S768x1x2x32x64, .bf16⟩
  | .hbm, ⟨52, _⟩ => ⟨S768x1x2x32x64, .bf16⟩
  | .hbm, ⟨53, _⟩ => ⟨S768x2x2x32x64, .bf16⟩
  | .hbm, ⟨54, _⟩ => ⟨S768x96x2x64, .f32⟩
  | .hbm, ⟨55, _⟩ => ⟨S768x1x1x1, .f32⟩
  | .hbm, ⟨56, _⟩ => ⟨S768x96x2x64, .f32⟩
  | .hbm, ⟨57, _⟩ => ⟨S768x96x2x64, .f32⟩
  | .hbm, ⟨58, _⟩ => ⟨S768x96x1x64, .f32⟩
  | .hbm, ⟨59, _⟩ => ⟨S768x96x64, .f32⟩
  | .hbm, ⟨60, _⟩ => ⟨S768x96x1x64, .f32⟩
  | .hbm, ⟨61, _⟩ => ⟨S768x96x64, .f32⟩
  | .hbm, ⟨62, _⟩ => ⟨S768x96x2x32, .f32⟩
  | .hbm, ⟨63, _⟩ => ⟨S2x32x768x96, .f32⟩
  | .hbm, ⟨64, _⟩ => ⟨S768x96x2x32, .f32⟩
  | .hbm, ⟨65, _⟩ => ⟨S2x32x768x96, .f32⟩
  | .hbm, ⟨66, _⟩ => ⟨S2x32x768x96, .f32⟩
  | .hbm, ⟨67, _⟩ => ⟨S1x1x768x1, .f32⟩
  | .hbm, ⟨68, _⟩ => ⟨S2x32x768x96, .f32⟩
  | .hbm, ⟨69, _⟩ => ⟨S2x32x768x96, .f32⟩
  | .hbm, ⟨70, _⟩ => ⟨S2x32x768x96, .bf16⟩
  | .hbm, ⟨71, _⟩ => ⟨S1x32x768x96, .bf16⟩
  | .hbm, ⟨72, _⟩ => ⟨S32x768x96, .bf16⟩
  | .hbm, ⟨73, _⟩ => ⟨S1x32x768x96, .bf16⟩
  | .hbm, ⟨74, _⟩ => ⟨S32x768x96, .bf16⟩
  | .local _ .vmem, ⟨0, _⟩ => ⟨S32x768x96, .i8⟩
  | .local _ .vmem, ⟨1, _⟩ => ⟨S32x768x96, .i8⟩
  | .local _ .vmem, ⟨2, _⟩ => ⟨S768x96x64, .i8⟩
  | .local _ .vmem, ⟨3, _⟩ => ⟨S768x96x64, .i8⟩
  | .local _ .vmem, ⟨4, _⟩ => ⟨S32x2048x64, .fp8e5m2⟩
  | .local _ .vmem, ⟨5, _⟩ => ⟨S32x768x96, .bf16⟩
  | .local _ .vmem, ⟨6, _⟩ => ⟨S32x768x96, .bf16⟩
  | .local _ .vmem, ⟨7, _⟩ => ⟨S768x96x64, .bf16⟩
  | .local _ .vmem, ⟨8, _⟩ => ⟨S768x96x64, .bf16⟩
  | .local _ .vmem, ⟨9, _⟩ => ⟨S32x2048x64, .bf16⟩
  | _, _ => ⟨S32x768x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x768x96 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x768x96 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x96x64 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x96x64 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x2048x64 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x768x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x768x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x96x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x96x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x2048x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Own.lean ====
/-
  Loads and stores of a memref owned at known contents. A buffer is spoken of by its logical contents `X`
  (a function of the memref's own indices), never by the contents of the underlying buffer: a load gives the entries
  of `X` under the rectangle's coordinates and a store replaces them (`Rect.overlay`).
-/
module

public import Idealize.ShloMosaic.Lib.Tactic
public import Idealize.ShloMosaic.Lib.Memref
public import Idealize.ShloMosaic.Lib.MemrefSat
public import Idealize.ShloMosaic.Rules.Step

@[expose] public section

noncomputable section

namespace Cert.Proof.Own

open Idealize.ShloMosaic
open Idealize.SL
open Idealize.SL.BI (sProp)
open scoped Idealize.SL.BI
open Idealize.SL.BI.BIBase Idealize.SL.BI.Laws Idealize.SL.ProofMode
open Idealize.SL.RA Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

variable [Preorder Lvl] {defs : Defs nD τ sig Val Λ} (𝒱 : Variants) (c : Thread nD τ)
variable (bd : Option 𝒱.V) (E : Set Name)
variable {s s' : Shape} {e : EltTy} {α : Type} {Q : α → sProp (MT nD τ sig Ix Val Name U Lvl)}

/-- Storing through a rectangle of a memref that reads as `X` leaves it reading as `X` overlaid. -/
theorem read_write_overlay {sp : Space} (m : Memref sig c.2.kind sp s e) (r : Rect s) (w : r.shape.Idx → Val e)
    (f : m.view.ty.Contents Val) :
    m.view.read Val ((m.access r).write Val f w Finset.univ) = r.overlay (m.view.read Val f) w := by
  funext j
  by_cases hj : j ∈ r.set
  · obtain ⟨i, rfl⟩ := r.exists_idx_of_mem hj
    change m.view.read Val _ (r.emb i) = r.overlay _ w (r.emb i)
    rw [Rect.overlay_emb]
    exact congrFun (View.read_write_univ (v := m.access r) f w) i
  · rw [Rect.overlay_of_not_mem _ _ _ hj, View.read_apply, View.read_apply, View.write_of_not_mem]
    rw [View.setOn_univ, View.set_slice, Finset.mem_map' m.view.emb]; exact hj

/-- A load of a memref owned at contents that meet `Φ` reads those contents under the load's coordinates. -/
theorem wp_ld {cs : CoreSpace} {m : Memref sig c.2.kind cs s e} {r : LoadRect s} {hl : m.view.LoadsAt r}
    {k : (r.shape.Idx → Val e) → Prog (TpuEff nD τ sig Val Λ c.2) α} {q : PosShare TreeShare} {Φ : (s.Idx → Val e) → Prop} :
    (ownsSat c m q Φ : sProp 𝕄)
      ⊢ iprop((∀ X, ⌜Φ X⌝ -∗ ownsSat c m q Φ -∗ wp frame (wpE defs 𝒱 c bd) E (k (fun j => X (r.idx j))) Q)
        -∗ wp frame (wpE defs 𝒱 c bd) E (Prog.lift (.load m r hl) >>= k) Q) := by
  unfold ownsSat
  iintro ⟨%f, %hf, H⟩ HK
  iapply (wp_load 𝒱 c bd E (m := m) (r := r) (hl := hl) (k := k) (S := m.view.set) (View.setOn_subset_set _ _)) $$ H
  iintro H
  iapply HK $$ %(m.view.read Val f) %hf [H]
  iexists f; isplitr
  · ipureintro; exact hf
  · iexact H

/-- A load whose value is not looked at. -/
theorem wp_ld_any {cs : CoreSpace} {m : Memref sig c.2.kind cs s e} {r : LoadRect s} {hl : m.view.LoadsAt r}
    {k : (r.shape.Idx → Val e) → Prog (TpuEff nD τ sig Val Λ c.2) α} {q : PosShare TreeShare} {Φ : (s.Idx → Val e) → Prop} :
    (ownsSat c m q Φ : sProp 𝕄)
      ⊢ iprop((∀ x, ownsSat c m q Φ -∗ wp frame (wpE defs 𝒱 c bd) E (k x) Q)
        -∗ wp frame (wpE defs 𝒱 c bd) E (Prog.lift (.load m r hl) >>= k) Q) := by
  iintro H HK
  iapply (wp_ld 𝒱 c bd E) $$ H
  iintro %X %_ H
  iapply HK $$ %_ H

/-- A load through a slice with its unit axes dropped. -/
theorem wp_ld_sq {cs : CoreSpace} {m : Memref sig c.2.kind cs s e} {r₀ : Rect s} {hr : ∀ a, r₀.stride a = 1}
    {hs : r₀.shape.Squeezes s'} {r : LoadRect s'} {hl : ((m.slice r₀ hr).squeeze s' hs).view.LoadsAt r}
    {k : (r.shape.Idx → Val e) → Prog (TpuEff nD τ sig Val Λ c.2) α} {q : PosShare TreeShare} {Φ : (s.Idx → Val e) → Prop} :
    (ownsSat c m q Φ : sProp 𝕄)
      ⊢ iprop((∀ X, ⌜Φ X⌝ -∗ ownsSat c m q Φ -∗ wp frame (wpE defs 𝒱 c bd) E
            (k (fun j => X (r₀.emb (Shape.reshapeEquiv hs.numel_eq (r.idx j))))) Q)
        -∗ wp frame (wpE defs 𝒱 c bd) E (Prog.lift (.load ((m.slice r₀ hr).squeeze s' hs) r hl) >>= k) Q) := by
  unfold ownsSat
  iintro ⟨%f, %hf, H⟩ HK
  iapply (wp_load 𝒱 c bd E (m := (m.slice r₀ hr).squeeze s' hs) (r := r) (hl := hl) (k := k) (S := m.view.set) (by
    refine (View.setOn_subset_set _ _).trans ?_
    have h := View.set_reshape (m.view.slice r₀) hs.numel_eq
    exact h.subset.trans (m.view.set_slice_subset r₀))) $$ H
  iintro H
  iapply HK $$ %(m.view.read Val f) %hf [H]
  iexists f; isplitr
  · ipureintro; exact hf
  · iexact H

/-- Such a load whose value is not looked at. -/
theorem wp_ld_sq_any {cs : CoreSpace} {m : Memref sig c.2.kind cs s e} {r₀ : Rect s} {hr : ∀ a, r₀.stride a = 1}
    {hs : r₀.shape.Squeezes s'} {r : LoadRect s'} {hl : ((m.slice r₀ hr).squeeze s' hs).view.LoadsAt r}
    {k : (r.shape.Idx → Val e) → Prog (TpuEff nD τ sig Val Λ c.2) α} {q : PosShare TreeShare} {Φ : (s.Idx → Val e) → Prop} :
    (ownsSat c m q Φ : sProp 𝕄)
      ⊢ iprop((∀ x, ownsSat c m q Φ -∗ wp frame (wpE defs 𝒱 c bd) E (k x) Q)
        -∗ wp frame (wpE defs 𝒱 c bd) E (Prog.lift (.load ((m.slice r₀ hr).squeeze s' hs) r hl) >>= k) Q) := by
  iintro H HK
  iapply (wp_ld_sq 𝒱 c bd E) $$ H
  iintro %X %_ H
  iapply HK $$ %_ H

/-- A store: whatever `Φ` said before it, `Ψ` holds of the overlaid contents after it. -/
theorem wp_st {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {Φ : (s.Idx → Val e) → Prop} (Ψ : (s.Idx → Val e) → Prop)
    (h : ∀ X, Φ X → Ψ (r.overlay X w)) :
    (ownsSat c m fullShare Φ : sProp 𝕄)
      ⊢ iprop((ownsSat c m fullShare Ψ -∗ wp frame (wpE defs 𝒱 c bd) E (k ⟨⟩) Q)
        -∗ wp frame (wpE defs 𝒱 c bd) E (Prog.lift (.store m r w Finset.univ hx hm) >>= k) Q) := by
  unfold ownsSat
  iintro ⟨%f, %hf, H⟩ HK
  iapply (wp_store 𝒱 c bd E (m := m) (r := r) (w := w) (Mk := Finset.univ) (hx := hx) (hm := hm) (k := k) (S := m.view.set)
    (by rw [View.setOn_univ]; exact m.view.set_slice_subset r)) $$ H
  iintro H
  iapply HK
  iexists ((m.access r).write Val f w Finset.univ); isplitr
  · ipureintro; rw [read_write_overlay]; exact h _ hf
  · iexact H

/-- A store into a memref of whose contents nothing is said. -/
theorem wp_st_any {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} :
    (ownsSat c m fullShare (fun _ => True) : sProp 𝕄)
      ⊢ iprop((ownsSat c m fullShare (fun _ => True) -∗ wp frame (wpE defs 𝒱 c bd) E (k ⟨⟩) Q)
        -∗ wp frame (wpE defs 𝒱 c bd) E (Prog.lift (.store m r w Finset.univ hx hm) >>= k) Q) :=
  wp_st 𝒱 c bd E (fun _ => True) (fun _ _ => trivial)

/-- One word read from scalar memory. -/
theorem wp_sld {m : Memref sig c.2.kind .smem s e} {r : Rect s} {h1 : r.shape.numel = 1} {hp : e.packing = 1}
    {k : Val e → Prog (TpuEff nD τ sig Val Λ c.2) α} {q : PosShare TreeShare} {Φ : (s.Idx → Val e) → Prop} :
    (ownsSat c m q Φ : sProp 𝕄)
      ⊢ iprop((∀ X, ⌜Φ X⌝ -∗ ownsSat c m q Φ -∗ wp frame (wpE defs 𝒱 c bd) E
            (k (X (r.emb (Shape.Idx.first (h1.symm ▸ Nat.one_pos))))) Q)
        -∗ wp frame (wpE defs 𝒱 c bd) E (smemLoad (p := c.2) m r h1 hp >>= k) Q) := by
  have hk : (smemLoad (p := c.2) m r h1 hp >>= k : Prog (TpuEff nD τ sig Val Λ c.2) α)
      = smemLoadElt (p := c.2) m r (View.loads_smem_one hp h1) (Shape.Idx.first (h1.symm ▸ Nat.one_pos)) k := rfl
  rw [hk]
  unfold ownsSat
  iintro ⟨%f, %hf, H⟩ HK
  iapply (wp_smemLoadElt 𝒱 c bd E (m := m) (r := r) (S := m.view.set)
    (m.view.set_slice_subset r)) $$ H
  iintro H
  iapply HK $$ %(m.view.read Val f) %hf [H]
  iexists f; isplitr
  · ipureintro; exact hf
  · iexact H

/-- One word read from scalar memory and not looked at. -/
theorem wp_sld_any {m : Memref sig c.2.kind .smem s e} {r : Rect s} {h1 : r.shape.numel = 1} {hp : e.packing = 1}
    {k : Val e → Prog (TpuEff nD τ sig Val Λ c.2) α} {q : PosShare TreeShare} {Φ : (s.Idx → Val e) → Prop} :
    (ownsSat c m q Φ : sProp 𝕄)
      ⊢ iprop((∀ x, ownsSat c m q Φ -∗ wp frame (wpE defs 𝒱 c bd) E (k x) Q)
        -∗ wp frame (wpE defs 𝒱 c bd) E (smemLoad (p := c.2) m r h1 hp >>= k) Q) := by
  iintro H HK
  iapply (wp_sld 𝒱 c bd E) $$ H
  iintro %X %_ H
  iapply HK $$ %_ H

/-- A part of the program run by what was shown of it. -/
theorem wp_call {β : Type} {p : Prog (TpuEff nD τ sig Val Λ c.2) β} {k : β → Prog (TpuEff nD τ sig Val Λ c.2) α} {P : sProp 𝕄}
    {R : β → sProp 𝕄} (h : P ⊢ wp frame (wpE defs 𝒱 c bd) E p R) :
    P ⊢ iprop((∀ a, R a -∗ wp frame (wpE defs 𝒱 c bd) E (k a) Q) -∗ wp frame (wpE defs 𝒱 c bd) E (p >>= k) Q) := by
  rw [wp_bind]
  iintro H HK
  ihave H := h $$ H
  iapply (wp_wand frame (wpE defs 𝒱 c bd) E) $$ H
  iexact HK

/-- A counted loop run by its invariant. -/
theorem wp_loop {w : ℕ} {σ : Type} (L : Scf.Loop w) (hok : L.OK) (init : σ)
    (body : Fin L.trips → σ → Prog (TpuEff nD τ sig Val Λ c.2) σ) (I : ℕ → sProp 𝕄)
    (hbody : ∀ (k : Fin L.trips) (acc : σ), I k ⊢ wp frame (wpE defs 𝒱 c bd) E (body k acc) (fun _ => I (k.val + 1)))
    {kk : σ → Prog (TpuEff nD τ sig Val Λ c.2) α} :
    I 0 ⊢ iprop((∀ acc, I L.trips -∗ wp frame (wpE defs 𝒱 c bd) E (kk acc) Q)
      -∗ wp frame (wpE defs 𝒱 c bd) E (Scf.Loop.for L hok init body >>= kk) Q) :=
  Scf.wp_for_bind frame (wpE defs 𝒱 c bd) E _ _ _ hok init body (fun k _ => I k) hbody

end Cert.Proof.Own
-- ==== Proof.KKeep.lean ====
/-
  What the body of the packed-word kernel keeps: every buffer it touches, at some contents.
-/
module

public import proofs.«01_k».proof.Proof.Own
public import proofs.«01_k».proof.Proof.Gen.Kernel
public import proofs.«01_k».proof.Proof.Gen.Kernel.Skeleton
public import proofs.«01_k».proof.Proof.Gen.Kernel.Frame

@[expose] public section

set_option maxRecDepth 65536

noncomputable section

namespace Cert.Proof.Kernel

open Cert.Kernel Cert.Kernel.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The algebra the body is run at. -/
abbrev UU (nD : Nat) (τ : Topo) : Type := UR sig nD τ
abbrev 𝒱₀ : Variants := Variants.none

local notation "𝕄" => MT nD τ sig Unit (Elt F) ℕ (UU nD τ) ℕ

/-- The memref is owned at some contents. -/
abbrev Any (c : Dev nD) {sp : Space} {s : Shape} {e : EltTy} (m : Memref sig .tc sp s e) : sProp 𝕄 :=
  ownsSat (c : Thread nD τ) m fullShare (fun _ => True)

/-- From `P` the program runs to `P` again. -/
abbrev Keeps (c : Dev nD) (P : sProp 𝕄) {α : Type} (p : Prog (TpuEff nD τ sig (Elt F) Λ₀ .tc) α) : Prop :=
  P ⊢ wp frame (wpE (defs₀ (F := F)) 𝒱₀ (c : Thread nD τ) none) Set.univ p (fun _ => P)

/-- `P` holds the memref, and takes it back at any contents. -/
class Has (c : Dev nD) (P : sProp 𝕄) {sp : Space} {s : Shape} {e : EltTy} (m : Memref sig .tc sp s e) : Prop where
  acc : P ⊢ iprop(Any c m ∗ (Any c m -∗ P))

section Steps

variable {c : Dev nD} {P : sProp (MT nD τ sig Unit (Elt F) ℕ (UU nD τ) ℕ)} {α β : Type} {s s' : Shape} {e : EltTy} {cs : CoreSpace}

/-- A load keeps what holds its memref. -/
theorem Keeps.ld {m : Memref sig .tc cs s e} [hP : Has c P m] {r : LoadRect s} {hl : m.view.LoadsAt r}
    {k : (r.shape.Idx → Elt F e) → Prog (TpuEff nD τ sig (Elt F) Λ₀ .tc) α} (h : ∀ x, Keeps c P (k x)) :
    Keeps c P (Prog.lift (TpuEff.load m r hl) >>= k : Prog (TpuEff nD τ sig (Elt F) Λ₀ .tc) α) := by
  refine hP.acc.trans ?_
  iintro ⟨H, HK⟩
  iapply (wp_ld_any 𝒱₀ (c : Thread nD τ) none Set.univ) $$ H
  iintro %x H
  iapply (h x); iapply HK; iexact H

/-- A load through a squeezed slice keeps what holds its memref. -/
theorem Keeps.ldq {m : Memref sig .tc cs s e} [hP : Has c P m] {r₀ : Rect s} {hr : ∀ a, r₀.stride a = 1}
    {hs : r₀.shape.Squeezes s'} {r : LoadRect s'} {hl : ((m.slice r₀ hr).squeeze s' hs).view.LoadsAt r}
    {k : (r.shape.Idx → Elt F e) → Prog (TpuEff nD τ sig (Elt F) Λ₀ .tc) α} (h : ∀ x, Keeps c P (k x)) :
    Keeps c P (Prog.lift (TpuEff.load ((m.slice r₀ hr).squeeze s' hs) r hl) >>= k : Prog (TpuEff nD τ sig (Elt F) Λ₀ .tc) α) := by
  refine hP.acc.trans ?_
  iintro ⟨H, HK⟩
  iapply (wp_ld_sq_any 𝒱₀ (c : Thread nD τ) none Set.univ) $$ H
  iintro %x H
  iapply (h x); iapply HK; iexact H

/-- A word read keeps what holds its memref. -/
theorem Keeps.sld {m : Memref sig .tc .smem s e} [hP : Has c P m] {r : Rect s} {h1 : r.shape.numel = 1} {hp : e.packing = 1}
    {k : Elt F e → Prog (TpuEff nD τ sig (Elt F) Λ₀ .tc) α} (h : ∀ x, Keeps c P (k x)) :
    Keeps c P (smemLoad (p := .tc) m r h1 hp >>= k : Prog (TpuEff nD τ sig (Elt F) Λ₀ .tc) α) := by
  refine hP.acc.trans ?_
  iintro ⟨H, HK⟩
  iapply (wp_sld_any 𝒱₀ (c : Thread nD τ) none Set.univ) $$ H
  iintro %x H
  iapply (h x); iapply HK; iexact H

/-- A store keeps what holds its memref. -/
theorem Keeps.st {m : Memref sig .tc cs s e} [hP : Has c P m] {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} (h : Keeps c P (k ⟨⟩)) :
    Keeps c P (Prog.lift (TpuEff.store m r w Finset.univ hx hm) >>= k : Prog (TpuEff nD τ sig (Elt F) Λ₀ .tc) α) := by
  refine hP.acc.trans ?_
  iintro ⟨H, HK⟩
  iapply (wp_st_any 𝒱₀ (c : Thread nD τ) none Set.univ) $$ H
  iintro H
  iapply h; iapply HK; iexact H

/-- A part that keeps `P`, then the rest. -/
theorem Keeps.call {p : Prog (TpuEff nD τ sig (Elt F) Λ₀ .tc) β} {k : β → Prog (TpuEff nD τ sig (Elt F) Λ₀ .tc) α}
    (hp : Keeps c P p) (h : ∀ x, Keeps c P (k x)) : Keeps c P (p >>= k : Prog (TpuEff nD τ sig (Elt F) Λ₀ .tc) α) := by
  iintro H
  iapply (wp_call 𝒱₀ (c : Thread nD τ) none Set.univ hp) $$ H
  iintro %x H
  iapply (h x); iexact H

/-- A loop each of whose trips keeps `P`, then the rest. -/
theorem Keeps.loop {w : ℕ} {σ : Type} {L : Scf.Loop w} {hok : L.OK} {init : σ}
    {body : Fin L.trips → σ → Prog (TpuEff nD τ sig (Elt F) Λ₀ .tc) σ} {k : σ → Prog (TpuEff nD τ sig (Elt F) Λ₀ .tc) α}
    (hb : ∀ k u, Keeps c P (body k u)) (h : ∀ x, Keeps c P (k x)) :
    Keeps c P (Scf.Loop.for L hok init body >>= k : Prog (TpuEff nD τ sig (Elt F) Λ₀ .tc) α) := by
  iintro H
  iapply (wp_loop 𝒱₀ (c : Thread nD τ) none Set.univ L hok init body (fun _ => P) hb) $$ H
  iintro %x H
  iapply (h x); iexact H

/-- The end of a program. -/
theorem Keeps.done (a : α) : Keeps c P (pure a : Prog (TpuEff nD τ sig (Elt F) Λ₀ .tc) α) :=
  le_wp_ret frame (wpE (defs₀ (F := F)) 𝒱₀ (c : Thread nD τ) none) Set.univ a (fun _ => P)

end Steps

/-- Every buffer of the body is owned at some contents. -/
def All (c : Dev nD) (arg1 : Memref sig .tc .smem S768 .f32) (arg2 : Memref sig .tc .smem S1 .f32) (arg3 : Memref sig .tc .vmem S768 .f32) (arg4 : Memref sig .tc .vmem S32x96x128 .i8) (arg5 : Memref sig .tc .vmem S32x96x128 .i8) (arg6 : Memref sig .tc .vmem S96x64x128 .i8) (arg7 : Memref sig .tc .vmem S96x64x128 .i8) (arg8 : Memref sig .tc .vmem S32x64x2048 .fp8e5m2) (arg9 : Memref sig .tc .vmem S1x2x2048x128 .bf16) (arg10 : Memref sig .tc .vmem S96x64x128 .f32) (arg11 : Memref sig .tc .vmem S96x64x128 .f32) (arg12 : Memref sig .tc .vmem S32x96x128 .bf16) (arg13 : Memref sig .tc .vmem S32x96x128 .bf16) (arg14 : Memref sig .tc .vmem S32x64x128 .bf16) (arg15 : Memref sig .tc .vmem S32x64x128 .bf16) (arg16 : Memref sig .tc .vmem S2x896x128 .i32) (arg17 : Memref sig .tc .vmem S2x1920x128 .i32) (arg18 : Memref sig .tc .vmem S1536x128 .i32) (arg19 : Memref sig .tc .vmem S4608x128 .i32) (arg20 : Memref sig .tc .vmem S4608x128 .i32) (arg21 : Memref sig .tc .vmem S6656x128 .f32) (arg22 : Memref sig .tc .vmem S6656x128 .f32) (arg23 : Memref sig .tc .vmem S4608x128 .i32) : sProp 𝕄 :=
  iprop(Any c arg1 ∗ Any c arg2 ∗ Any c arg3 ∗ Any c arg4 ∗ Any c arg5 ∗ Any c arg6 ∗ Any c arg7 ∗ Any c arg8 ∗ Any c arg9 ∗ Any c arg10 ∗ Any c arg11 ∗ Any c arg12 ∗ Any c arg13 ∗ Any c arg14 ∗ Any c arg15 ∗ Any c arg16 ∗ Any c arg17 ∗ Any c arg18 ∗ Any c arg19 ∗ Any c arg20 ∗ Any c arg21 ∗ Any c arg22 ∗ Any c arg23)

section Has

variable (c : Dev nD) (arg1 : Memref sig .tc .smem S768 .f32) (arg2 : Memref sig .tc .smem S1 .f32) (arg3 : Memref sig .tc .vmem S768 .f32) (arg4 : Memref sig .tc .vmem S32x96x128 .i8) (arg5 : Memref sig .tc .vmem S32x96x128 .i8) (arg6 : Memref sig .tc .vmem S96x64x128 .i8) (arg7 : Memref sig .tc .vmem S96x64x128 .i8) (arg8 : Memref sig .tc .vmem S32x64x2048 .fp8e5m2) (arg9 : Memref sig .tc .vmem S1x2x2048x128 .bf16) (arg10 : Memref sig .tc .vmem S96x64x128 .f32) (arg11 : Memref sig .tc .vmem S96x64x128 .f32) (arg12 : Memref sig .tc .vmem S32x96x128 .bf16) (arg13 : Memref sig .tc .vmem S32x96x128 .bf16) (arg14 : Memref sig .tc .vmem S32x64x128 .bf16) (arg15 : Memref sig .tc .vmem S32x64x128 .bf16) (arg16 : Memref sig .tc .vmem S2x896x128 .i32) (arg17 : Memref sig .tc .vmem S2x1920x128 .i32) (arg18 : Memref sig .tc .vmem S1536x128 .i32) (arg19 : Memref sig .tc .vmem S4608x128 .i32) (arg20 : Memref sig .tc .vmem S4608x128 .i32) (arg21 : Memref sig .tc .vmem S6656x128 .f32) (arg22 : Memref sig .tc .vmem S6656x128 .f32) (arg23 : Memref sig .tc .vmem S4608x128 .i32)

instance has1 : Has (F := F) c (All c arg1 arg2 arg3 arg4 arg5 arg6 arg7 arg8 arg9 arg10 arg11 arg12 arg13 arg14 arg15 arg16 arg17 arg18 arg19 arg20 arg21 arg22 arg23) arg1 where
  acc := by
    unfold All
    iintro ⟨H1, H2, H3, H4, H5, H6, H7, H8, H9, H10, H11, H12, H13, H14, H15, H16, H17, H18, H19, H20, H21, H22, H23⟩
    isplitl [H1]; · iexact H1
    iintro H1
    iframe

instance has2 : Has (F := F) c (All c arg1 arg2 arg3 arg4 arg5 arg6 arg7 arg8 arg9 arg10 arg11 arg12 arg13 arg14 arg15 arg16 arg17 arg18 arg19 arg20 arg21 arg22 arg23) arg2 where
  acc := by
    unfold All
    iintro ⟨H1, H2, H3, H4, H5, H6, H7, H8, H9, H10, H11, H12, H13, H14, H15, H16, H17, H18, H19, H20, H21, H22, H23⟩
    isplitl [H2]; · iexact H2
    iintro H2
    iframe

instance has3 : Has (F := F) c (All c arg1 arg2 arg3 arg4 arg5 arg6 arg7 arg8 arg9 arg10 arg11 arg12 arg13 arg14 arg15 arg16 arg17 arg18 arg19 arg20 arg21 arg22 arg23) arg3 where
  acc := by
    unfold All
    iintro ⟨H1, H2, H3, H4, H5, H6, H7, H8, H9, H10, H11, H12, H13, H14, H15, H16, H17, H18, H19, H20, H21, H22, H23⟩
    isplitl [H3]; · iexact H3
    iintro H3
    iframe

instance has4 : Has (F := F) c (All c arg1 arg2 arg3 arg4 arg5 arg6 arg7 arg8 arg9 arg10 arg11 arg12 arg13 arg14 arg15 arg16 arg17 arg18 arg19 arg20 arg21 arg22 arg23) arg4 where
  acc := by
    unfold All
    iintro ⟨H1, H2, H3, H4, H5, H6, H7, H8, H9, H10, H11, H12, H13, H14, H15, H16, H17, H18, H19, H20, H21, H22, H23⟩
    isplitl [H4]; · iexact H4
    iintro H4
    iframe

instance has5 : Has (F := F) c (All c arg1 arg2 arg3 arg4 arg5 arg6 arg7 arg8 arg9 arg10 arg11 arg12 arg13 arg14 arg15 arg16 arg17 arg18 arg19 arg20 arg21 arg22 arg23) arg5 where
  acc := by
    unfold All
    iintro ⟨H1, H2, H3, H4, H5, H6, H7, H8, H9, H10, H11, H12, H13, H14, H15, H16, H17, H18, H19, H20, H21, H22, H23⟩
    isplitl [H5]; · iexact H5
    iintro H5
    iframe

instance has6 : Has (F := F) c (All c arg1 arg2 arg3 arg4 arg5 arg6 arg7 arg8 arg9 arg10 arg11 arg12 arg13 arg14 arg15 arg16 arg17 arg18 arg19 arg20 arg21 arg22 arg23) arg6 where
  acc := by
    unfold All
    iintro ⟨H1, H2, H3, H4, H5, H6, H7, H8, H9, H10, H11, H12, H13, H14, H15, H16, H17, H18, H19, H20, H21, H22, H23⟩
    isplitl [H6]; · iexact H6
    iintro H6
    iframe

instance has7 : Has (F := F) c (All c arg1 arg2 arg3 arg4 arg5 arg6 arg7 arg8 arg9 arg10 arg11 arg12 arg13 arg14 arg15 arg16 arg17 arg18 arg19 arg20 arg21 arg22 arg23) arg7 where
  acc := by
    unfold All
    iintro ⟨H1, H2, H3, H4, H5, H6, H7, H8, H9, H10, H11, H12, H13, H14, H15, H16, H17, H18, H19, H20, H21, H22, H23⟩
    isplitl [H7]; · iexact H7
    iintro H7
    iframe

instance has8 : Has (F := F) c (All c arg1 arg2 arg3 arg4 arg5 arg6 arg7 arg8 arg9 arg10 arg11 arg12 arg13 arg14 arg15 arg16 arg17 arg18 arg19 arg20 arg21 arg22 arg23) arg8 where
  acc := by
    unfold All
    iintro ⟨H1, H2, H3, H4, H5, H6, H7, H8, H9, H10, H11, H12, H13, H14, H15, H16, H17, H18, H19, H20, H21, H22, H23⟩
    isplitl [H8]; · iexact H8
    iintro H8
    iframe

instance has9 : Has (F := F) c (All c arg1 arg2 arg3 arg4 arg5 arg6 arg7 arg8 arg9 arg10 arg11 arg12 arg13 arg14 arg15 arg16 arg17 arg18 arg19 arg20 arg21 arg22 arg23) arg9 where
  acc := by
    unfold All
    iintro ⟨H1, H2, H3, H4, H5, H6, H7, H8, H9, H10, H11, H12, H13, H14, H15, H16, H17, H18, H19, H20, H21, H22, H23⟩
    isplitl [H9]; · iexact H9
    iintro H9
    iframe

instance has10 : Has (F := F) c (All c arg1 arg2 arg3 arg4 arg5 arg6 arg7 arg8 arg9 arg10 arg11 arg12 arg13 arg14 arg15 arg16 arg17 arg18 arg19 arg20 arg21 arg22 arg23) arg10 where
  acc := by
    unfold All
    iintro ⟨H1, H2, H3, H4, H5, H6, H7, H8, H9, H10, H11, H12, H13, H14, H15, H16, H17, H18, H19, H20, H21, H22, H23⟩
    isplitl [H10]; · iexact H10
    iintro H10
    iframe

instance has11 : Has (F := F) c (All c arg1 arg2 arg3 arg4 arg5 arg6 arg7 arg8 arg9 arg10 arg11 arg12 arg13 arg14 arg15 arg16 arg17 arg18 arg19 arg20 arg21 arg22 arg23) arg11 where
  acc := by
    unfold All
    iintro ⟨H1, H2, H3, H4, H5, H6, H7, H8, H9, H10, H11, H12, H13, H14, H15, H16, H17, H18, H19, H20, H21, H22, H23⟩
    isplitl [H11]; · iexact H11
    iintro H11
    iframe

instance has12 : Has (F := F) c (All c arg1 arg2 arg3 arg4 arg5 arg6 arg7 arg8 arg9 arg10 arg11 arg12 arg13 arg14 arg15 arg16 arg17 arg18 arg19 arg20 arg21 arg22 arg23) arg12 where
  acc := by
    unfold All
    iintro ⟨H1, H2, H3, H4, H5, H6, H7, H8, H9, H10, H11, H12, H13, H14, H15, H16, H17, H18, H19, H20, H21, H22, H23⟩
    isplitl [H12]; · iexact H12
    iintro H12
    iframe

instance has13 : Has (F := F) c (All c arg1 arg2 arg3 arg4 arg5 arg6 arg7 arg8 arg9 arg10 arg11 arg12 arg13 arg14 arg15 arg16 arg17 arg18 arg19 arg20 arg21 arg22 arg23) arg13 where
  acc := by
    unfold All
    iintro ⟨H1, H2, H3, H4, H5, H6, H7, H8, H9, H10, H11, H12, H13, H14, H15, H16, H17, H18, H19, H20, H21, H22, H23⟩
    isplitl [H13]; · iexact H13
    iintro H13
    iframe

instance has14 : Has (F := F) c (All c arg1 arg2 arg3 arg4 arg5 arg6 arg7 arg8 arg9 arg10 arg11 arg12 arg13 arg14 arg15 arg16 arg17 arg18 arg19 arg20 arg21 arg22 arg23) arg14 where
  acc := by
    unfold All
    iintro ⟨H1, H2, H3, H4, H5, H6, H7, H8, H9, H10, H11, H12, H13, H14, H15, H16, H17, H18, H19, H20, H21, H22, H23⟩
    isplitl [H14]; · iexact H14
    iintro H14
    iframe

instance has15 : Has (F := F) c (All c arg1 arg2 arg3 arg4 arg5 arg6 arg7 arg8 arg9 arg10 arg11 arg12 arg13 arg14 arg15 arg16 arg17 arg18 arg19 arg20 arg21 arg22 arg23) arg15 where
  acc := by
    unfold All
    iintro ⟨H1, H2, H3, H4, H5, H6, H7, H8, H9, H10, H11, H12, H13, H14, H15, H16, H17, H18, H19, H20, H21, H22, H23⟩
    isplitl [H15]; · iexact H15
    iintro H15
    iframe

instance has16 : Has (F := F) c (All c arg1 arg2 arg3 arg4 arg5 arg6 arg7 arg8 arg9 arg10 arg11 arg12 arg13 arg14 arg15 arg16 arg17 arg18 arg19 arg20 arg21 arg22 arg23) arg16 where
  acc := by
    unfold All
    iintro ⟨H1, H2, H3, H4, H5, H6, H7, H8, H9, H10, H11, H12, H13, H14, H15, H16, H17, H18, H19, H20, H21, H22, H23⟩
    isplitl [H16]; · iexact H16
    iintro H16
    iframe

instance has17 : Has (F := F) c (All c arg1 arg2 arg3 arg4 arg5 arg6 arg7 arg8 arg9 arg10 arg11 arg12 arg13 arg14 arg15 arg16 arg17 arg18 arg19 arg20 arg21 arg22 arg23) arg17 where
  acc := by
    unfold All
    iintro ⟨H1, H2, H3, H4, H5, H6, H7, H8, H9, H10, H11, H12, H13, H14, H15, H16, H17, H18, H19, H20, H21, H22, H23⟩
    isplitl [H17]; · iexact H17
    iintro H17
    iframe

instance has18 : Has (F := F) c (All c arg1 arg2 arg3 arg4 arg5 arg6 arg7 arg8 arg9 arg10 arg11 arg12 arg13 arg14 arg15 arg16 arg17 arg18 arg19 arg20 arg21 arg22 arg23) arg18 where
  acc := by
    unfold All
    iintro ⟨H1, H2, H3, H4, H5, H6, H7, H8, H9, H10, H11, H12, H13, H14, H15, H16, H17, H18, H19, H20, H21, H22, H23⟩
    isplitl [H18]; · iexact H18
    iintro H18
    iframe

instance has19 : Has (F := F) c (All c arg1 arg2 arg3 arg4 arg5 arg6 arg7 arg8 arg9 arg10 arg11 arg12 arg13 arg14 arg15 arg16 arg17 arg18 arg19 arg20 arg21 arg22 arg23) arg19 where
  acc := by
    unfold All
    iintro ⟨H1, H2, H3, H4, H5, H6, H7, H8, H9, H10, H11, H12, H13, H14, H15, H16, H17, H18, H19, H20, H21, H22, H23⟩
    isplitl [H19]; · iexact H19
    iintro H19
    iframe

instance has20 : Has (F := F) c (All c arg1 arg2 arg3 arg4 arg5 arg6 arg7 arg8 arg9 arg10 arg11 arg12 arg13 arg14 arg15 arg16 arg17 arg18 arg19 arg20 arg21 arg22 arg23) arg20 where
  acc := by
    unfold All
    iintro ⟨H1, H2, H3, H4, H5, H6, H7, H8, H9, H10, H11, H12, H13, H14, H15, H16, H17, H18, H19, H20, H21, H22, H23⟩
    isplitl [H20]; · iexact H20
    iintro H20
    iframe

instance has21 : Has (F := F) c (All c arg1 arg2 arg3 arg4 arg5 arg6 arg7 arg8 arg9 arg10 arg11 arg12 arg13 arg14 arg15 arg16 arg17 arg18 arg19 arg20 arg21 arg22 arg23) arg21 where
  acc := by
    unfold All
    iintro ⟨H1, H2, H3, H4, H5, H6, H7, H8, H9, H10, H11, H12, H13, H14, H15, H16, H17, H18, H19, H20, H21, H22, H23⟩
    isplitl [H21]; · iexact H21
    iintro H21
    iframe

instance has22 : Has (F := F) c (All c arg1 arg2 arg3 arg4 arg5 arg6 arg7 arg8 arg9 arg10 arg11 arg12 arg13 arg14 arg15 arg16 arg17 arg18 arg19 arg20 arg21 arg22 arg23) arg22 where
  acc := by
    unfold All
    iintro ⟨H1, H2, H3, H4, H5, H6, H7, H8, H9, H10, H11, H12, H13, H14, H15, H16, H17, H18, H19, H20, H21, H22, H23⟩
    isplitl [H22]; · iexact H22
    iintro H22
    iframe

instance has23 : Has (F := F) c (All c arg1 arg2 arg3 arg4 arg5 arg6 arg7 arg8 arg9 arg10 arg11 arg12 arg13 arg14 arg15 arg16 arg17 arg18 arg19 arg20 arg21 arg22 arg23) arg23 where
  acc := by
    unfold All
    iintro ⟨H1, H2, H3, H4, H5, H6, H7, H8, H9, H10, H11, H12, H13, H14, H15, H16, H17, H18, H19, H20, H21, H22, H23⟩
    isplitl [H23]; · iexact H23
    iintro H23
    iframe

end Has

end Cert.Proof.Kernel
-- ==== Proof.KKeep1.lean ====
/-
  The straight-line parts of the packed-word kernel keep every buffer (one of six modules).
-/
module

public import proofs.«01_k».proof.Proof.KKeep

@[expose] public section

set_option maxRecDepth 65536

noncomputable section

namespace Cert.Proof.Kernel

open Cert.Kernel Cert.Kernel.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x128 .i32) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x128 .i32) (harg23 : arg23.IsWhole)

/-- `k0_part1` keeps every buffer at some contents. -/
theorem k0_part1_keeps (v13 : FVec F S1x128 .f32) (v23 : FVec F S2048x256 .bf16) (c0_i32_10 : BitVec 32) (c1_i32 : BitVec 32) (k0_t1 : Fin k0_t1_loop.trips) :
    Keeps (F := F) c (All c arg1 arg2 arg3 arg4 arg5 arg6 arg7 arg8 arg9 arg10 arg11 arg12 arg13 arg14 arg15 arg16 arg17 arg18 arg19 arg20 arg21 arg22 arg23) (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v13 v23 c0_i32_10 c1_i32 k0_t1) := by
  rw [k0_part1_eq_skeleton]; unfold k0_part1_skel
  dsimp only
  refine .ld fun _ => ?_; refine .ld fun _ => ?_; refine .st ?_; refine .ld fun _ => ?_; refine .st ?_
  exact .done _

/-- `k0_part7` keeps every buffer at some contents. -/
theorem k0_part7_keeps (arg0 : BitVec 32) (k0_t4 : Fin k0_t4_loop.trips) (arg24 : BitVec 32) (v1708 : BitVec 32) (v1712 : FVec F S64x128 .bf16) (c36_i32_1417 : BitVec 32) :
    Keeps (F := F) c (All c arg1 arg2 arg3 arg4 arg5 arg6 arg7 arg8 arg9 arg10 arg11 arg12 arg13 arg14 arg15 arg16 arg17 arg18 arg19 arg20 arg21 arg22 arg23) (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_t4 arg24 v1708 v1712 c36_i32_1417) := by
  rw [k0_part7_eq_skeleton]; unfold k0_part7_skel
  dsimp only
  refine .ld fun _ => ?_; refine .sld fun _ => ?_; refine .ld fun _ => ?_; refine .st ?_; refine .ld fun _ => ?_; refine .ld fun _ => ?_; refine .ld fun _ => ?_
  exact .done _

/-- `k0_part14` keeps every buffer at some contents. -/
theorem k0_part14_keeps (v57 : IVec S24x128 32) :
    Keeps (F := F) c (All c arg1 arg2 arg3 arg4 arg5 arg6 arg7 arg8 arg9 arg10 arg11 arg12 arg13 arg14 arg15 arg16 arg17 arg18 arg19 arg20 arg21 arg22 arg23) (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v57) := by
  rw [k0_part14_eq_skeleton]; unfold k0_part14_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_; refine .ld fun _ => ?_
  exact .done _

/-- `k0_part20` keeps every buffer at some contents. -/
theorem k0_part20_keeps (v224 : IVec S96x128 8) :
    Keeps (F := F) c (All c arg1 arg2 arg3 arg4 arg5 arg6 arg7 arg8 arg9 arg10 arg11 arg12 arg13 arg14 arg15 arg16 arg17 arg18 arg19 arg20 arg21 arg22 arg23) (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v224) := by
  rw [k0_part20_eq_skeleton]; unfold k0_part20_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part26` keeps every buffer at some contents. -/
theorem k0_part26_keeps  :
    Keeps (F := F) c (All c arg1 arg2 arg3 arg4 arg5 arg6 arg7 arg8 arg9 arg10 arg11 arg12 arg13 arg14 arg15 arg16 arg17 arg18 arg19 arg20 arg21 arg22 arg23) (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part26_eq_skeleton]; unfold k0_part26_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part32` keeps every buffer at some contents. -/
theorem k0_part32_keeps (v555 : IVec S16x128 32) (v556 : Vec F S1x16x128 .i32) :
    Keeps (F := F) c (All c arg1 arg2 arg3 arg4 arg5 arg6 arg7 arg8 arg9 arg10 arg11 arg12 arg13 arg14 arg15 arg16 arg17 arg18 arg19 arg20 arg21 arg22 arg23) (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v555 v556) := by
  rw [k0_part32_eq_skeleton]; unfold k0_part32_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part38` keeps every buffer at some contents. -/
theorem k0_part38_keeps (v723 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v723) := by
  rw [k0_part38_eq_skeleton]; unfold k0_part38_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part44` keeps every buffer at some contents. -/
theorem k0_part44_keeps  :
    Keeps (F := F) c (All c arg1 arg2 arg3 arg4 arg5 arg6 arg7 arg8 arg9 arg10 arg11 arg12 arg13 arg14 arg15 arg16 arg17 arg18 arg19 arg20 arg21 arg22 arg23) (k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part44_eq_skeleton]; unfold k0_part44_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part50` keeps every buffer at some contents. -/
theorem k0_part50_keeps (v1053 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1053) := by
  rw [k0_part50_eq_skeleton]; unfold k0_part50_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part56` keeps every buffer at some contents. -/
theorem k0_part56_keeps (v1221 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1221) := by
  rw [k0_part56_eq_skeleton]; unfold k0_part56_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part62` keeps every buffer at some contents. -/
theorem k0_part62_keeps  :
    Keeps (F := F) c (All c arg1 arg2 arg3 arg4 arg5 arg6 arg7 arg8 arg9 arg10 arg11 arg12 arg13 arg14 arg15 arg16 arg17 arg18 arg19 arg20 arg21 arg22 arg23) (k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part62_eq_skeleton]; unfold k0_part62_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

end Cert.Proof.Kernel
-- ==== Proof.KKeep2.lean ====
/-
  The straight-line parts of the packed-word kernel keep every buffer (one of six modules).
-/
module

public import proofs.«01_k».proof.Proof.KKeep

@[expose] public section

set_option maxRecDepth 65536

noncomputable section

namespace Cert.Proof.Kernel

open Cert.Kernel Cert.Kernel.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x128 .i32) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x128 .i32) (harg23 : arg23.IsWhole)

/-- `k0_part2` keeps every buffer at some contents. -/
theorem k0_part2_keeps (k0_t1 : Fin k0_t1_loop.trips) (arg24 : BitVec 32) (v1576 : FVec F S4x64x128 .f32) (v1580 : FVec F S4x64x128 .f32) (v1590 : BitVec 32) (v1596 : FVec F S128x128 .f32) (v1602 : FVec F S128x128 .f32) (v1609 : FVec F S128x128 .f32) :
    Keeps (F := F) c (All c arg1 arg2 arg3 arg4 arg5 arg6 arg7 arg8 arg9 arg10 arg11 arg12 arg13 arg14 arg15 arg16 arg17 arg18 arg19 arg20 arg21 arg22 arg23) (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v1576 v1580 v1590 v1596 v1602 v1609) := by
  rw [k0_part2_eq_skeleton]; unfold k0_part2_skel
  dsimp only
  refine .ld fun _ => ?_; refine .st ?_; refine .ld fun _ => ?_; refine .st ?_
  exact .done _

/-- `k0_part8` keeps every buffer at some contents. -/
theorem k0_part8_keeps (arg0 : BitVec 32) (k0_t4 : Fin k0_t4_loop.trips) (v1751 : BitVec 32) (v1757 : FVec F S96x128 .bf16) (v1758 : BitVec 32) (v1762 : FVec F S64x128 .bf16) (v1768 : FVec F S48x256 .f32) (v1769 : FVec F S48x128 .f32) :
    Keeps (F := F) c (All c arg1 arg2 arg3 arg4 arg5 arg6 arg7 arg8 arg9 arg10 arg11 arg12 arg13 arg14 arg15 arg16 arg17 arg18 arg19 arg20 arg21 arg22 arg23) (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_t4 v1751 v1757 v1758 v1762 v1768 v1769) := by
  rw [k0_part8_eq_skeleton]; unfold k0_part8_skel
  dsimp only
  refine .st ?_; refine .ld fun _ => ?_; refine .st ?_; refine .ld fun _ => ?_; refine .sld fun _ => ?_; refine .ld fun _ => ?_; refine .st ?_; refine .ld fun _ => ?_
  refine .ld fun _ => ?_
  exact .done _

/-- `k0_part15` keeps every buffer at some contents. -/
theorem k0_part15_keeps (v85 : Vec F S1x96x128 .i8) :
    Keeps (F := F) c (All c arg1 arg2 arg3 arg4 arg5 arg6 arg7 arg8 arg9 arg10 arg11 arg12 arg13 arg14 arg15 arg16 arg17 arg18 arg19 arg20 arg21 arg22 arg23) (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v85) := by
  rw [k0_part15_eq_skeleton]; unfold k0_part15_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_
  exact .done _

/-- `k0_part21` keeps every buffer at some contents. -/
theorem k0_part21_keeps  :
    Keeps (F := F) c (All c arg1 arg2 arg3 arg4 arg5 arg6 arg7 arg8 arg9 arg10 arg11 arg12 arg13 arg14 arg15 arg16 arg17 arg18 arg19 arg20 arg21 arg22 arg23) (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part21_eq_skeleton]; unfold k0_part21_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part27` keeps every buffer at some contents. -/
theorem k0_part27_keeps (v417 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v417) := by
  rw [k0_part27_eq_skeleton]; unfold k0_part27_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_; refine .ld fun _ => ?_
  exact .done _

/-- `k0_part33` keeps every buffer at some contents. -/
theorem k0_part33_keeps (v584 : IVec S64x128 8) :
    Keeps (F := F) c (All c arg1 arg2 arg3 arg4 arg5 arg6 arg7 arg8 arg9 arg10 arg11 arg12 arg13 arg14 arg15 arg16 arg17 arg18 arg19 arg20 arg21 arg22 arg23) (k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v584) := by
  rw [k0_part33_eq_skeleton]; unfold k0_part33_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part39` keeps every buffer at some contents. -/
theorem k0_part39_keeps  :
    Keeps (F := F) c (All c arg1 arg2 arg3 arg4 arg5 arg6 arg7 arg8 arg9 arg10 arg11 arg12 arg13 arg14 arg15 arg16 arg17 arg18 arg19 arg20 arg21 arg22 arg23) (k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part39_eq_skeleton]; unfold k0_part39_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part45` keeps every buffer at some contents. -/
theorem k0_part45_keeps (v915 : IVec S16x128 32) (v916 : Vec F S1x16x128 .i32) :
    Keeps (F := F) c (All c arg1 arg2 arg3 arg4 arg5 arg6 arg7 arg8 arg9 arg10 arg11 arg12 arg13 arg14 arg15 arg16 arg17 arg18 arg19 arg20 arg21 arg22 arg23) (k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v915 v916) := by
  rw [k0_part45_eq_skeleton]; unfold k0_part45_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part51` keeps every buffer at some contents. -/
theorem k0_part51_keeps (v1083 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1083) := by
  rw [k0_part51_eq_skeleton]; unfold k0_part51_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part57` keeps every buffer at some contents. -/
theorem k0_part57_keeps  :
    Keeps (F := F) c (All c arg1 arg2 arg3 arg4 arg5 arg6 arg7 arg8 arg9 arg10 arg11 arg12 arg13 arg14 arg15 arg16 arg17 arg18 arg19 arg20 arg21 arg22 arg23) (k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part57_eq_skeleton]; unfold k0_part57_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part63` keeps every buffer at some contents. -/
theorem k0_part63_keeps (v1413 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1413) := by
  rw [k0_part63_eq_skeleton]; unfold k0_part63_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

end Cert.Proof.Kernel
-- ==== Proof.KKeep3.lean ====
/-
  The straight-line parts of the packed-word kernel keep every buffer (one of six modules).
-/
module

public import proofs.«01_k».proof.Proof.KKeep

@[expose] public section

set_option maxRecDepth 65536

noncomputable section

namespace Cert.Proof.Kernel

open Cert.Kernel Cert.Kernel.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x128 .i32) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x128 .i32) (harg23 : arg23.IsWhole)

/-- `k0_part3` keeps every buffer at some contents. -/
theorem k0_part3_keeps (arg0 : BitVec 32) (c0_i32_1347 : BitVec 32) (c1_i32_1349 : BitVec 32) (k0_t4 : Fin k0_t4_loop.trips) :
    Keeps (F := F) c (All c arg1 arg2 arg3 arg4 arg5 arg6 arg7 arg8 arg9 arg10 arg11 arg12 arg13 arg14 arg15 arg16 arg17 arg18 arg19 arg20 arg21 arg22 arg23) (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 c0_i32_1347 c1_i32_1349 k0_t4) := by
  rw [k0_part3_eq_skeleton]; unfold k0_part3_skel
  dsimp only
  refine .ld fun _ => ?_; refine .ld fun _ => ?_; refine .ld fun _ => ?_; refine .st ?_; refine .ld fun _ => ?_; refine .st ?_; refine .ld fun _ => ?_
  exact .done _

/-- `k0_part9` keeps every buffer at some contents. -/
theorem k0_part9_keeps (arg0 : BitVec 32) (k0_t4 : Fin k0_t4_loop.trips) (arg24 : BitVec 32) (v1800 : BitVec 32) (v1804 : FVec F S64x128 .bf16) (v1810 : FVec F S48x256 .f32) (v1811 : FVec F S48x128 .f32) :
    Keeps (F := F) c (All c arg1 arg2 arg3 arg4 arg5 arg6 arg7 arg8 arg9 arg10 arg11 arg12 arg13 arg14 arg15 arg16 arg17 arg18 arg19 arg20 arg21 arg22 arg23) (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_t4 arg24 v1800 v1804 v1810 v1811) := by
  rw [k0_part9_eq_skeleton]; unfold k0_part9_skel
  dsimp only
  refine .st ?_; refine .ld fun _ => ?_; refine .st ?_; refine .ld fun _ => ?_; refine .sld fun _ => ?_; refine .ld fun _ => ?_; refine .st ?_; refine .ld fun _ => ?_
  refine .ld fun _ => ?_
  exact .done _

/-- `k0_part16` keeps every buffer at some contents. -/
theorem k0_part16_keeps (v114 : IVec S1x24x128 32) :
    Keeps (F := F) c (All c arg1 arg2 arg3 arg4 arg5 arg6 arg7 arg8 arg9 arg10 arg11 arg12 arg13 arg14 arg15 arg16 arg17 arg18 arg19 arg20 arg21 arg22 arg23) (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v114) := by
  rw [k0_part16_eq_skeleton]; unfold k0_part16_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part22` keeps every buffer at some contents. -/
theorem k0_part22_keeps (v279 : IVec S24x128 32) :
    Keeps (F := F) c (All c arg1 arg2 arg3 arg4 arg5 arg6 arg7 arg8 arg9 arg10 arg11 arg12 arg13 arg14 arg15 arg16 arg17 arg18 arg19 arg20 arg21 arg22 arg23) (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v279) := by
  rw [k0_part22_eq_skeleton]; unfold k0_part22_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part28` keeps every buffer at some contents. -/
theorem k0_part28_keeps (v445 : Vec F S1x64x128 .i8) :
    Keeps (F := F) c (All c arg1 arg2 arg3 arg4 arg5 arg6 arg7 arg8 arg9 arg10 arg11 arg12 arg13 arg14 arg15 arg16 arg17 arg18 arg19 arg20 arg21 arg22 arg23) (k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v445) := by
  rw [k0_part28_eq_skeleton]; unfold k0_part28_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_
  exact .done _

/-- `k0_part34` keeps every buffer at some contents. -/
theorem k0_part34_keeps  :
    Keeps (F := F) c (All c arg1 arg2 arg3 arg4 arg5 arg6 arg7 arg8 arg9 arg10 arg11 arg12 arg13 arg14 arg15 arg16 arg17 arg18 arg19 arg20 arg21 arg22 arg23) (k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part34_eq_skeleton]; unfold k0_part34_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part40` keeps every buffer at some contents. -/
theorem k0_part40_keeps (v777 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v777) := by
  rw [k0_part40_eq_skeleton]; unfold k0_part40_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_; refine .ld fun _ => ?_
  exact .done _

/-- `k0_part46` keeps every buffer at some contents. -/
theorem k0_part46_keeps (v944 : IVec S64x128 8) :
    Keeps (F := F) c (All c arg1 arg2 arg3 arg4 arg5 arg6 arg7 arg8 arg9 arg10 arg11 arg12 arg13 arg14 arg15 arg16 arg17 arg18 arg19 arg20 arg21 arg22 arg23) (k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v944) := by
  rw [k0_part46_eq_skeleton]; unfold k0_part46_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part52` keeps every buffer at some contents. -/
theorem k0_part52_keeps  :
    Keeps (F := F) c (All c arg1 arg2 arg3 arg4 arg5 arg6 arg7 arg8 arg9 arg10 arg11 arg12 arg13 arg14 arg15 arg16 arg17 arg18 arg19 arg20 arg21 arg22 arg23) (k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part52_eq_skeleton]; unfold k0_part52_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part58` keeps every buffer at some contents. -/
theorem k0_part58_keeps (v1275 : IVec S16x128 32) (v1276 : Vec F S1x16x128 .i32) :
    Keeps (F := F) c (All c arg1 arg2 arg3 arg4 arg5 arg6 arg7 arg8 arg9 arg10 arg11 arg12 arg13 arg14 arg15 arg16 arg17 arg18 arg19 arg20 arg21 arg22 arg23) (k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1275 v1276) := by
  rw [k0_part58_eq_skeleton]; unfold k0_part58_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part64` keeps every buffer at some contents. -/
theorem k0_part64_keeps (v1443 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1443) := by
  rw [k0_part64_eq_skeleton]; unfold k0_part64_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

end Cert.Proof.Kernel
-- ==== Proof.KKeep4.lean ====
/-
  The straight-line parts of the packed-word kernel keep every buffer (one of six modules).
-/
module

public import proofs.«01_k».proof.Proof.KKeep

@[expose] public section

set_option maxRecDepth 65536

noncomputable section

namespace Cert.Proof.Kernel

open Cert.Kernel Cert.Kernel.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x128 .i32) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x128 .i32) (harg23 : arg23.IsWhole)

/-- `k0_part4` keeps every buffer at some contents. -/
theorem k0_part4_keeps (arg0 : BitVec 32) (k0_t4 : Fin k0_t4_loop.trips) (v1567 : BitVec 32) (v1573 : FVec F S96x128 .bf16) (v1574 : BitVec 32) (v1602 : FVec F S64x128 .f32) :
    Keeps (F := F) c (All c arg1 arg2 arg3 arg4 arg5 arg6 arg7 arg8 arg9 arg10 arg11 arg12 arg13 arg14 arg15 arg16 arg17 arg18 arg19 arg20 arg21 arg22 arg23) (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_t4 v1567 v1573 v1574 v1602) := by
  rw [k0_part4_eq_skeleton]; unfold k0_part4_skel
  dsimp only
  refine .sld fun _ => ?_; refine .ld fun _ => ?_; refine .st ?_; refine .ld fun _ => ?_; refine .ld fun _ => ?_; refine .st ?_; refine .ld fun _ => ?_
  refine .st ?_; refine .ld fun _ => ?_
  exact .done _

/-- `k0_part10` keeps every buffer at some contents. -/
theorem k0_part10_keeps (arg0 : BitVec 32) (k0_t4 : Fin k0_t4_loop.trips) (v1843 : BitVec 32) (v1849 : FVec F S96x128 .bf16) (v1850 : BitVec 32) (v1854 : FVec F S64x128 .bf16) (v1855 : FVec F S64x128 .bf16) (v1856 : FVec F S64x256 .bf16) :
    Keeps (F := F) c (All c arg1 arg2 arg3 arg4 arg5 arg6 arg7 arg8 arg9 arg10 arg11 arg12 arg13 arg14 arg15 arg16 arg17 arg18 arg19 arg20 arg21 arg22 arg23) (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_t4 v1843 v1849 v1850 v1854 v1855 v1856) := by
  rw [k0_part10_eq_skeleton]; unfold k0_part10_skel
  dsimp only
  refine .ld fun _ => ?_; refine .st ?_; refine .ld fun _ => ?_; refine .st ?_; refine .ld fun _ => ?_; refine .sld fun _ => ?_; refine .ld fun _ => ?_
  refine .st ?_; refine .ld fun _ => ?_
  exact .done _

/-- `k0_part17` keeps every buffer at some contents. -/
theorem k0_part17_keeps (v141 : IVec S24x128 32) :
    Keeps (F := F) c (All c arg1 arg2 arg3 arg4 arg5 arg6 arg7 arg8 arg9 arg10 arg11 arg12 arg13 arg14 arg15 arg16 arg17 arg18 arg19 arg20 arg21 arg22 arg23) (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v141) := by
  rw [k0_part17_eq_skeleton]; unfold k0_part17_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part23` keeps every buffer at some contents. -/
theorem k0_part23_keeps  :
    Keeps (F := F) c (All c arg1 arg2 arg3 arg4 arg5 arg6 arg7 arg8 arg9 arg10 arg11 arg12 arg13 arg14 arg15 arg16 arg17 arg18 arg19 arg20 arg21 arg22 arg23) (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part23_eq_skeleton]; unfold k0_part23_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part29` keeps every buffer at some contents. -/
theorem k0_part29_keeps (v474 : IVec S1x16x128 32) :
    Keeps (F := F) c (All c arg1 arg2 arg3 arg4 arg5 arg6 arg7 arg8 arg9 arg10 arg11 arg12 arg13 arg14 arg15 arg16 arg17 arg18 arg19 arg20 arg21 arg22 arg23) (k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v474) := by
  rw [k0_part29_eq_skeleton]; unfold k0_part29_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part35` keeps every buffer at some contents. -/
theorem k0_part35_keeps (v639 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v639) := by
  rw [k0_part35_eq_skeleton]; unfold k0_part35_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part41` keeps every buffer at some contents. -/
theorem k0_part41_keeps (v805 : Vec F S1x64x128 .i8) :
    Keeps (F := F) c (All c arg1 arg2 arg3 arg4 arg5 arg6 arg7 arg8 arg9 arg10 arg11 arg12 arg13 arg14 arg15 arg16 arg17 arg18 arg19 arg20 arg21 arg22 arg23) (k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v805) := by
  rw [k0_part41_eq_skeleton]; unfold k0_part41_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_
  exact .done _

/-- `k0_part47` keeps every buffer at some contents. -/
theorem k0_part47_keeps  :
    Keeps (F := F) c (All c arg1 arg2 arg3 arg4 arg5 arg6 arg7 arg8 arg9 arg10 arg11 arg12 arg13 arg14 arg15 arg16 arg17 arg18 arg19 arg20 arg21 arg22 arg23) (k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part47_eq_skeleton]; unfold k0_part47_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part53` keeps every buffer at some contents. -/
theorem k0_part53_keeps (v1137 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1137) := by
  rw [k0_part53_eq_skeleton]; unfold k0_part53_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_; refine .ld fun _ => ?_
  exact .done _

/-- `k0_part59` keeps every buffer at some contents. -/
theorem k0_part59_keeps (v1304 : IVec S64x128 8) :
    Keeps (F := F) c (All c arg1 arg2 arg3 arg4 arg5 arg6 arg7 arg8 arg9 arg10 arg11 arg12 arg13 arg14 arg15 arg16 arg17 arg18 arg19 arg20 arg21 arg22 arg23) (k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1304) := by
  rw [k0_part59_eq_skeleton]; unfold k0_part59_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part65` keeps every buffer at some contents. -/
theorem k0_part65_keeps  :
    Keeps (F := F) c (All c arg1 arg2 arg3 arg4 arg5 arg6 arg7 arg8 arg9 arg10 arg11 arg12 arg13 arg14 arg15 arg16 arg17 arg18 arg19 arg20 arg21 arg22 arg23) (k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part65_eq_skeleton]; unfold k0_part65_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

end Cert.Proof.Kernel
-- ==== Proof.KKeep5.lean ====
/-
  The straight-line parts of the packed-word kernel keep every buffer (one of six modules).
-/
module

public import proofs.«01_k».proof.Proof.KKeep

@[expose] public section

set_option maxRecDepth 65536

noncomputable section

namespace Cert.Proof.Kernel

open Cert.Kernel Cert.Kernel.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x128 .i32) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x128 .i32) (harg23 : arg23.IsWhole)

/-- `k0_part5` keeps every buffer at some contents. -/
theorem k0_part5_keeps (k0_t4 : Fin k0_t4_loop.trips) (arg24 : BitVec 32) (v1616 : BitVec 32) (v1644 : FVec F S64x128 .f32) :
    Keeps (F := F) c (All c arg1 arg2 arg3 arg4 arg5 arg6 arg7 arg8 arg9 arg10 arg11 arg12 arg13 arg14 arg15 arg16 arg17 arg18 arg19 arg20 arg21 arg22 arg23) (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t4 arg24 v1616 v1644) := by
  rw [k0_part5_eq_skeleton]; unfold k0_part5_skel
  dsimp only
  refine .sld fun _ => ?_; refine .ld fun _ => ?_; refine .st ?_; refine .ld fun _ => ?_; refine .ld fun _ => ?_; refine .ld fun _ => ?_; refine .st ?_
  refine .ld fun _ => ?_; refine .st ?_
  exact .done _

/-- `k0_part11` keeps every buffer at some contents. -/
theorem k0_part11_keeps (c0_i32_1354 : BitVec 32) (c1_i32_1356 : BitVec 32) (k0_t6 : Fin k0_t6_loop.trips) :
    Keeps (F := F) c (All c arg1 arg2 arg3 arg4 arg5 arg6 arg7 arg8 arg9 arg10 arg11 arg12 arg13 arg14 arg15 arg16 arg17 arg18 arg19 arg20 arg21 arg22 arg23) (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c0_i32_1354 c1_i32_1356 k0_t6) := by
  rw [k0_part11_eq_skeleton]; unfold k0_part11_skel
  dsimp only
  refine .ld fun _ => ?_; refine .ld fun _ => ?_; refine .st ?_; refine .ld fun _ => ?_; refine .st ?_; refine .ld fun _ => ?_
  exact .done _

/-- `k0_part18` keeps every buffer at some contents. -/
theorem k0_part18_keeps  :
    Keeps (F := F) c (All c arg1 arg2 arg3 arg4 arg5 arg6 arg7 arg8 arg9 arg10 arg11 arg12 arg13 arg14 arg15 arg16 arg17 arg18 arg19 arg20 arg21 arg22 arg23) (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part18_eq_skeleton]; unfold k0_part18_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part24` keeps every buffer at some contents. -/
theorem k0_part24_keeps (v333 : IVec S24x128 32) :
    Keeps (F := F) c (All c arg1 arg2 arg3 arg4 arg5 arg6 arg7 arg8 arg9 arg10 arg11 arg12 arg13 arg14 arg15 arg16 arg17 arg18 arg19 arg20 arg21 arg22 arg23) (k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v333) := by
  rw [k0_part24_eq_skeleton]; unfold k0_part24_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part30` keeps every buffer at some contents. -/
theorem k0_part30_keeps (v501 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v501) := by
  rw [k0_part30_eq_skeleton]; unfold k0_part30_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part36` keeps every buffer at some contents. -/
theorem k0_part36_keeps  :
    Keeps (F := F) c (All c arg1 arg2 arg3 arg4 arg5 arg6 arg7 arg8 arg9 arg10 arg11 arg12 arg13 arg14 arg15 arg16 arg17 arg18 arg19 arg20 arg21 arg22 arg23) (k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part36_eq_skeleton]; unfold k0_part36_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part42` keeps every buffer at some contents. -/
theorem k0_part42_keeps (v834 : IVec S1x16x128 32) :
    Keeps (F := F) c (All c arg1 arg2 arg3 arg4 arg5 arg6 arg7 arg8 arg9 arg10 arg11 arg12 arg13 arg14 arg15 arg16 arg17 arg18 arg19 arg20 arg21 arg22 arg23) (k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v834) := by
  rw [k0_part42_eq_skeleton]; unfold k0_part42_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part48` keeps every buffer at some contents. -/
theorem k0_part48_keeps (v999 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v999) := by
  rw [k0_part48_eq_skeleton]; unfold k0_part48_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part54` keeps every buffer at some contents. -/
theorem k0_part54_keeps (v1165 : Vec F S1x64x128 .i8) :
    Keeps (F := F) c (All c arg1 arg2 arg3 arg4 arg5 arg6 arg7 arg8 arg9 arg10 arg11 arg12 arg13 arg14 arg15 arg16 arg17 arg18 arg19 arg20 arg21 arg22 arg23) (k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1165) := by
  rw [k0_part54_eq_skeleton]; unfold k0_part54_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_
  exact .done _

/-- `k0_part60` keeps every buffer at some contents. -/
theorem k0_part60_keeps  :
    Keeps (F := F) c (All c arg1 arg2 arg3 arg4 arg5 arg6 arg7 arg8 arg9 arg10 arg11 arg12 arg13 arg14 arg15 arg16 arg17 arg18 arg19 arg20 arg21 arg22 arg23) (k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part60_eq_skeleton]; unfold k0_part60_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part66` keeps every buffer at some contents. -/
theorem k0_part66_keeps (v1497 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1497) := by
  rw [k0_part66_eq_skeleton]; unfold k0_part66_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_; refine .ld fun _ => ?_
  exact .done _

end Cert.Proof.Kernel
-- ==== Proof.KKeep6.lean ====
/-
  The straight-line parts of the packed-word kernel keep every buffer (one of six modules).
-/
module

public import proofs.«01_k».proof.Proof.KKeep

@[expose] public section

set_option maxRecDepth 65536

noncomputable section

namespace Cert.Proof.Kernel

open Cert.Kernel Cert.Kernel.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x128 .i32) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x128 .i32) (harg23 : arg23.IsWhole)

/-- `k0_part6` keeps every buffer at some contents. -/
theorem k0_part6_keeps (arg0 : BitVec 32) (k0_t4 : Fin k0_t4_loop.trips) (v1659 : BitVec 32) (v1665 : FVec F S96x128 .bf16) (v1666 : BitVec 32) (v1670 : FVec F S64x128 .bf16) (c36_i32_1402 : BitVec 32) :
    Keeps (F := F) c (All c arg1 arg2 arg3 arg4 arg5 arg6 arg7 arg8 arg9 arg10 arg11 arg12 arg13 arg14 arg15 arg16 arg17 arg18 arg19 arg20 arg21 arg22 arg23) (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_t4 v1659 v1665 v1666 v1670 c36_i32_1402) := by
  rw [k0_part6_eq_skeleton]; unfold k0_part6_skel
  dsimp only
  refine .ld fun _ => ?_; refine .sld fun _ => ?_; refine .ld fun _ => ?_; refine .st ?_; refine .ld fun _ => ?_; refine .ld fun _ => ?_; refine .st ?_
  refine .ld fun _ => ?_; refine .st ?_
  exact .done _

/-- `k0_part13` keeps every buffer at some contents. -/
theorem k0_part13_keeps  :
    Keeps (F := F) c (All c arg1 arg2 arg3 arg4 arg5 arg6 arg7 arg8 arg9 arg10 arg11 arg12 arg13 arg14 arg15 arg16 arg17 arg18 arg19 arg20 arg21 arg22 arg23) (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part13_eq_skeleton]; unfold k0_part13_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part19` keeps every buffer at some contents. -/
theorem k0_part19_keeps (v195 : IVec S24x128 32) (v196 : Vec F S1x24x128 .i32) :
    Keeps (F := F) c (All c arg1 arg2 arg3 arg4 arg5 arg6 arg7 arg8 arg9 arg10 arg11 arg12 arg13 arg14 arg15 arg16 arg17 arg18 arg19 arg20 arg21 arg22 arg23) (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v195 v196) := by
  rw [k0_part19_eq_skeleton]; unfold k0_part19_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part25` keeps every buffer at some contents. -/
theorem k0_part25_keeps (v363 : IVec S24x128 32) :
    Keeps (F := F) c (All c arg1 arg2 arg3 arg4 arg5 arg6 arg7 arg8 arg9 arg10 arg11 arg12 arg13 arg14 arg15 arg16 arg17 arg18 arg19 arg20 arg21 arg22 arg23) (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v363) := by
  rw [k0_part25_eq_skeleton]; unfold k0_part25_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part31` keeps every buffer at some contents. -/
theorem k0_part31_keeps  :
    Keeps (F := F) c (All c arg1 arg2 arg3 arg4 arg5 arg6 arg7 arg8 arg9 arg10 arg11 arg12 arg13 arg14 arg15 arg16 arg17 arg18 arg19 arg20 arg21 arg22 arg23) (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part31_eq_skeleton]; unfold k0_part31_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part37` keeps every buffer at some contents. -/
theorem k0_part37_keeps (v693 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v693) := by
  rw [k0_part37_eq_skeleton]; unfold k0_part37_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part43` keeps every buffer at some contents. -/
theorem k0_part43_keeps (v861 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v861) := by
  rw [k0_part43_eq_skeleton]; unfold k0_part43_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part49` keeps every buffer at some contents. -/
theorem k0_part49_keeps  :
    Keeps (F := F) c (All c arg1 arg2 arg3 arg4 arg5 arg6 arg7 arg8 arg9 arg10 arg11 arg12 arg13 arg14 arg15 arg16 arg17 arg18 arg19 arg20 arg21 arg22 arg23) (k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part49_eq_skeleton]; unfold k0_part49_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part55` keeps every buffer at some contents. -/
theorem k0_part55_keeps (v1194 : IVec S1x16x128 32) :
    Keeps (F := F) c (All c arg1 arg2 arg3 arg4 arg5 arg6 arg7 arg8 arg9 arg10 arg11 arg12 arg13 arg14 arg15 arg16 arg17 arg18 arg19 arg20 arg21 arg22 arg23) (k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1194) := by
  rw [k0_part55_eq_skeleton]; unfold k0_part55_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part61` keeps every buffer at some contents. -/
theorem k0_part61_keeps (v1359 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1359) := by
  rw [k0_part61_eq_skeleton]; unfold k0_part61_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part67` keeps every buffer at some contents. -/
theorem k0_part67_keeps (v1525 : Vec F S1x64x128 .i8) :
    Keeps (F := F) c (All c arg1 arg2 arg3 arg4 arg5 arg6 arg7 arg8 arg9 arg10 arg11 arg12 arg13 arg14 arg15 arg16 arg17 arg18 arg19 arg20 arg21 arg22 arg23) (k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1525) := by
  rw [k0_part67_eq_skeleton]; unfold k0_part67_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_
  exact .done _

end Cert.Proof.Kernel
-- ==== Proof.KKeepBody.lean ====
/-
  The loops of the packed-word kernel, and its whole body, keep every buffer.
-/
module

public import proofs.«01_k».proof.Proof.KKeep1
public import proofs.«01_k».proof.Proof.KKeep2
public import proofs.«01_k».proof.Proof.KKeep3
public import proofs.«01_k».proof.Proof.KKeep4
public import proofs.«01_k».proof.Proof.KKeep5
public import proofs.«01_k».proof.Proof.KKeep6

@[expose] public section

set_option maxRecDepth 65536

noncomputable section

namespace Cert.Proof.Kernel

open Cert.Kernel Cert.Kernel.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x128 .i32) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x128 .i32) (harg23 : arg23.IsWhole)

/-- `k0_t1_body` keeps every buffer at some contents. -/
theorem k0_t1_body_keeps (v11 : Elt F .f32) (v19 : Vec F S1x1x2048x128 .bf16) (v21 : Vec F S1x1x2048x128 .bf16) (k : Fin k0_t1_loop.trips) (u : Unit) :
    Keeps (F := F) c (All c arg1 arg2 arg3 arg4 arg5 arg6 arg7 arg8 arg9 arg10 arg11 arg12 arg13 arg14 arg15 arg16 arg17 arg18 arg19 arg20 arg21 arg22 arg23) (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v11 v19 v21 k u) := by
  unfold k0_t1_body
  dsimp only
  refine .call (k0_part1_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _) fun r => ?_
  obtain ⟨arg24, v1576, v1580, v1590, v1596, v1602, v1609⟩ := r; dsimp only
  refine .call (k0_part2_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _) fun r => ?_
  obtain ⟨v1631, v1637, v1643, v1651, v1659⟩ := r; dsimp only
  refine .ld fun _ => ?_; refine .st ?_; refine .ld fun _ => ?_; refine .st ?_
  exact .done _

/-- `k0_t2_body` keeps every buffer at some contents. -/
theorem k0_t2_body_keeps  (k : Fin k0_t2_loop.trips) (u : Unit) :
    Keeps (F := F) c (All c arg1 arg2 arg3 arg4 arg5 arg6 arg7 arg8 arg9 arg10 arg11 arg12 arg13 arg14 arg15 arg16 arg17 arg18 arg19 arg20 arg21 arg22 arg23) (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k u) := by
  unfold k0_t2_body
  dsimp only
  refine .ldq fun _ => ?_; refine .ldq fun _ => ?_; refine .ldq fun _ => ?_; refine .ldq fun _ => ?_; refine .ld fun _ => ?_; refine .st ?_
  exact .done _

/-- `k0_t3_body` keeps every buffer at some contents. -/
theorem k0_t3_body_keeps  (k : Fin k0_t3_loop.trips) (u : Unit) :
    Keeps (F := F) c (All c arg1 arg2 arg3 arg4 arg5 arg6 arg7 arg8 arg9 arg10 arg11 arg12 arg13 arg14 arg15 arg16 arg17 arg18 arg19 arg20 arg21 arg22 arg23) (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k u) := by
  unfold k0_t3_body
  dsimp only
  refine .ldq fun _ => ?_; refine .ld fun _ => ?_; refine .st ?_; refine .ldq fun _ => ?_; refine .ld fun _ => ?_; refine .st ?_
  exact .done _

/-- `k0_t4_body` keeps every buffer at some contents. -/
theorem k0_t4_body_keeps (arg0 : BitVec 32) (k : Fin k0_t4_loop.trips) (u : Unit) :
    Keeps (F := F) c (All c arg1 arg2 arg3 arg4 arg5 arg6 arg7 arg8 arg9 arg10 arg11 arg12 arg13 arg14 arg15 arg16 arg17 arg18 arg19 arg20 arg21 arg22 arg23) (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k u) := by
  unfold k0_t4_body
  dsimp only
  refine .call (k0_part3_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _) fun r => ?_
  obtain ⟨arg24, v1567, v1573, v1574, v1602⟩ := r; dsimp only
  refine .call (k0_part4_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _) fun r => ?_
  obtain ⟨v1616, v1644⟩ := r; dsimp only
  refine .call (k0_part5_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _) fun r => ?_
  obtain ⟨v1659, v1665, v1666, v1670, c36_i32_1402⟩ := r; dsimp only
  refine .call (k0_part6_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _) fun r => ?_
  obtain ⟨v1708, v1712, c36_i32_1417⟩ := r; dsimp only
  refine .call (k0_part7_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _) fun r => ?_
  obtain ⟨v1751, v1757, v1758, v1762, v1768, v1769⟩ := r; dsimp only
  refine .call (k0_part8_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _) fun r => ?_
  obtain ⟨v1800, v1804, v1810, v1811⟩ := r; dsimp only
  refine .call (k0_part9_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _) fun r => ?_
  obtain ⟨v1843, v1849, v1850, v1854, v1855, v1856⟩ := r; dsimp only
  refine .call (k0_part10_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _) fun r => ?_
  obtain ⟨v1892, v1896, v1897, v1898⟩ := r; dsimp only
  refine .ld fun _ => ?_; refine .st ?_; refine .ld fun _ => ?_; refine .st ?_; refine .ld fun _ => ?_; refine .sld fun _ => ?_; refine .ld fun _ => ?_
  refine .st ?_
  exact .done _

/-- `k0_t5_body` keeps every buffer at some contents. -/
theorem k0_t5_body_keeps (v18 : FVec F S1x128 .f32) (k : Fin k0_t5_loop.trips) (u : Unit) :
    Keeps (F := F) c (All c arg1 arg2 arg3 arg4 arg5 arg6 arg7 arg8 arg9 arg10 arg11 arg12 arg13 arg14 arg15 arg16 arg17 arg18 arg19 arg20 arg21 arg22 arg23) (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v18 k u) := by
  unfold k0_t5_body
  dsimp only
  refine .ld fun _ => ?_; refine .ld fun _ => ?_; refine .st ?_; refine .ld fun _ => ?_; refine .st ?_; refine .ld fun _ => ?_; refine .ld fun _ => ?_
  refine .st ?_; refine .ld fun _ => ?_; refine .st ?_
  exact .done _

/-- `k0_t6_body` keeps every buffer at some contents. -/
theorem k0_t6_body_keeps  (k : Fin k0_t6_loop.trips) (u : Unit) :
    Keeps (F := F) c (All c arg1 arg2 arg3 arg4 arg5 arg6 arg7 arg8 arg9 arg10 arg11 arg12 arg13 arg14 arg15 arg16 arg17 arg18 arg19 arg20 arg21 arg22 arg23) (k0_t6_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k u) := by
  unfold k0_t6_body
  dsimp only
  refine .call (k0_part11_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _) fun r => ?_
  obtain ⟨arg24, v1604, v1605, v1606⟩ := r; dsimp only
  refine .ld fun _ => ?_; refine .st ?_; refine .ld fun _ => ?_; refine .st ?_
  exact .done _

/-- `k0_part12` keeps every buffer at some contents. -/
theorem k0_part12_keeps  :
    Keeps (F := F) c (All c arg1 arg2 arg3 arg4 arg5 arg6 arg7 arg8 arg9 arg10 arg11 arg12 arg13 arg14 arg15 arg16 arg17 arg18 arg19 arg20 arg21 arg22 arg23) (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part12_eq_skeleton]; unfold k0_part12_skel
  dsimp only
  refine .sld fun _ => ?_; refine .ld fun _ => ?_; refine .ld fun _ => ?_; refine .ld fun _ => ?_; refine .loop (fun k u => k0_t1_body_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ k u) fun _ => ?_
  refine .ld fun _ => ?_; refine .ld fun _ => ?_; refine .st ?_
  exact .done _

/-- `k0_part68` keeps every buffer at some contents. -/
theorem k0_part68_keeps  :
    Keeps (F := F) c (All c arg1 arg2 arg3 arg4 arg5 arg6 arg7 arg8 arg9 arg10 arg11 arg12 arg13 arg14 arg15 arg16 arg17 arg18 arg19 arg20 arg21 arg22 arg23) (k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part68_eq_skeleton]; unfold k0_part68_skel
  dsimp only
  refine .call (k0_part12_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun r => ?_
  obtain ⟨arg0, v18⟩ := r; dsimp only
  refine .call (k0_part13_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part14_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part15_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part16_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part17_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part18_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun r => ?_
  obtain ⟨v195, v196⟩ := r; dsimp only
  refine .call (k0_part19_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _) fun _ => ?_
  refine .call (k0_part20_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part21_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part22_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part23_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part24_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part25_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part26_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part27_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part28_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part29_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part30_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part31_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun r => ?_
  obtain ⟨v555, v556⟩ := r; dsimp only
  refine .call (k0_part32_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _) fun _ => ?_
  refine .call (k0_part33_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part34_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part35_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part36_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part37_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part38_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part39_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part40_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part41_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part42_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part43_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part44_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun r => ?_
  obtain ⟨v915, v916⟩ := r; dsimp only
  refine .call (k0_part45_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _) fun _ => ?_
  refine .call (k0_part46_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part47_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part48_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part49_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part50_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part51_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part52_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part53_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part54_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part55_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part56_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part57_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun r => ?_
  obtain ⟨v1275, v1276⟩ := r; dsimp only
  refine .call (k0_part58_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _) fun _ => ?_
  refine .call (k0_part59_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part60_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part61_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part62_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part63_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part64_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part65_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part66_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part67_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .st ?_
  exact .done _

/-- `cc0_fno_bwd` keeps every buffer at some contents. -/
theorem cc0_fno_bwd_keeps  :
    Keeps (F := F) c (All c arg1 arg2 arg3 arg4 arg5 arg6 arg7 arg8 arg9 arg10 arg11 arg12 arg13 arg14 arg15 arg16 arg17 arg18 arg19 arg20 arg21 arg22 arg23) (cc0_fno_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [cc0_fno_bwd_eq_skeleton]; unfold cc0_fno_bwd_skel
  dsimp only
  refine .call (k0_part68_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun r => ?_
  obtain ⟨arg0, v18⟩ := r; dsimp only
  refine .ld fun _ => ?_; refine .ld fun _ => ?_; refine .st ?_; refine .loop (fun k u => k0_t2_body_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k u) fun _ => ?_
  refine .loop (fun k u => k0_t3_body_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k u) fun _ => ?_
  refine .loop (fun k u => k0_t4_body_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ k u) fun _ => ?_
  refine .loop (fun k u => k0_t5_body_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ k u) fun _ => ?_
  refine .loop (fun k u => k0_t6_body_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k u) fun _ => ?_
  exact .done _

end Cert.Proof.Kernel
-- ==== Proof.KFrame.lean ====
/-
  The frame of the bit-level program: the body keeps every buffer, so the launch ends with the arguments unchanged.
-/
module

public import proofs.«01_k».proof.Proof.KKeepBody

@[expose] public section

set_option maxRecDepth 16384

noncomputable section

namespace Cert.Proof.Kernel

open Cert.Kernel Cert.Kernel.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [BitOps F]

local notation "𝕄" => MT nD τ sig Unit (Elt F) ℕ (UU nD τ) ℕ

variable (m : (ℓ : Loc nD τ sig) → Buf (Elt F) ℓ) (ρ : Dev nD → PrngReg)

/-- The launch's data: no window's contents after the body are named. -/
def dats (p : Fin 1) (c : Dev nD) : Dat τ (Elt F) Unit ℕ (UR sig nD τ) ℕ (cfgs p) c :=
  match p with
  | 0 =>
    { A := fun w => V m c (Pipeline.arrRef spec0 w)
      after := Dat.unnamed (cfg := cfg0)
      Φ := fun _ => Pipeline.ΦA spec0 c
      q := fun _ => fullShare
      owed := fun _ => 0 }
  | ⟨_ + 1, h⟩ => absurd h (Nat.not_lt.2 (Nat.le_add_left _ _))

/-- A memref owned at some contents. -/
theorem any_of {c : Dev nD} {sp : Space} {s : Shape} {e : EltTy} (mm : Memref sig .tc sp s e) :
    (iprop(∃ X, owns (c : Thread nD τ) mm fullShare X) : sProp 𝕄) ⊢ Any c mm := by
  iintro ⟨%X, H⟩
  iapply (ownsSat_intro (c := (c : Thread nD τ)) (m := mm) (q := fullShare) (Φ := fun _ => True) (X := X) trivial)
  iexact H

/-- And back. -/
theorem of_any {c : Dev nD} {sp : Space} {s : Shape} {e : EltTy} (mm : Memref sig .tc sp s e) :
    (Any c mm : sProp 𝕄) ⊢ iprop(∃ X, owns (c : Thread nD τ) mm fullShare X) := by
  iintro H
  ihave ⟨%X, -, H⟩ := (ownsSat_elim (c := (c : Thread nD τ)) (m := mm) (q := fullShare) (fun _ => True)) $$ H
  iexists X; iexact H

/-- A whole buffer at some contents. -/
theorem any_whole {c : Dev nD} (b : Ref sig .tc) :
    (iprop(∃ f : Buf (Elt F) ((c : Thread nD τ).loc b), ((c : Thread nD τ).loc b) ↦{fullShare} f) : sProp 𝕄)
      ⊢ Any c (Memref.whole b) := by
  refine BIBase.Entails.trans ?_ (any_of (Memref.whole b))
  simp only [owns_whole]
  exact .rfl

/-- And back. -/
theorem whole_any {c : Dev nD} (b : Ref sig .tc) :
    (Any c (Memref.whole b) : sProp 𝕄)
      ⊢ iprop(∃ f : Buf (Elt F) ((c : Thread nD τ).loc b), ((c : Thread nD τ).loc b) ↦{fullShare} f) := by
  refine (of_any _).trans ?_
  simp only [owns_whole]
  exact .rfl

/-- The body's obligation, every window's contents forgotten. -/
theorem body_obligation (c : Dev nD) :
    BodyObligationLoose (dats m 0 c) defs₀ 𝒱₀ () Set.univ (fun _ => true) := by
  intro t
  dsimp only
  rw [bigSep_W0]
  have hΦ (u : Fin (cfg0.N + 1)) : (dats m 0 c).Φ u = iprop(Pipeline.scopedRest spec0 c ∗ ∃ r, prngReg c r) := rfl
  rw [show (dats m 0 c).owesAt () t.succ = (dats m 0 c).owesAt () t.castSucc from rfl]
  rw [hΦ, hΦ, scopedRest0_eq]
  change _ ⊢ wp _ _ _ (bodyAt0 t) _
  iintro ⟨⟨⟨K0, K1, K2, K3, K4, K5, K6, K7⟩, Hr⟩, Ho, H0, H1, H2, H3, H4, H5, H6, H7, H8, H9, H10, H11, H12, H13, H14⟩
  iapply (wp_wand frame (wpE (defs₀ (F := F)) 𝒱₀ (c : Thread nD τ) none) Set.univ) $$ [H0 H1 H2 H3 H4 H5 H6 H7 H8 H9 H10 H11 H12 H13 H14 K0 K1 K2 K3 K4 K5 K6 K7]
  · iapply (cc0_fno_bwd_keeps c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _))
    unfold All
    isplitl [H0]; · iapply (any_of _); iexact H0
    isplitl [H1]; · iapply (any_of _); iexact H1
    isplitl [H2]; · iapply (any_of _); iexact H2
    isplitl [H3]; · iapply (any_of _); iexact H3
    isplitl [H4]; · iapply (any_of _); iexact H4
    isplitl [H5]; · iapply (any_of _); iexact H5
    isplitl [H6]; · iapply (any_of _); iexact H6
    isplitl [H7]; · iapply (any_of _); iexact H7
    isplitl [H8]; · iapply (any_of _); iexact H8
    isplitl [H9]; · iapply (any_of _); iexact H9
    isplitl [H10]; · iapply (any_of _); iexact H10
    isplitl [H11]; · iapply (any_of _); iexact H11
    isplitl [H12]; · iapply (any_of _); iexact H12
    isplitl [H13]; · iapply (any_of _); iexact H13
    isplitl [H14]; · iapply (any_of _); iexact H14
    isplitl [K0]; · iapply (any_whole _); iexact K0
    isplitl [K1]; · iapply (any_whole _); iexact K1
    isplitl [K2]; · iapply (any_whole _); iexact K2
    isplitl [K3]; · iapply (any_whole _); iexact K3
    isplitl [K4]; · iapply (any_whole _); iexact K4
    isplitl [K5]; · iapply (any_whole _); iexact K5
    isplitl [K6]; · iapply (any_whole _); iexact K6
    iapply (any_whole _); iexact K7
  · iintro %u H
    unfold All
    icases H with ⟨H0, H1, H2, H3, H4, H5, H6, H7, H8, H9, H10, H11, H12, H13, H14, K0, K1, K2, K3, K4, K5, K6, K7⟩
    isplitl [K0 K1 K2 K3 K4 K5 K6 K7 Hr]
    · isplitl [K0 K1 K2 K3 K4 K5 K6 K7]
      · isplitl [K0]; · iapply (whole_any _); iexact K0
        isplitl [K1]; · iapply (whole_any _); iexact K1
        isplitl [K2]; · iapply (whole_any _); iexact K2
        isplitl [K3]; · iapply (whole_any _); iexact K3
        isplitl [K4]; · iapply (whole_any _); iexact K4
        isplitl [K5]; · iapply (whole_any _); iexact K5
        isplitl [K6]; · iapply (whole_any _); iexact K6
        iapply (whole_any _); iexact K7
      · iexact Hr
    isplitl [Ho]; · iexact Ho
    isplitl [H0]; · iapply (of_any _); iexact H0
    isplitl [H1]; · iapply (of_any _); iexact H1
    isplitl [H2]; · iapply (of_any _); iexact H2
    isplitl [H3]; · iapply (of_any _); iexact H3
    isplitl [H4]; · iapply (of_any _); iexact H4
    isplitl [H5]; · iapply (of_any _); iexact H5
    isplitl [H6]; · iapply (of_any _); iexact H6
    isplitl [H7]; · iapply (of_any _); iexact H7
    isplitl [H8]; · iapply (of_any _); iexact H8
    isplitl [H9]; · iapply (of_any _); iexact H9
    isplitl [H10]; · iapply (of_any _); iexact H10
    isplitl [H11]; · iapply (of_any _); iexact H11
    isplitl [H12]; · iapply (of_any _); iexact H12
    isplitl [H13]; · iapply (of_any _); iexact H13
    iapply (of_any _); iexact H14

/-- The buffers the host lines after the region write. -/
def tailT : Finset (Ref sig .tc) := {main_v10, main_v11, main_v12, main_v13, main_v14, main_v15}

/-- What those lines write lies among them. -/
theorem tail_writes : ∀ ops ∈ ([hostOps1] : List (List (HloOp τ sig (Elt F)))), ∀ op ∈ ops, ∀ b : Ref sig .tc,
    Proc.devRef .tc b ∈ op.writes → b ∈ tailT := by
  intro ops hops op hop b hb
  simp only [List.mem_cons, List.mem_nil_iff, or_false] at hops
  subst hops
  simp only [hostOps1, List.mem_cons, List.mem_nil_iff, or_false] at hop
  rcases hop with rfl | rfl | rfl | rfl | rfl | rfl <;>
  · simp only [StableHlo.unary_writes, Finset.mem_singleton] at hb
    obtain rfl := Proc.devRef_injective (τ := τ) _ hb
    decide

/-- The program runs to its end, the arguments unchanged and every semaphore back at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8)) ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      (h.1.arr_in c 2 rfl).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      (h.1.arr_in c 0 rfl).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c)⟩, h.2⟩)
    (Pipeline.θ_run_frame_around_T_forget cfgs (dats m) 0 launch0 defs₀ 𝒱₀ (fun _ => true) tailT m ρ main
      (hbody := body_obligation m)
      (hshare := fun c => (dats m 0 c).share_full fun _ => rfl) (howed := fun _ _ => rfl)
      (V₀ := V0 m) (opss := [hostOps1]) (hsub := sfx_sub) (hfresh := sfx_fresh) (hkeep := sfx_keeps)
      (hT := tail_writes) (hmain := hmain m 𝒱₀) (hA := fun _ _ => rfl) (hΦ := fun _ _ => rfl)
      (Q' := fun r => Pipeline.RDat.FramePostR cfg0 (fun c => (dats m 0 c).toRForget (fun _ => true)) tailT (fun c b => V0 m c (Proc.devRef .tc b)) r ∧ r.2.sem = fun _ => 0)
      (hQ' := fun _ h => h))

end Cert.Proof.Kernel
-- ==== Proof.KIKeep.lean ====
/-
  What the body of the packed-word kernel keeps: every buffer it touches, at some contents.
-/
module

public import proofs.«01_k».proof.Proof.Own
public import proofs.«01_k».proof.Proof.Gen.KernelIdeal
public import proofs.«01_k».proof.Proof.Gen.KernelIdeal.Skeleton
public import proofs.«01_k».proof.Proof.Gen.KernelIdeal.Frame

@[expose] public section

set_option maxRecDepth 65536

noncomputable section

namespace Cert.Proof.KernelIdeal

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra the body is run at. -/
abbrev UU (nD : Nat) (τ : Topo) : Type := UR sig nD τ
abbrev 𝒱₀ : Variants := Variants.none

local notation "𝕄" => MT nD τ sig Unit (Elt F) ℕ (UU nD τ) ℕ

/-- The memref is owned at some contents. -/
abbrev Any (c : Dev nD) {sp : Space} {s : Shape} {e : EltTy} (m : Memref sig .tc sp s e) : sProp 𝕄 :=
  ownsSat (c : Thread nD τ) m fullShare (fun _ => True)

/-- From `P` the program runs to `P` again. -/
abbrev Keeps (c : Dev nD) (P : sProp 𝕄) {α : Type} (p : Prog (TpuEff nD τ sig (Elt F) Λ₀ .tc) α) : Prop :=
  P ⊢ wp frame (wpE (defs₀ (F := F)) 𝒱₀ (c : Thread nD τ) none) Set.univ p (fun _ => P)

/-- `P` holds the memref, and takes it back at any contents. -/
class Has (c : Dev nD) (P : sProp 𝕄) {sp : Space} {s : Shape} {e : EltTy} (m : Memref sig .tc sp s e) : Prop where
  acc : P ⊢ iprop(Any c m ∗ (Any c m -∗ P))

section Steps

variable {c : Dev nD} {P : sProp (MT nD τ sig Unit (Elt F) ℕ (UU nD τ) ℕ)} {α β : Type} {s s' : Shape} {e : EltTy} {cs : CoreSpace}

/-- A load keeps what holds its memref. -/
theorem Keeps.ld {m : Memref sig .tc cs s e} [hP : Has c P m] {r : LoadRect s} {hl : m.view.LoadsAt r}
    {k : (r.shape.Idx → Elt F e) → Prog (TpuEff nD τ sig (Elt F) Λ₀ .tc) α} (h : ∀ x, Keeps c P (k x)) :
    Keeps c P (Prog.lift (TpuEff.load m r hl) >>= k : Prog (TpuEff nD τ sig (Elt F) Λ₀ .tc) α) := by
  refine hP.acc.trans ?_
  iintro ⟨H, HK⟩
  iapply (wp_ld_any 𝒱₀ (c : Thread nD τ) none Set.univ) $$ H
  iintro %x H
  iapply (h x); iapply HK; iexact H

/-- A load through a squeezed slice keeps what holds its memref. -/
theorem Keeps.ldq {m : Memref sig .tc cs s e} [hP : Has c P m] {r₀ : Rect s} {hr : ∀ a, r₀.stride a = 1}
    {hs : r₀.shape.Squeezes s'} {r : LoadRect s'} {hl : ((m.slice r₀ hr).squeeze s' hs).view.LoadsAt r}
    {k : (r.shape.Idx → Elt F e) → Prog (TpuEff nD τ sig (Elt F) Λ₀ .tc) α} (h : ∀ x, Keeps c P (k x)) :
    Keeps c P (Prog.lift (TpuEff.load ((m.slice r₀ hr).squeeze s' hs) r hl) >>= k : Prog (TpuEff nD τ sig (Elt F) Λ₀ .tc) α) := by
  refine hP.acc.trans ?_
  iintro ⟨H, HK⟩
  iapply (wp_ld_sq_any 𝒱₀ (c : Thread nD τ) none Set.univ) $$ H
  iintro %x H
  iapply (h x); iapply HK; iexact H

/-- A word read keeps what holds its memref. -/
theorem Keeps.sld {m : Memref sig .tc .smem s e} [hP : Has c P m] {r : Rect s} {h1 : r.shape.numel = 1} {hp : e.packing = 1}
    {k : Elt F e → Prog (TpuEff nD τ sig (Elt F) Λ₀ .tc) α} (h : ∀ x, Keeps c P (k x)) :
    Keeps c P (smemLoad (p := .tc) m r h1 hp >>= k : Prog (TpuEff nD τ sig (Elt F) Λ₀ .tc) α) := by
  refine hP.acc.trans ?_
  iintro ⟨H, HK⟩
  iapply (wp_sld_any 𝒱₀ (c : Thread nD τ) none Set.univ) $$ H
  iintro %x H
  iapply (h x); iapply HK; iexact H

/-- A store keeps what holds its memref. -/
theorem Keeps.st {m : Memref sig .tc cs s e} [hP : Has c P m] {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} (h : Keeps c P (k ⟨⟩)) :
    Keeps c P (Prog.lift (TpuEff.store m r w Finset.univ hx hm) >>= k : Prog (TpuEff nD τ sig (Elt F) Λ₀ .tc) α) := by
  refine hP.acc.trans ?_
  iintro ⟨H, HK⟩
  iapply (wp_st_any 𝒱₀ (c : Thread nD τ) none Set.univ) $$ H
  iintro H
  iapply h; iapply HK; iexact H

/-- A part that keeps `P`, then the rest. -/
theorem Keeps.call {p : Prog (TpuEff nD τ sig (Elt F) Λ₀ .tc) β} {k : β → Prog (TpuEff nD τ sig (Elt F) Λ₀ .tc) α}
    (hp : Keeps c P p) (h : ∀ x, Keeps c P (k x)) : Keeps c P (p >>= k : Prog (TpuEff nD τ sig (Elt F) Λ₀ .tc) α) := by
  iintro H
  iapply (wp_call 𝒱₀ (c : Thread nD τ) none Set.univ hp) $$ H
  iintro %x H
  iapply (h x); iexact H

/-- A loop each of whose trips keeps `P`, then the rest. -/
theorem Keeps.loop {w : ℕ} {σ : Type} {L : Scf.Loop w} {hok : L.OK} {init : σ}
    {body : Fin L.trips → σ → Prog (TpuEff nD τ sig (Elt F) Λ₀ .tc) σ} {k : σ → Prog (TpuEff nD τ sig (Elt F) Λ₀ .tc) α}
    (hb : ∀ k u, Keeps c P (body k u)) (h : ∀ x, Keeps c P (k x)) :
    Keeps c P (Scf.Loop.for L hok init body >>= k : Prog (TpuEff nD τ sig (Elt F) Λ₀ .tc) α) := by
  iintro H
  iapply (wp_loop 𝒱₀ (c : Thread nD τ) none Set.univ L hok init body (fun _ => P) hb) $$ H
  iintro %x H
  iapply (h x); iexact H

/-- The end of a program. -/
theorem Keeps.done (a : α) : Keeps c P (pure a : Prog (TpuEff nD τ sig (Elt F) Λ₀ .tc) α) :=
  le_wp_ret frame (wpE (defs₀ (F := F)) 𝒱₀ (c : Thread nD τ) none) Set.univ a (fun _ => P)

end Steps

/-- Every buffer of the body is owned at some contents. -/
def All (c : Dev nD) (arg1 : Memref sig .tc .smem S768 .f32) (arg2 : Memref sig .tc .smem S1 .f32) (arg3 : Memref sig .tc .vmem S768 .f32) (arg4 : Memref sig .tc .vmem S32x96x128 .i8) (arg5 : Memref sig .tc .vmem S32x96x128 .i8) (arg6 : Memref sig .tc .vmem S96x64x128 .i8) (arg7 : Memref sig .tc .vmem S96x64x128 .i8) (arg8 : Memref sig .tc .vmem S32x64x2048 .fp8e5m2) (arg9 : Memref sig .tc .vmem S1x2x2048x128 .bf16) (arg10 : Memref sig .tc .vmem S96x64x128 .f32) (arg11 : Memref sig .tc .vmem S96x64x128 .f32) (arg12 : Memref sig .tc .vmem S32x96x128 .bf16) (arg13 : Memref sig .tc .vmem S32x96x128 .bf16) (arg14 : Memref sig .tc .vmem S32x64x128 .bf16) (arg15 : Memref sig .tc .vmem S32x64x128 .bf16) (arg16 : Memref sig .tc .vmem S2x896x128 .i32) (arg17 : Memref sig .tc .vmem S2x1920x128 .i32) (arg18 : Memref sig .tc .vmem S1536x128 .i32) (arg19 : Memref sig .tc .vmem S4608x2x128 .bf16) (arg20 : Memref sig .tc .vmem S4608x128 .i32) (arg21 : Memref sig .tc .vmem S6656x128 .f32) (arg22 : Memref sig .tc .vmem S6656x128 .f32) (arg23 : Memref sig .tc .vmem S4608x2x128 .bf16) : sProp 𝕄 :=
  iprop(Any c arg1 ∗ Any c arg2 ∗ Any c arg3 ∗ Any c arg4 ∗ Any c arg5 ∗ Any c arg6 ∗ Any c arg7 ∗ Any c arg8 ∗ Any c arg9 ∗ Any c arg10 ∗ Any c arg11 ∗ Any c arg12 ∗ Any c arg13 ∗ Any c arg14 ∗ Any c arg15 ∗ Any c arg16 ∗ Any c arg17 ∗ Any c arg18 ∗ Any c arg19 ∗ Any c arg20 ∗ Any c arg21 ∗ Any c arg22 ∗ Any c arg23)

section Has

variable (c : Dev nD) (arg1 : Memref sig .tc .smem S768 .f32) (arg2 : Memref sig .tc .smem S1 .f32) (arg3 : Memref sig .tc .vmem S768 .f32) (arg4 : Memref sig .tc .vmem S32x96x128 .i8) (arg5 : Memref sig .tc .vmem S32x96x128 .i8) (arg6 : Memref sig .tc .vmem S96x64x128 .i8) (arg7 : Memref sig .tc .vmem S96x64x128 .i8) (arg8 : Memref sig .tc .vmem S32x64x2048 .fp8e5m2) (arg9 : Memref sig .tc .vmem S1x2x2048x128 .bf16) (arg10 : Memref sig .tc .vmem S96x64x128 .f32) (arg11 : Memref sig .tc .vmem S96x64x128 .f32) (arg12 : Memref sig .tc .vmem S32x96x128 .bf16) (arg13 : Memref sig .tc .vmem S32x96x128 .bf16) (arg14 : Memref sig .tc .vmem S32x64x128 .bf16) (arg15 : Memref sig .tc .vmem S32x64x128 .bf16) (arg16 : Memref sig .tc .vmem S2x896x128 .i32) (arg17 : Memref sig .tc .vmem S2x1920x128 .i32) (arg18 : Memref sig .tc .vmem S1536x128 .i32) (arg19 : Memref sig .tc .vmem S4608x2x128 .bf16) (arg20 : Memref sig .tc .vmem S4608x128 .i32) (arg21 : Memref sig .tc .vmem S6656x128 .f32) (arg22 : Memref sig .tc .vmem S6656x128 .f32) (arg23 : Memref sig .tc .vmem S4608x2x128 .bf16)

instance has1 : Has (F := F) c (All c arg1 arg2 arg3 arg4 arg5 arg6 arg7 arg8 arg9 arg10 arg11 arg12 arg13 arg14 arg15 arg16 arg17 arg18 arg19 arg20 arg21 arg22 arg23) arg1 where
  acc := by
    unfold All
    iintro ⟨H1, H2, H3, H4, H5, H6, H7, H8, H9, H10, H11, H12, H13, H14, H15, H16, H17, H18, H19, H20, H21, H22, H23⟩
    isplitl [H1]; · iexact H1
    iintro H1
    iframe

instance has2 : Has (F := F) c (All c arg1 arg2 arg3 arg4 arg5 arg6 arg7 arg8 arg9 arg10 arg11 arg12 arg13 arg14 arg15 arg16 arg17 arg18 arg19 arg20 arg21 arg22 arg23) arg2 where
  acc := by
    unfold All
    iintro ⟨H1, H2, H3, H4, H5, H6, H7, H8, H9, H10, H11, H12, H13, H14, H15, H16, H17, H18, H19, H20, H21, H22, H23⟩
    isplitl [H2]; · iexact H2
    iintro H2
    iframe

instance has3 : Has (F := F) c (All c arg1 arg2 arg3 arg4 arg5 arg6 arg7 arg8 arg9 arg10 arg11 arg12 arg13 arg14 arg15 arg16 arg17 arg18 arg19 arg20 arg21 arg22 arg23) arg3 where
  acc := by
    unfold All
    iintro ⟨H1, H2, H3, H4, H5, H6, H7, H8, H9, H10, H11, H12, H13, H14, H15, H16, H17, H18, H19, H20, H21, H22, H23⟩
    isplitl [H3]; · iexact H3
    iintro H3
    iframe

instance has4 : Has (F := F) c (All c arg1 arg2 arg3 arg4 arg5 arg6 arg7 arg8 arg9 arg10 arg11 arg12 arg13 arg14 arg15 arg16 arg17 arg18 arg19 arg20 arg21 arg22 arg23) arg4 where
  acc := by
    unfold All
    iintro ⟨H1, H2, H3, H4, H5, H6, H7, H8, H9, H10, H11, H12, H13, H14, H15, H16, H17, H18, H19, H20, H21, H22, H23⟩
    isplitl [H4]; · iexact H4
    iintro H4
    iframe

instance has5 : Has (F := F) c (All c arg1 arg2 arg3 arg4 arg5 arg6 arg7 arg8 arg9 arg10 arg11 arg12 arg13 arg14 arg15 arg16 arg17 arg18 arg19 arg20 arg21 arg22 arg23) arg5 where
  acc := by
    unfold All
    iintro ⟨H1, H2, H3, H4, H5, H6, H7, H8, H9, H10, H11, H12, H13, H14, H15, H16, H17, H18, H19, H20, H21, H22, H23⟩
    isplitl [H5]; · iexact H5
    iintro H5
    iframe

instance has6 : Has (F := F) c (All c arg1 arg2 arg3 arg4 arg5 arg6 arg7 arg8 arg9 arg10 arg11 arg12 arg13 arg14 arg15 arg16 arg17 arg18 arg19 arg20 arg21 arg22 arg23) arg6 where
  acc := by
    unfold All
    iintro ⟨H1, H2, H3, H4, H5, H6, H7, H8, H9, H10, H11, H12, H13, H14, H15, H16, H17, H18, H19, H20, H21, H22, H23⟩
    isplitl [H6]; · iexact H6
    iintro H6
    iframe

instance has7 : Has (F := F) c (All c arg1 arg2 arg3 arg4 arg5 arg6 arg7 arg8 arg9 arg10 arg11 arg12 arg13 arg14 arg15 arg16 arg17 arg18 arg19 arg20 arg21 arg22 arg23) arg7 where
  acc := by
    unfold All
    iintro ⟨H1, H2, H3, H4, H5, H6, H7, H8, H9, H10, H11, H12, H13, H14, H15, H16, H17, H18, H19, H20, H21, H22, H23⟩
    isplitl [H7]; · iexact H7
    iintro H7
    iframe

instance has8 : Has (F := F) c (All c arg1 arg2 arg3 arg4 arg5 arg6 arg7 arg8 arg9 arg10 arg11 arg12 arg13 arg14 arg15 arg16 arg17 arg18 arg19 arg20 arg21 arg22 arg23) arg8 where
  acc := by
    unfold All
    iintro ⟨H1, H2, H3, H4, H5, H6, H7, H8, H9, H10, H11, H12, H13, H14, H15, H16, H17, H18, H19, H20, H21, H22, H23⟩
    isplitl [H8]; · iexact H8
    iintro H8
    iframe

instance has9 : Has (F := F) c (All c arg1 arg2 arg3 arg4 arg5 arg6 arg7 arg8 arg9 arg10 arg11 arg12 arg13 arg14 arg15 arg16 arg17 arg18 arg19 arg20 arg21 arg22 arg23) arg9 where
  acc := by
    unfold All
    iintro ⟨H1, H2, H3, H4, H5, H6, H7, H8, H9, H10, H11, H12, H13, H14, H15, H16, H17, H18, H19, H20, H21, H22, H23⟩
    isplitl [H9]; · iexact H9
    iintro H9
    iframe

instance has10 : Has (F := F) c (All c arg1 arg2 arg3 arg4 arg5 arg6 arg7 arg8 arg9 arg10 arg11 arg12 arg13 arg14 arg15 arg16 arg17 arg18 arg19 arg20 arg21 arg22 arg23) arg10 where
  acc := by
    unfold All
    iintro ⟨H1, H2, H3, H4, H5, H6, H7, H8, H9, H10, H11, H12, H13, H14, H15, H16, H17, H18, H19, H20, H21, H22, H23⟩
    isplitl [H10]; · iexact H10
    iintro H10
    iframe

instance has11 : Has (F := F) c (All c arg1 arg2 arg3 arg4 arg5 arg6 arg7 arg8 arg9 arg10 arg11 arg12 arg13 arg14 arg15 arg16 arg17 arg18 arg19 arg20 arg21 arg22 arg23) arg11 where
  acc := by
    unfold All
    iintro ⟨H1, H2, H3, H4, H5, H6, H7, H8, H9, H10, H11, H12, H13, H14, H15, H16, H17, H18, H19, H20, H21, H22, H23⟩
    isplitl [H11]; · iexact H11
    iintro H11
    iframe

instance has12 : Has (F := F) c (All c arg1 arg2 arg3 arg4 arg5 arg6 arg7 arg8 arg9 arg10 arg11 arg12 arg13 arg14 arg15 arg16 arg17 arg18 arg19 arg20 arg21 arg22 arg23) arg12 where
  acc := by
    unfold All
    iintro ⟨H1, H2, H3, H4, H5, H6, H7, H8, H9, H10, H11, H12, H13, H14, H15, H16, H17, H18, H19, H20, H21, H22, H23⟩
    isplitl [H12]; · iexact H12
    iintro H12
    iframe

instance has13 : Has (F := F) c (All c arg1 arg2 arg3 arg4 arg5 arg6 arg7 arg8 arg9 arg10 arg11 arg12 arg13 arg14 arg15 arg16 arg17 arg18 arg19 arg20 arg21 arg22 arg23) arg13 where
  acc := by
    unfold All
    iintro ⟨H1, H2, H3, H4, H5, H6, H7, H8, H9, H10, H11, H12, H13, H14, H15, H16, H17, H18, H19, H20, H21, H22, H23⟩
    isplitl [H13]; · iexact H13
    iintro H13
    iframe

instance has14 : Has (F := F) c (All c arg1 arg2 arg3 arg4 arg5 arg6 arg7 arg8 arg9 arg10 arg11 arg12 arg13 arg14 arg15 arg16 arg17 arg18 arg19 arg20 arg21 arg22 arg23) arg14 where
  acc := by
    unfold All
    iintro ⟨H1, H2, H3, H4, H5, H6, H7, H8, H9, H10, H11, H12, H13, H14, H15, H16, H17, H18, H19, H20, H21, H22, H23⟩
    isplitl [H14]; · iexact H14
    iintro H14
    iframe

instance has15 : Has (F := F) c (All c arg1 arg2 arg3 arg4 arg5 arg6 arg7 arg8 arg9 arg10 arg11 arg12 arg13 arg14 arg15 arg16 arg17 arg18 arg19 arg20 arg21 arg22 arg23) arg15 where
  acc := by
    unfold All
    iintro ⟨H1, H2, H3, H4, H5, H6, H7, H8, H9, H10, H11, H12, H13, H14, H15, H16, H17, H18, H19, H20, H21, H22, H23⟩
    isplitl [H15]; · iexact H15
    iintro H15
    iframe

instance has16 : Has (F := F) c (All c arg1 arg2 arg3 arg4 arg5 arg6 arg7 arg8 arg9 arg10 arg11 arg12 arg13 arg14 arg15 arg16 arg17 arg18 arg19 arg20 arg21 arg22 arg23) arg16 where
  acc := by
    unfold All
    iintro ⟨H1, H2, H3, H4, H5, H6, H7, H8, H9, H10, H11, H12, H13, H14, H15, H16, H17, H18, H19, H20, H21, H22, H23⟩
    isplitl [H16]; · iexact H16
    iintro H16
    iframe

instance has17 : Has (F := F) c (All c arg1 arg2 arg3 arg4 arg5 arg6 arg7 arg8 arg9 arg10 arg11 arg12 arg13 arg14 arg15 arg16 arg17 arg18 arg19 arg20 arg21 arg22 arg23) arg17 where
  acc := by
    unfold All
    iintro ⟨H1, H2, H3, H4, H5, H6, H7, H8, H9, H10, H11, H12, H13, H14, H15, H16, H17, H18, H19, H20, H21, H22, H23⟩
    isplitl [H17]; · iexact H17
    iintro H17
    iframe

instance has18 : Has (F := F) c (All c arg1 arg2 arg3 arg4 arg5 arg6 arg7 arg8 arg9 arg10 arg11 arg12 arg13 arg14 arg15 arg16 arg17 arg18 arg19 arg20 arg21 arg22 arg23) arg18 where
  acc := by
    unfold All
    iintro ⟨H1, H2, H3, H4, H5, H6, H7, H8, H9, H10, H11, H12, H13, H14, H15, H16, H17, H18, H19, H20, H21, H22, H23⟩
    isplitl [H18]; · iexact H18
    iintro H18
    iframe

instance has19 : Has (F := F) c (All c arg1 arg2 arg3 arg4 arg5 arg6 arg7 arg8 arg9 arg10 arg11 arg12 arg13 arg14 arg15 arg16 arg17 arg18 arg19 arg20 arg21 arg22 arg23) arg19 where
  acc := by
    unfold All
    iintro ⟨H1, H2, H3, H4, H5, H6, H7, H8, H9, H10, H11, H12, H13, H14, H15, H16, H17, H18, H19, H20, H21, H22, H23⟩
    isplitl [H19]; · iexact H19
    iintro H19
    iframe

instance has20 : Has (F := F) c (All c arg1 arg2 arg3 arg4 arg5 arg6 arg7 arg8 arg9 arg10 arg11 arg12 arg13 arg14 arg15 arg16 arg17 arg18 arg19 arg20 arg21 arg22 arg23) arg20 where
  acc := by
    unfold All
    iintro ⟨H1, H2, H3, H4, H5, H6, H7, H8, H9, H10, H11, H12, H13, H14, H15, H16, H17, H18, H19, H20, H21, H22, H23⟩
    isplitl [H20]; · iexact H20
    iintro H20
    iframe

instance has21 : Has (F := F) c (All c arg1 arg2 arg3 arg4 arg5 arg6 arg7 arg8 arg9 arg10 arg11 arg12 arg13 arg14 arg15 arg16 arg17 arg18 arg19 arg20 arg21 arg22 arg23) arg21 where
  acc := by
    unfold All
    iintro ⟨H1, H2, H3, H4, H5, H6, H7, H8, H9, H10, H11, H12, H13, H14, H15, H16, H17, H18, H19, H20, H21, H22, H23⟩
    isplitl [H21]; · iexact H21
    iintro H21
    iframe

instance has22 : Has (F := F) c (All c arg1 arg2 arg3 arg4 arg5 arg6 arg7 arg8 arg9 arg10 arg11 arg12 arg13 arg14 arg15 arg16 arg17 arg18 arg19 arg20 arg21 arg22 arg23) arg22 where
  acc := by
    unfold All
    iintro ⟨H1, H2, H3, H4, H5, H6, H7, H8, H9, H10, H11, H12, H13, H14, H15, H16, H17, H18, H19, H20, H21, H22, H23⟩
    isplitl [H22]; · iexact H22
    iintro H22
    iframe

instance has23 : Has (F := F) c (All c arg1 arg2 arg3 arg4 arg5 arg6 arg7 arg8 arg9 arg10 arg11 arg12 arg13 arg14 arg15 arg16 arg17 arg18 arg19 arg20 arg21 arg22 arg23) arg23 where
  acc := by
    unfold All
    iintro ⟨H1, H2, H3, H4, H5, H6, H7, H8, H9, H10, H11, H12, H13, H14, H15, H16, H17, H18, H19, H20, H21, H22, H23⟩
    isplitl [H23]; · iexact H23
    iintro H23
    iframe

end Has

end Cert.Proof.KernelIdeal
-- ==== Proof.KIKeep1.lean ====
/-
  The straight-line parts of the packed-word kernel keep every buffer (one of six modules).
-/
module

public import proofs.«01_k».proof.Proof.KIKeep

@[expose] public section

set_option maxRecDepth 65536

noncomputable section

namespace Cert.Proof.KernelIdeal

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x2x128 .bf16) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x2x128 .bf16) (harg23 : arg23.IsWhole)

/-- `k0_part1` keeps every buffer at some contents. -/
theorem k0_part1_keeps (v13 : FVec F S1x128 .f32) (v23 : FVec F S2048x256 .bf16) (c0_i32_10 : BitVec 32) (c1_i32 : BitVec 32) (k0_t1 : Fin k0_t1_loop.trips) :
    Keeps (F := F) c (All c arg1 arg2 arg3 arg4 arg5 arg6 arg7 arg8 arg9 arg10 arg11 arg12 arg13 arg14 arg15 arg16 arg17 arg18 arg19 arg20 arg21 arg22 arg23) (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v13 v23 c0_i32_10 c1_i32 k0_t1) := by
  rw [k0_part1_eq_skeleton]; unfold k0_part1_skel
  dsimp only
  refine .ld fun _ => ?_; refine .ld fun _ => ?_; refine .st ?_; refine .ld fun _ => ?_; refine .st ?_
  exact .done _

/-- `k0_part7` keeps every buffer at some contents. -/
theorem k0_part7_keeps (arg0 : BitVec 32) (k0_t4 : Fin k0_t4_loop.trips) (arg24 : BitVec 32) (v1665 : FVec F S96x128 .bf16) (v1708 : BitVec 32) (v1712 : FVec F S64x128 .bf16) (cst_1411 : F .bf16) :
    Keeps (F := F) c (All c arg1 arg2 arg3 arg4 arg5 arg6 arg7 arg8 arg9 arg10 arg11 arg12 arg13 arg14 arg15 arg16 arg17 arg18 arg19 arg20 arg21 arg22 arg23) (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_t4 arg24 v1665 v1708 v1712 cst_1411) := by
  rw [k0_part7_eq_skeleton]; unfold k0_part7_skel
  dsimp only
  refine .ld fun _ => ?_; refine .st ?_; refine .ld fun _ => ?_; refine .st ?_; refine .ld fun _ => ?_; refine .sld fun _ => ?_; refine .ld fun _ => ?_
  refine .st ?_
  exact .done _

/-- `k0_part15` keeps every buffer at some contents. -/
theorem k0_part15_keeps  :
    Keeps (F := F) c (All c arg1 arg2 arg3 arg4 arg5 arg6 arg7 arg8 arg9 arg10 arg11 arg12 arg13 arg14 arg15 arg16 arg17 arg18 arg19 arg20 arg21 arg22 arg23) (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part15_eq_skeleton]; unfold k0_part15_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part21` keeps every buffer at some contents. -/
theorem k0_part21_keeps (v195 : IVec S24x128 32) (v196 : Vec F S1x24x128 .i32) :
    Keeps (F := F) c (All c arg1 arg2 arg3 arg4 arg5 arg6 arg7 arg8 arg9 arg10 arg11 arg12 arg13 arg14 arg15 arg16 arg17 arg18 arg19 arg20 arg21 arg22 arg23) (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v195 v196) := by
  rw [k0_part21_eq_skeleton]; unfold k0_part21_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part27` keeps every buffer at some contents. -/
theorem k0_part27_keeps (v363 : IVec S24x128 32) :
    Keeps (F := F) c (All c arg1 arg2 arg3 arg4 arg5 arg6 arg7 arg8 arg9 arg10 arg11 arg12 arg13 arg14 arg15 arg16 arg17 arg18 arg19 arg20 arg21 arg22 arg23) (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v363) := by
  rw [k0_part27_eq_skeleton]; unfold k0_part27_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part33` keeps every buffer at some contents. -/
theorem k0_part33_keeps  :
    Keeps (F := F) c (All c arg1 arg2 arg3 arg4 arg5 arg6 arg7 arg8 arg9 arg10 arg11 arg12 arg13 arg14 arg15 arg16 arg17 arg18 arg19 arg20 arg21 arg22 arg23) (k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part33_eq_skeleton]; unfold k0_part33_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part39` keeps every buffer at some contents. -/
theorem k0_part39_keeps (v693 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v693) := by
  rw [k0_part39_eq_skeleton]; unfold k0_part39_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part45` keeps every buffer at some contents. -/
theorem k0_part45_keeps (v861 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v861) := by
  rw [k0_part45_eq_skeleton]; unfold k0_part45_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part51` keeps every buffer at some contents. -/
theorem k0_part51_keeps  :
    Keeps (F := F) c (All c arg1 arg2 arg3 arg4 arg5 arg6 arg7 arg8 arg9 arg10 arg11 arg12 arg13 arg14 arg15 arg16 arg17 arg18 arg19 arg20 arg21 arg22 arg23) (k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part51_eq_skeleton]; unfold k0_part51_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part57` keeps every buffer at some contents. -/
theorem k0_part57_keeps (v1194 : IVec S1x16x128 32) :
    Keeps (F := F) c (All c arg1 arg2 arg3 arg4 arg5 arg6 arg7 arg8 arg9 arg10 arg11 arg12 arg13 arg14 arg15 arg16 arg17 arg18 arg19 arg20 arg21 arg22 arg23) (k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1194) := by
  rw [k0_part57_eq_skeleton]; unfold k0_part57_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part63` keeps every buffer at some contents. -/
theorem k0_part63_keeps (v1359 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1359) := by
  rw [k0_part63_eq_skeleton]; unfold k0_part63_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part69` keeps every buffer at some contents. -/
theorem k0_part69_keeps (v1525 : Vec F S1x64x128 .i8) :
    Keeps (F := F) c (All c arg1 arg2 arg3 arg4 arg5 arg6 arg7 arg8 arg9 arg10 arg11 arg12 arg13 arg14 arg15 arg16 arg17 arg18 arg19 arg20 arg21 arg22 arg23) (k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1525) := by
  rw [k0_part69_eq_skeleton]; unfold k0_part69_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_
  exact .done _

end Cert.Proof.KernelIdeal
-- ==== Proof.KIKeep2.lean ====
/-
  The straight-line parts of the packed-word kernel keep every buffer (one of six modules).
-/
module

public import proofs.«01_k».proof.Proof.KIKeep

@[expose] public section

set_option maxRecDepth 65536

noncomputable section

namespace Cert.Proof.KernelIdeal

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x2x128 .bf16) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x2x128 .bf16) (harg23 : arg23.IsWhole)

/-- `k0_part2` keeps every buffer at some contents. -/
theorem k0_part2_keeps (k0_t1 : Fin k0_t1_loop.trips) (arg24 : BitVec 32) (v1576 : FVec F S4x64x128 .f32) (v1580 : FVec F S4x64x128 .f32) (v1590 : BitVec 32) (v1596 : FVec F S128x128 .f32) (v1602 : FVec F S128x128 .f32) (v1609 : FVec F S128x128 .f32) :
    Keeps (F := F) c (All c arg1 arg2 arg3 arg4 arg5 arg6 arg7 arg8 arg9 arg10 arg11 arg12 arg13 arg14 arg15 arg16 arg17 arg18 arg19 arg20 arg21 arg22 arg23) (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v1576 v1580 v1590 v1596 v1602 v1609) := by
  rw [k0_part2_eq_skeleton]; unfold k0_part2_skel
  dsimp only
  refine .ld fun _ => ?_; refine .st ?_; refine .ld fun _ => ?_; refine .st ?_
  exact .done _

/-- `k0_part8` keeps every buffer at some contents. -/
theorem k0_part8_keeps (arg0 : BitVec 32) (k0_t4 : Fin k0_t4_loop.trips) (v1750 : BitVec 32) (c4_i32 : BitVec 32) :
    Keeps (F := F) c (All c arg1 arg2 arg3 arg4 arg5 arg6 arg7 arg8 arg9 arg10 arg11 arg12 arg13 arg14 arg15 arg16 arg17 arg18 arg19 arg20 arg21 arg22 arg23) (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_t4 v1750 c4_i32) := by
  rw [k0_part8_eq_skeleton]; unfold k0_part8_skel
  dsimp only
  refine .ld fun _ => ?_; refine .ld fun _ => ?_; refine .ld fun _ => ?_; refine .st ?_; refine .ld fun _ => ?_; refine .st ?_; refine .ld fun _ => ?_
  refine .sld fun _ => ?_
  exact .done _

/-- `k0_part16` keeps every buffer at some contents. -/
theorem k0_part16_keeps (v57 : IVec S24x128 32) :
    Keeps (F := F) c (All c arg1 arg2 arg3 arg4 arg5 arg6 arg7 arg8 arg9 arg10 arg11 arg12 arg13 arg14 arg15 arg16 arg17 arg18 arg19 arg20 arg21 arg22 arg23) (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v57) := by
  rw [k0_part16_eq_skeleton]; unfold k0_part16_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_; refine .ld fun _ => ?_
  exact .done _

/-- `k0_part22` keeps every buffer at some contents. -/
theorem k0_part22_keeps (v224 : IVec S96x128 8) :
    Keeps (F := F) c (All c arg1 arg2 arg3 arg4 arg5 arg6 arg7 arg8 arg9 arg10 arg11 arg12 arg13 arg14 arg15 arg16 arg17 arg18 arg19 arg20 arg21 arg22 arg23) (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v224) := by
  rw [k0_part22_eq_skeleton]; unfold k0_part22_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part28` keeps every buffer at some contents. -/
theorem k0_part28_keeps  :
    Keeps (F := F) c (All c arg1 arg2 arg3 arg4 arg5 arg6 arg7 arg8 arg9 arg10 arg11 arg12 arg13 arg14 arg15 arg16 arg17 arg18 arg19 arg20 arg21 arg22 arg23) (k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part28_eq_skeleton]; unfold k0_part28_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part34` keeps every buffer at some contents. -/
theorem k0_part34_keeps (v555 : IVec S16x128 32) (v556 : Vec F S1x16x128 .i32) :
    Keeps (F := F) c (All c arg1 arg2 arg3 arg4 arg5 arg6 arg7 arg8 arg9 arg10 arg11 arg12 arg13 arg14 arg15 arg16 arg17 arg18 arg19 arg20 arg21 arg22 arg23) (k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v555 v556) := by
  rw [k0_part34_eq_skeleton]; unfold k0_part34_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part40` keeps every buffer at some contents. -/
theorem k0_part40_keeps (v723 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v723) := by
  rw [k0_part40_eq_skeleton]; unfold k0_part40_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part46` keeps every buffer at some contents. -/
theorem k0_part46_keeps  :
    Keeps (F := F) c (All c arg1 arg2 arg3 arg4 arg5 arg6 arg7 arg8 arg9 arg10 arg11 arg12 arg13 arg14 arg15 arg16 arg17 arg18 arg19 arg20 arg21 arg22 arg23) (k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part46_eq_skeleton]; unfold k0_part46_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part52` keeps every buffer at some contents. -/
theorem k0_part52_keeps (v1053 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1053) := by
  rw [k0_part52_eq_skeleton]; unfold k0_part52_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part58` keeps every buffer at some contents. -/
theorem k0_part58_keeps (v1221 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1221) := by
  rw [k0_part58_eq_skeleton]; unfold k0_part58_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part64` keeps every buffer at some contents. -/
theorem k0_part64_keeps  :
    Keeps (F := F) c (All c arg1 arg2 arg3 arg4 arg5 arg6 arg7 arg8 arg9 arg10 arg11 arg12 arg13 arg14 arg15 arg16 arg17 arg18 arg19 arg20 arg21 arg22 arg23) (k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part64_eq_skeleton]; unfold k0_part64_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

end Cert.Proof.KernelIdeal
-- ==== Proof.KIKeep3.lean ====
/-
  The straight-line parts of the packed-word kernel keep every buffer (one of six modules).
-/
module

public import proofs.«01_k».proof.Proof.KIKeep

@[expose] public section

set_option maxRecDepth 65536

noncomputable section

namespace Cert.Proof.KernelIdeal

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x2x128 .bf16) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x2x128 .bf16) (harg23 : arg23.IsWhole)

/-- `k0_part3` keeps every buffer at some contents. -/
theorem k0_part3_keeps (arg0 : BitVec 32) (c0_i32_1347 : BitVec 32) (c1_i32_1349 : BitVec 32) (k0_t4 : Fin k0_t4_loop.trips) :
    Keeps (F := F) c (All c arg1 arg2 arg3 arg4 arg5 arg6 arg7 arg8 arg9 arg10 arg11 arg12 arg13 arg14 arg15 arg16 arg17 arg18 arg19 arg20 arg21 arg22 arg23) (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 c0_i32_1347 c1_i32_1349 k0_t4) := by
  rw [k0_part3_eq_skeleton]; unfold k0_part3_skel
  dsimp only
  refine .ld fun _ => ?_; refine .ld fun _ => ?_; refine .ld fun _ => ?_; refine .st ?_; refine .ld fun _ => ?_; refine .st ?_; refine .ld fun _ => ?_
  exact .done _

/-- `k0_part9` keeps every buffer at some contents. -/
theorem k0_part9_keeps (k0_t4 : Fin k0_t4_loop.trips) (v1751 : BitVec 32) (v1757 : FVec F S96x128 .bf16) (v1758 : BitVec 32) (v1786 : FVec F S64x128 .f32) (v1791 : FVec F S64x128 .f32) :
    Keeps (F := F) c (All c arg1 arg2 arg3 arg4 arg5 arg6 arg7 arg8 arg9 arg10 arg11 arg12 arg13 arg14 arg15 arg16 arg17 arg18 arg19 arg20 arg21 arg22 arg23) (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t4 v1751 v1757 v1758 v1786 v1791) := by
  rw [k0_part9_eq_skeleton]; unfold k0_part9_skel
  dsimp only
  refine .ld fun _ => ?_; refine .st ?_; refine .ld fun _ => ?_; refine .ld fun _ => ?_; refine .st ?_; refine .ld fun _ => ?_; refine .st ?_; refine .ld fun _ => ?_
  exact .done _

/-- `k0_part17` keeps every buffer at some contents. -/
theorem k0_part17_keeps (v85 : Vec F S1x96x128 .i8) :
    Keeps (F := F) c (All c arg1 arg2 arg3 arg4 arg5 arg6 arg7 arg8 arg9 arg10 arg11 arg12 arg13 arg14 arg15 arg16 arg17 arg18 arg19 arg20 arg21 arg22 arg23) (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v85) := by
  rw [k0_part17_eq_skeleton]; unfold k0_part17_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_
  exact .done _

/-- `k0_part23` keeps every buffer at some contents. -/
theorem k0_part23_keeps  :
    Keeps (F := F) c (All c arg1 arg2 arg3 arg4 arg5 arg6 arg7 arg8 arg9 arg10 arg11 arg12 arg13 arg14 arg15 arg16 arg17 arg18 arg19 arg20 arg21 arg22 arg23) (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part23_eq_skeleton]; unfold k0_part23_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part29` keeps every buffer at some contents. -/
theorem k0_part29_keeps (v417 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v417) := by
  rw [k0_part29_eq_skeleton]; unfold k0_part29_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_; refine .ld fun _ => ?_
  exact .done _

/-- `k0_part35` keeps every buffer at some contents. -/
theorem k0_part35_keeps (v584 : IVec S64x128 8) :
    Keeps (F := F) c (All c arg1 arg2 arg3 arg4 arg5 arg6 arg7 arg8 arg9 arg10 arg11 arg12 arg13 arg14 arg15 arg16 arg17 arg18 arg19 arg20 arg21 arg22 arg23) (k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v584) := by
  rw [k0_part35_eq_skeleton]; unfold k0_part35_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part41` keeps every buffer at some contents. -/
theorem k0_part41_keeps  :
    Keeps (F := F) c (All c arg1 arg2 arg3 arg4 arg5 arg6 arg7 arg8 arg9 arg10 arg11 arg12 arg13 arg14 arg15 arg16 arg17 arg18 arg19 arg20 arg21 arg22 arg23) (k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part41_eq_skeleton]; unfold k0_part41_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part47` keeps every buffer at some contents. -/
theorem k0_part47_keeps (v915 : IVec S16x128 32) (v916 : Vec F S1x16x128 .i32) :
    Keeps (F := F) c (All c arg1 arg2 arg3 arg4 arg5 arg6 arg7 arg8 arg9 arg10 arg11 arg12 arg13 arg14 arg15 arg16 arg17 arg18 arg19 arg20 arg21 arg22 arg23) (k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v915 v916) := by
  rw [k0_part47_eq_skeleton]; unfold k0_part47_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part53` keeps every buffer at some contents. -/
theorem k0_part53_keeps (v1083 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1083) := by
  rw [k0_part53_eq_skeleton]; unfold k0_part53_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part59` keeps every buffer at some contents. -/
theorem k0_part59_keeps  :
    Keeps (F := F) c (All c arg1 arg2 arg3 arg4 arg5 arg6 arg7 arg8 arg9 arg10 arg11 arg12 arg13 arg14 arg15 arg16 arg17 arg18 arg19 arg20 arg21 arg22 arg23) (k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part59_eq_skeleton]; unfold k0_part59_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part65` keeps every buffer at some contents. -/
theorem k0_part65_keeps (v1413 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1413) := by
  rw [k0_part65_eq_skeleton]; unfold k0_part65_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

end Cert.Proof.KernelIdeal
-- ==== Proof.KIKeep4.lean ====
/-
  The straight-line parts of the packed-word kernel keep every buffer (one of six modules).
-/
module

public import proofs.«01_k».proof.Proof.KIKeep

@[expose] public section

set_option maxRecDepth 65536

noncomputable section

namespace Cert.Proof.KernelIdeal

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x2x128 .bf16) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x2x128 .bf16) (harg23 : arg23.IsWhole)

/-- `k0_part4` keeps every buffer at some contents. -/
theorem k0_part4_keeps (k0_t4 : Fin k0_t4_loop.trips) (v1567 : BitVec 32) (v1573 : FVec F S96x128 .bf16) (v1574 : BitVec 32) (v1602 : FVec F S64x128 .f32) (v1603 : BitVec 32) :
    Keeps (F := F) c (All c arg1 arg2 arg3 arg4 arg5 arg6 arg7 arg8 arg9 arg10 arg11 arg12 arg13 arg14 arg15 arg16 arg17 arg18 arg19 arg20 arg21 arg22 arg23) (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t4 v1567 v1573 v1574 v1602 v1603) := by
  rw [k0_part4_eq_skeleton]; unfold k0_part4_skel
  dsimp only
  refine .sld fun _ => ?_; refine .ld fun _ => ?_; refine .st ?_; refine .ld fun _ => ?_; refine .ld fun _ => ?_; refine .st ?_; refine .ld fun _ => ?_
  refine .st ?_
  exact .done _

/-- `k0_part10` keeps every buffer at some contents. -/
theorem k0_part10_keeps (arg0 : BitVec 32) (k0_t4 : Fin k0_t4_loop.trips) (arg24 : BitVec 32) (v1800 : BitVec 32) (v1804 : FVec F S64x128 .bf16) (v1827 : FVec F S128x128 .bf16) :
    Keeps (F := F) c (All c arg1 arg2 arg3 arg4 arg5 arg6 arg7 arg8 arg9 arg10 arg11 arg12 arg13 arg14 arg15 arg16 arg17 arg18 arg19 arg20 arg21 arg22 arg23) (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_t4 arg24 v1800 v1804 v1827) := by
  rw [k0_part10_eq_skeleton]; unfold k0_part10_skel
  dsimp only
  refine .sld fun _ => ?_; refine .ld fun _ => ?_; refine .st ?_; refine .ld fun _ => ?_; refine .ld fun _ => ?_
  exact .done _

/-- `k0_part18` keeps every buffer at some contents. -/
theorem k0_part18_keeps (v114 : IVec S1x24x128 32) :
    Keeps (F := F) c (All c arg1 arg2 arg3 arg4 arg5 arg6 arg7 arg8 arg9 arg10 arg11 arg12 arg13 arg14 arg15 arg16 arg17 arg18 arg19 arg20 arg21 arg22 arg23) (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v114) := by
  rw [k0_part18_eq_skeleton]; unfold k0_part18_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part24` keeps every buffer at some contents. -/
theorem k0_part24_keeps (v279 : IVec S24x128 32) :
    Keeps (F := F) c (All c arg1 arg2 arg3 arg4 arg5 arg6 arg7 arg8 arg9 arg10 arg11 arg12 arg13 arg14 arg15 arg16 arg17 arg18 arg19 arg20 arg21 arg22 arg23) (k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v279) := by
  rw [k0_part24_eq_skeleton]; unfold k0_part24_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part30` keeps every buffer at some contents. -/
theorem k0_part30_keeps (v445 : Vec F S1x64x128 .i8) :
    Keeps (F := F) c (All c arg1 arg2 arg3 arg4 arg5 arg6 arg7 arg8 arg9 arg10 arg11 arg12 arg13 arg14 arg15 arg16 arg17 arg18 arg19 arg20 arg21 arg22 arg23) (k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v445) := by
  rw [k0_part30_eq_skeleton]; unfold k0_part30_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_
  exact .done _

/-- `k0_part36` keeps every buffer at some contents. -/
theorem k0_part36_keeps  :
    Keeps (F := F) c (All c arg1 arg2 arg3 arg4 arg5 arg6 arg7 arg8 arg9 arg10 arg11 arg12 arg13 arg14 arg15 arg16 arg17 arg18 arg19 arg20 arg21 arg22 arg23) (k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part36_eq_skeleton]; unfold k0_part36_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part42` keeps every buffer at some contents. -/
theorem k0_part42_keeps (v777 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v777) := by
  rw [k0_part42_eq_skeleton]; unfold k0_part42_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_; refine .ld fun _ => ?_
  exact .done _

/-- `k0_part48` keeps every buffer at some contents. -/
theorem k0_part48_keeps (v944 : IVec S64x128 8) :
    Keeps (F := F) c (All c arg1 arg2 arg3 arg4 arg5 arg6 arg7 arg8 arg9 arg10 arg11 arg12 arg13 arg14 arg15 arg16 arg17 arg18 arg19 arg20 arg21 arg22 arg23) (k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v944) := by
  rw [k0_part48_eq_skeleton]; unfold k0_part48_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part54` keeps every buffer at some contents. -/
theorem k0_part54_keeps  :
    Keeps (F := F) c (All c arg1 arg2 arg3 arg4 arg5 arg6 arg7 arg8 arg9 arg10 arg11 arg12 arg13 arg14 arg15 arg16 arg17 arg18 arg19 arg20 arg21 arg22 arg23) (k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part54_eq_skeleton]; unfold k0_part54_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part60` keeps every buffer at some contents. -/
theorem k0_part60_keeps (v1275 : IVec S16x128 32) (v1276 : Vec F S1x16x128 .i32) :
    Keeps (F := F) c (All c arg1 arg2 arg3 arg4 arg5 arg6 arg7 arg8 arg9 arg10 arg11 arg12 arg13 arg14 arg15 arg16 arg17 arg18 arg19 arg20 arg21 arg22 arg23) (k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1275 v1276) := by
  rw [k0_part60_eq_skeleton]; unfold k0_part60_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part66` keeps every buffer at some contents. -/
theorem k0_part66_keeps (v1443 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1443) := by
  rw [k0_part66_eq_skeleton]; unfold k0_part66_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

end Cert.Proof.KernelIdeal
-- ==== Proof.KIKeep5.lean ====
/-
  The straight-line parts of the packed-word kernel keep every buffer (one of six modules).
-/
module

public import proofs.«01_k».proof.Proof.KIKeep

@[expose] public section

set_option maxRecDepth 65536

noncomputable section

namespace Cert.Proof.KernelIdeal

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x2x128 .bf16) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x2x128 .bf16) (harg23 : arg23.IsWhole)

/-- `k0_part5` keeps every buffer at some contents. -/
theorem k0_part5_keeps (arg0 : BitVec 32) (k0_t4 : Fin k0_t4_loop.trips) (arg24 : BitVec 32) (v1616 : BitVec 32) (v1620 : FVec F S64x128 .bf16) :
    Keeps (F := F) c (All c arg1 arg2 arg3 arg4 arg5 arg6 arg7 arg8 arg9 arg10 arg11 arg12 arg13 arg14 arg15 arg16 arg17 arg18 arg19 arg20 arg21 arg22 arg23) (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_t4 arg24 v1616 v1620) := by
  rw [k0_part5_eq_skeleton]; unfold k0_part5_skel
  dsimp only
  refine .ld fun _ => ?_; refine .sld fun _ => ?_; refine .ld fun _ => ?_; refine .st ?_; refine .ld fun _ => ?_; refine .ld fun _ => ?_
  exact .done _

/-- `k0_part11` keeps every buffer at some contents. -/
theorem k0_part11_keeps (arg0 : BitVec 32) (k0_t4 : Fin k0_t4_loop.trips) (v1843 : BitVec 32) (v1850 : BitVec 32) (v1854 : FVec F S64x128 .bf16) (v1860 : FVec F S48x256 .f32) (v1861 : FVec F S48x128 .f32) :
    Keeps (F := F) c (All c arg1 arg2 arg3 arg4 arg5 arg6 arg7 arg8 arg9 arg10 arg11 arg12 arg13 arg14 arg15 arg16 arg17 arg18 arg19 arg20 arg21 arg22 arg23) (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_t4 v1843 v1850 v1854 v1860 v1861) := by
  rw [k0_part11_eq_skeleton]; unfold k0_part11_skel
  dsimp only
  refine .ld fun _ => ?_; refine .st ?_; refine .ld fun _ => ?_; refine .st ?_; refine .ld fun _ => ?_; refine .sld fun _ => ?_; refine .ld fun _ => ?_
  refine .st ?_; refine .ld fun _ => ?_
  exact .done _

/-- `k0_part19` keeps every buffer at some contents. -/
theorem k0_part19_keeps (v141 : IVec S24x128 32) :
    Keeps (F := F) c (All c arg1 arg2 arg3 arg4 arg5 arg6 arg7 arg8 arg9 arg10 arg11 arg12 arg13 arg14 arg15 arg16 arg17 arg18 arg19 arg20 arg21 arg22 arg23) (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v141) := by
  rw [k0_part19_eq_skeleton]; unfold k0_part19_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part25` keeps every buffer at some contents. -/
theorem k0_part25_keeps  :
    Keeps (F := F) c (All c arg1 arg2 arg3 arg4 arg5 arg6 arg7 arg8 arg9 arg10 arg11 arg12 arg13 arg14 arg15 arg16 arg17 arg18 arg19 arg20 arg21 arg22 arg23) (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part25_eq_skeleton]; unfold k0_part25_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part31` keeps every buffer at some contents. -/
theorem k0_part31_keeps (v474 : IVec S1x16x128 32) :
    Keeps (F := F) c (All c arg1 arg2 arg3 arg4 arg5 arg6 arg7 arg8 arg9 arg10 arg11 arg12 arg13 arg14 arg15 arg16 arg17 arg18 arg19 arg20 arg21 arg22 arg23) (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v474) := by
  rw [k0_part31_eq_skeleton]; unfold k0_part31_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part37` keeps every buffer at some contents. -/
theorem k0_part37_keeps (v639 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v639) := by
  rw [k0_part37_eq_skeleton]; unfold k0_part37_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part43` keeps every buffer at some contents. -/
theorem k0_part43_keeps (v805 : Vec F S1x64x128 .i8) :
    Keeps (F := F) c (All c arg1 arg2 arg3 arg4 arg5 arg6 arg7 arg8 arg9 arg10 arg11 arg12 arg13 arg14 arg15 arg16 arg17 arg18 arg19 arg20 arg21 arg22 arg23) (k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v805) := by
  rw [k0_part43_eq_skeleton]; unfold k0_part43_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_
  exact .done _

/-- `k0_part49` keeps every buffer at some contents. -/
theorem k0_part49_keeps  :
    Keeps (F := F) c (All c arg1 arg2 arg3 arg4 arg5 arg6 arg7 arg8 arg9 arg10 arg11 arg12 arg13 arg14 arg15 arg16 arg17 arg18 arg19 arg20 arg21 arg22 arg23) (k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part49_eq_skeleton]; unfold k0_part49_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part55` keeps every buffer at some contents. -/
theorem k0_part55_keeps (v1137 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1137) := by
  rw [k0_part55_eq_skeleton]; unfold k0_part55_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_; refine .ld fun _ => ?_
  exact .done _

/-- `k0_part61` keeps every buffer at some contents. -/
theorem k0_part61_keeps (v1304 : IVec S64x128 8) :
    Keeps (F := F) c (All c arg1 arg2 arg3 arg4 arg5 arg6 arg7 arg8 arg9 arg10 arg11 arg12 arg13 arg14 arg15 arg16 arg17 arg18 arg19 arg20 arg21 arg22 arg23) (k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1304) := by
  rw [k0_part61_eq_skeleton]; unfold k0_part61_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part67` keeps every buffer at some contents. -/
theorem k0_part67_keeps  :
    Keeps (F := F) c (All c arg1 arg2 arg3 arg4 arg5 arg6 arg7 arg8 arg9 arg10 arg11 arg12 arg13 arg14 arg15 arg16 arg17 arg18 arg19 arg20 arg21 arg22 arg23) (k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part67_eq_skeleton]; unfold k0_part67_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

end Cert.Proof.KernelIdeal
-- ==== Proof.KIKeep6.lean ====
/-
  The straight-line parts of the packed-word kernel keep every buffer (one of six modules).
-/
module

public import proofs.«01_k».proof.Proof.KIKeep

@[expose] public section

set_option maxRecDepth 65536

noncomputable section

namespace Cert.Proof.KernelIdeal

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x2x128 .bf16) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x2x128 .bf16) (harg23 : arg23.IsWhole)

/-- `k0_part6` keeps every buffer at some contents. -/
theorem k0_part6_keeps (arg0 : BitVec 32) (k0_t4 : Fin k0_t4_loop.trips) (v1659 : BitVec 32) (v1666 : BitVec 32) (v1670 : FVec F S64x128 .bf16) (v1676 : FVec F S48x256 .f32) (v1677 : FVec F S48x128 .f32) :
    Keeps (F := F) c (All c arg1 arg2 arg3 arg4 arg5 arg6 arg7 arg8 arg9 arg10 arg11 arg12 arg13 arg14 arg15 arg16 arg17 arg18 arg19 arg20 arg21 arg22 arg23) (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_t4 v1659 v1666 v1670 v1676 v1677) := by
  rw [k0_part6_eq_skeleton]; unfold k0_part6_skel
  dsimp only
  refine .ld fun _ => ?_; refine .st ?_; refine .ld fun _ => ?_; refine .st ?_; refine .ld fun _ => ?_; refine .sld fun _ => ?_; refine .ld fun _ => ?_
  refine .st ?_; refine .ld fun _ => ?_
  exact .done _

/-- `k0_part13` keeps every buffer at some contents. -/
theorem k0_part13_keeps (c0_i32_1354 : BitVec 32) (c1_i32_1356 : BitVec 32) (k0_t6 : Fin k0_t6_loop.trips) :
    Keeps (F := F) c (All c arg1 arg2 arg3 arg4 arg5 arg6 arg7 arg8 arg9 arg10 arg11 arg12 arg13 arg14 arg15 arg16 arg17 arg18 arg19 arg20 arg21 arg22 arg23) (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 c0_i32_1354 c1_i32_1356 k0_t6) := by
  rw [k0_part13_eq_skeleton]; unfold k0_part13_skel
  dsimp only
  refine .ld fun _ => ?_; refine .ld fun _ => ?_; refine .st ?_; refine .ld fun _ => ?_; refine .st ?_; refine .ld fun _ => ?_
  exact .done _

/-- `k0_part20` keeps every buffer at some contents. -/
theorem k0_part20_keeps  :
    Keeps (F := F) c (All c arg1 arg2 arg3 arg4 arg5 arg6 arg7 arg8 arg9 arg10 arg11 arg12 arg13 arg14 arg15 arg16 arg17 arg18 arg19 arg20 arg21 arg22 arg23) (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part20_eq_skeleton]; unfold k0_part20_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part26` keeps every buffer at some contents. -/
theorem k0_part26_keeps (v333 : IVec S24x128 32) :
    Keeps (F := F) c (All c arg1 arg2 arg3 arg4 arg5 arg6 arg7 arg8 arg9 arg10 arg11 arg12 arg13 arg14 arg15 arg16 arg17 arg18 arg19 arg20 arg21 arg22 arg23) (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v333) := by
  rw [k0_part26_eq_skeleton]; unfold k0_part26_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part32` keeps every buffer at some contents. -/
theorem k0_part32_keeps (v501 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v501) := by
  rw [k0_part32_eq_skeleton]; unfold k0_part32_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part38` keeps every buffer at some contents. -/
theorem k0_part38_keeps  :
    Keeps (F := F) c (All c arg1 arg2 arg3 arg4 arg5 arg6 arg7 arg8 arg9 arg10 arg11 arg12 arg13 arg14 arg15 arg16 arg17 arg18 arg19 arg20 arg21 arg22 arg23) (k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part38_eq_skeleton]; unfold k0_part38_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_; refine .ld fun _ => ?_
  exact .done _

/-- `k0_part44` keeps every buffer at some contents. -/
theorem k0_part44_keeps (v834 : IVec S1x16x128 32) :
    Keeps (F := F) c (All c arg1 arg2 arg3 arg4 arg5 arg6 arg7 arg8 arg9 arg10 arg11 arg12 arg13 arg14 arg15 arg16 arg17 arg18 arg19 arg20 arg21 arg22 arg23) (k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v834) := by
  rw [k0_part44_eq_skeleton]; unfold k0_part44_skel
  dsimp only
  refine .st ?_; refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part50` keeps every buffer at some contents. -/
theorem k0_part50_keeps (v999 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v999) := by
  rw [k0_part50_eq_skeleton]; unfold k0_part50_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_
  exact .done _

/-- `k0_part56` keeps every buffer at some contents. -/
theorem k0_part56_keeps (v1165 : Vec F S1x64x128 .i8) :
    Keeps (F := F) c (All c arg1 arg2 arg3 arg4 arg5 arg6 arg7 arg8 arg9 arg10 arg11 arg12 arg13 arg14 arg15 arg16 arg17 arg18 arg19 arg20 arg21 arg22 arg23) (k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1165) := by
  rw [k0_part56_eq_skeleton]; unfold k0_part56_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_
  exact .done _

/-- `k0_part62` keeps every buffer at some contents. -/
theorem k0_part62_keeps  :
    Keeps (F := F) c (All c arg1 arg2 arg3 arg4 arg5 arg6 arg7 arg8 arg9 arg10 arg11 arg12 arg13 arg14 arg15 arg16 arg17 arg18 arg19 arg20 arg21 arg22 arg23) (k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part62_eq_skeleton]; unfold k0_part62_skel
  dsimp only
  refine .ld fun _ => ?_; refine .ld fun _ => ?_; refine .st ?_; refine .ld fun _ => ?_; refine .ld fun _ => ?_; refine .st ?_; refine .ld fun _ => ?_
  refine .ld fun _ => ?_; refine .st ?_; refine .ld fun _ => ?_; refine .ld fun _ => ?_; refine .st ?_; refine .ld fun _ => ?_
  exact .done _

/-- `k0_part68` keeps every buffer at some contents. -/
theorem k0_part68_keeps (v1497 : IVec S16x128 32) :
    Keeps (F := F) c (All c arg1 arg2 arg3 arg4 arg5 arg6 arg7 arg8 arg9 arg10 arg11 arg12 arg13 arg14 arg15 arg16 arg17 arg18 arg19 arg20 arg21 arg22 arg23) (k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1497) := by
  rw [k0_part68_eq_skeleton]; unfold k0_part68_skel
  dsimp only
  refine .ld fun _ => ?_; refine .st ?_; refine .ld fun _ => ?_; refine .ld fun _ => ?_; refine .st ?_; refine .ld fun _ => ?_; refine .ld fun _ => ?_
  refine .st ?_; refine .ld fun _ => ?_; refine .ld fun _ => ?_; refine .st ?_; refine .ld fun _ => ?_; refine .ld fun _ => ?_; refine .st ?_; refine .ld fun _ => ?_
  exact .done _

end Cert.Proof.KernelIdeal
-- ==== Proof.KIKeepBody.lean ====
/-
  The loops of the packed-word kernel, and its whole body, keep every buffer.
-/
module

public import proofs.«01_k».proof.Proof.KIKeep1
public import proofs.«01_k».proof.Proof.KIKeep2
public import proofs.«01_k».proof.Proof.KIKeep3
public import proofs.«01_k».proof.Proof.KIKeep4
public import proofs.«01_k».proof.Proof.KIKeep5
public import proofs.«01_k».proof.Proof.KIKeep6

@[expose] public section

set_option maxRecDepth 65536

noncomputable section

namespace Cert.Proof.KernelIdeal

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .smem S768 .f32) (harg1 : arg1.IsWhole) (arg2 : Memref sig .tc .smem S1 .f32) (harg2 : arg2.IsWhole) (arg3 : Memref sig .tc .vmem S768 .f32) (harg3 : arg3.IsWhole) (arg4 : Memref sig .tc .vmem S32x96x128 .i8) (harg4 : arg4.IsWhole) (arg5 : Memref sig .tc .vmem S32x96x128 .i8) (harg5 : arg5.IsWhole) (arg6 : Memref sig .tc .vmem S96x64x128 .i8) (harg6 : arg6.IsWhole) (arg7 : Memref sig .tc .vmem S96x64x128 .i8) (harg7 : arg7.IsWhole) (arg8 : Memref sig .tc .vmem S32x64x2048 .fp8e5m2) (harg8 : arg8.IsWhole) (arg9 : Memref sig .tc .vmem S1x2x2048x128 .bf16) (harg9 : arg9.IsWhole) (arg10 : Memref sig .tc .vmem S96x64x128 .f32) (harg10 : arg10.IsWhole) (arg11 : Memref sig .tc .vmem S96x64x128 .f32) (harg11 : arg11.IsWhole) (arg12 : Memref sig .tc .vmem S32x96x128 .bf16) (harg12 : arg12.IsWhole) (arg13 : Memref sig .tc .vmem S32x96x128 .bf16) (harg13 : arg13.IsWhole) (arg14 : Memref sig .tc .vmem S32x64x128 .bf16) (harg14 : arg14.IsWhole) (arg15 : Memref sig .tc .vmem S32x64x128 .bf16) (harg15 : arg15.IsWhole) (arg16 : Memref sig .tc .vmem S2x896x128 .i32) (harg16 : arg16.IsWhole) (arg17 : Memref sig .tc .vmem S2x1920x128 .i32) (harg17 : arg17.IsWhole) (arg18 : Memref sig .tc .vmem S1536x128 .i32) (harg18 : arg18.IsWhole) (arg19 : Memref sig .tc .vmem S4608x2x128 .bf16) (harg19 : arg19.IsWhole) (arg20 : Memref sig .tc .vmem S4608x128 .i32) (harg20 : arg20.IsWhole) (arg21 : Memref sig .tc .vmem S6656x128 .f32) (harg21 : arg21.IsWhole) (arg22 : Memref sig .tc .vmem S6656x128 .f32) (harg22 : arg22.IsWhole) (arg23 : Memref sig .tc .vmem S4608x2x128 .bf16) (harg23 : arg23.IsWhole)

/-- `k0_t1_body` keeps every buffer at some contents. -/
theorem k0_t1_body_keeps (v11 : Elt F .f32) (v19 : Vec F S1x1x2048x128 .bf16) (v21 : Vec F S1x1x2048x128 .bf16) (k : Fin k0_t1_loop.trips) (u : Unit) :
    Keeps (F := F) c (All c arg1 arg2 arg3 arg4 arg5 arg6 arg7 arg8 arg9 arg10 arg11 arg12 arg13 arg14 arg15 arg16 arg17 arg18 arg19 arg20 arg21 arg22 arg23) (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v11 v19 v21 k u) := by
  unfold k0_t1_body
  dsimp only
  refine .call (k0_part1_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _) fun r => ?_
  obtain ⟨arg24, v1576, v1580, v1590, v1596, v1602, v1609⟩ := r; dsimp only
  refine .call (k0_part2_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _) fun r => ?_
  obtain ⟨v1631, v1637, v1643, v1645, v1647, v1648⟩ := r; dsimp only
  refine .ld fun _ => ?_; refine .st ?_; refine .ld fun _ => ?_; refine .st ?_
  exact .done _

/-- `k0_t2_body` keeps every buffer at some contents. -/
theorem k0_t2_body_keeps  (k : Fin k0_t2_loop.trips) (u : Unit) :
    Keeps (F := F) c (All c arg1 arg2 arg3 arg4 arg5 arg6 arg7 arg8 arg9 arg10 arg11 arg12 arg13 arg14 arg15 arg16 arg17 arg18 arg19 arg20 arg21 arg22 arg23) (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k u) := by
  unfold k0_t2_body
  dsimp only
  refine .ldq fun _ => ?_; refine .ldq fun _ => ?_; refine .ldq fun _ => ?_; refine .ldq fun _ => ?_; refine .ld fun _ => ?_; refine .st ?_
  exact .done _

/-- `k0_t3_body` keeps every buffer at some contents. -/
theorem k0_t3_body_keeps  (k : Fin k0_t3_loop.trips) (u : Unit) :
    Keeps (F := F) c (All c arg1 arg2 arg3 arg4 arg5 arg6 arg7 arg8 arg9 arg10 arg11 arg12 arg13 arg14 arg15 arg16 arg17 arg18 arg19 arg20 arg21 arg22 arg23) (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k u) := by
  unfold k0_t3_body
  dsimp only
  refine .ldq fun _ => ?_; refine .ld fun _ => ?_; refine .st ?_; refine .ldq fun _ => ?_; refine .ld fun _ => ?_; refine .st ?_
  exact .done _

/-- `k0_t5_body` keeps every buffer at some contents. -/
theorem k0_t5_body_keeps (v18 : FVec F S1x128 .f32) (k : Fin k0_t5_loop.trips) (u : Unit) :
    Keeps (F := F) c (All c arg1 arg2 arg3 arg4 arg5 arg6 arg7 arg8 arg9 arg10 arg11 arg12 arg13 arg14 arg15 arg16 arg17 arg18 arg19 arg20 arg21 arg22 arg23) (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v18 k u) := by
  unfold k0_t5_body
  dsimp only
  refine .ld fun _ => ?_; refine .ld fun _ => ?_; refine .st ?_; refine .ld fun _ => ?_; refine .st ?_; refine .ld fun _ => ?_; refine .ld fun _ => ?_
  refine .st ?_; refine .ld fun _ => ?_; refine .st ?_
  exact .done _

/-- `k0_t6_body` keeps every buffer at some contents. -/
theorem k0_t6_body_keeps  (k : Fin k0_t6_loop.trips) (u : Unit) :
    Keeps (F := F) c (All c arg1 arg2 arg3 arg4 arg5 arg6 arg7 arg8 arg9 arg10 arg11 arg12 arg13 arg14 arg15 arg16 arg17 arg18 arg19 arg20 arg21 arg22 arg23) (k0_t6_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k u) := by
  unfold k0_t6_body
  dsimp only
  refine .call (k0_part13_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _) fun r => ?_
  obtain ⟨arg24, v1604, v1605, v1606⟩ := r; dsimp only
  refine .ld fun _ => ?_; refine .st ?_; refine .ld fun _ => ?_; refine .st ?_
  exact .done _

/-- `k0_part12` keeps every buffer at some contents. -/
theorem k0_part12_keeps (arg0 : BitVec 32) (c0_i32_1347 : BitVec 32) (c1_i32_1349 : BitVec 32) (k0_t4 : Fin k0_t4_loop.trips) :
    Keeps (F := F) c (All c arg1 arg2 arg3 arg4 arg5 arg6 arg7 arg8 arg9 arg10 arg11 arg12 arg13 arg14 arg15 arg16 arg17 arg18 arg19 arg20 arg21 arg22 arg23) (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 c0_i32_1347 c1_i32_1349 k0_t4) := by
  rw [k0_part12_eq_skeleton]; unfold k0_part12_skel
  dsimp only
  refine .call (k0_part3_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _) fun r => ?_
  obtain ⟨arg24, v1567, v1573, v1574, v1602, v1603⟩ := r; dsimp only
  refine .call (k0_part4_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _) fun r => ?_
  obtain ⟨v1616, v1620⟩ := r; dsimp only
  refine .call (k0_part5_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _) fun r => ?_
  obtain ⟨v1659, v1665, v1666, v1670, v1676, v1677⟩ := r; dsimp only
  refine .call (k0_part6_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _) fun r => ?_
  obtain ⟨v1708, v1712, cst_1411⟩ := r; dsimp only
  refine .call (k0_part7_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _) fun r => ?_
  obtain ⟨v1750, c4_i32⟩ := r; dsimp only
  refine .call (k0_part8_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _) fun r => ?_
  obtain ⟨v1751, v1757, v1758, v1786, v1791⟩ := r; dsimp only
  refine .call (k0_part9_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _) fun r => ?_
  obtain ⟨v1800, v1804, v1827⟩ := r; dsimp only
  refine .call (k0_part10_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _) fun r => ?_
  obtain ⟨v1843, v1849, v1850, v1854, v1860, v1861⟩ := r; dsimp only
  refine .call (k0_part11_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _) fun r => ?_
  obtain ⟨v1892, v1896, v1900⟩ := r; dsimp only
  refine .ld fun _ => ?_; refine .st ?_; refine .ld fun _ => ?_; refine .st ?_; refine .ld fun _ => ?_; refine .sld fun _ => ?_; refine .ld fun _ => ?_
  exact .done _

/-- `k0_part14` keeps every buffer at some contents. -/
theorem k0_part14_keeps  :
    Keeps (F := F) c (All c arg1 arg2 arg3 arg4 arg5 arg6 arg7 arg8 arg9 arg10 arg11 arg12 arg13 arg14 arg15 arg16 arg17 arg18 arg19 arg20 arg21 arg22 arg23) (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part14_eq_skeleton]; unfold k0_part14_skel
  dsimp only
  refine .sld fun _ => ?_; refine .ld fun _ => ?_; refine .ld fun _ => ?_; refine .ld fun _ => ?_; refine .loop (fun k u => k0_t1_body_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ k u) fun _ => ?_
  refine .ld fun _ => ?_; refine .ld fun _ => ?_; refine .st ?_
  exact .done _

/-- `k0_part70` keeps every buffer at some contents. -/
theorem k0_part70_keeps  :
    Keeps (F := F) c (All c arg1 arg2 arg3 arg4 arg5 arg6 arg7 arg8 arg9 arg10 arg11 arg12 arg13 arg14 arg15 arg16 arg17 arg18 arg19 arg20 arg21 arg22 arg23) (k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [k0_part70_eq_skeleton]; unfold k0_part70_skel
  dsimp only
  refine .call (k0_part14_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun r => ?_
  obtain ⟨arg0, v18⟩ := r; dsimp only
  refine .call (k0_part15_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part16_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part17_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part18_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part19_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part20_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun r => ?_
  obtain ⟨v195, v196⟩ := r; dsimp only
  refine .call (k0_part21_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _) fun _ => ?_
  refine .call (k0_part22_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part23_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part24_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part25_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part26_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part27_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part28_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part29_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part30_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part31_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part32_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part33_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun r => ?_
  obtain ⟨v555, v556⟩ := r; dsimp only
  refine .call (k0_part34_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _) fun _ => ?_
  refine .call (k0_part35_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part36_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part37_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part38_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part39_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part40_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part41_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part42_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part43_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part44_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part45_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part46_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun r => ?_
  obtain ⟨v915, v916⟩ := r; dsimp only
  refine .call (k0_part47_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _) fun _ => ?_
  refine .call (k0_part48_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part49_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part50_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part51_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part52_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part53_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part54_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part55_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part56_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part57_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part58_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part59_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun r => ?_
  obtain ⟨v1275, v1276⟩ := r; dsimp only
  refine .call (k0_part60_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _) fun _ => ?_
  refine .call (k0_part61_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part62_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part63_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part64_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part65_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part66_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part67_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun _ => ?_
  refine .call (k0_part68_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .call (k0_part69_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _) fun _ => ?_
  refine .st ?_
  exact .done _

/-- `k0_t4_body` keeps every buffer at some contents. -/
theorem k0_t4_body_keeps (arg0 : BitVec 32) (k : Fin k0_t4_loop.trips) (u : Unit) :
    Keeps (F := F) c (All c arg1 arg2 arg3 arg4 arg5 arg6 arg7 arg8 arg9 arg10 arg11 arg12 arg13 arg14 arg15 arg16 arg17 arg18 arg19 arg20 arg21 arg22 arg23) (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k u) := by
  unfold k0_t4_body
  dsimp only
  refine .call (k0_part12_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _) fun r => ?_
  obtain ⟨v1933_lo, v1933_hi⟩ := r; dsimp only
  refine .st ?_
  exact .done _

/-- `cc0_fno_bwd` keeps every buffer at some contents. -/
theorem cc0_fno_bwd_keeps  :
    Keeps (F := F) c (All c arg1 arg2 arg3 arg4 arg5 arg6 arg7 arg8 arg9 arg10 arg11 arg12 arg13 arg14 arg15 arg16 arg17 arg18 arg19 arg20 arg21 arg22 arg23) (cc0_fno_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  rw [cc0_fno_bwd_eq_skeleton]; unfold cc0_fno_bwd_skel
  dsimp only
  refine .call (k0_part70_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) fun r => ?_
  obtain ⟨arg0, v18⟩ := r; dsimp only
  refine .ld fun _ => ?_; refine .ld fun _ => ?_; refine .st ?_; refine .loop (fun k u => k0_t2_body_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k u) fun _ => ?_
  refine .loop (fun k u => k0_t3_body_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k u) fun _ => ?_
  refine .loop (fun k u => k0_t4_body_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ k u) fun _ => ?_
  refine .loop (fun k u => k0_t5_body_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ k u) fun _ => ?_
  refine .loop (fun k u => k0_t6_body_keeps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23  k u) fun _ => ?_
  exact .done _

end Cert.Proof.KernelIdeal
-- ==== Proof.KIFrame.lean ====
/-
  The frame of the ideal program: the body keeps every buffer, so the launch ends with the arguments unchanged.
-/
module

public import proofs.«01_k».proof.Proof.KIKeepBody

@[expose] public section

set_option maxRecDepth 16384

noncomputable section

namespace Cert.Proof.KernelIdeal

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The launch's data: no window's contents after the body are named. -/
def dats (p : Fin 1) (c : Dev nD) : Dat τ (Elt F) Unit ℕ (UR sig nD τ) ℕ (cfgs p) c :=
  match p with
  | 0 =>
    { A := fun w => V m c (Pipeline.arrRef spec0 w)
      after := Dat.unnamed (cfg := cfg0)
      Φ := fun _ => Pipeline.ΦA spec0 c
      q := fun _ => fullShare
      owed := fun _ => 0 }
  | ⟨_ + 1, h⟩ => absurd h (Nat.not_lt.2 (Nat.le_add_left _ _))

/-- A memref owned at some contents. -/
theorem any_of {c : Dev nD} {sp : Space} {s : Shape} {e : EltTy} (mm : Memref sig .tc sp s e) :
    (iprop(∃ X, owns (c : Thread nD τ) mm fullShare X) : sProp 𝕄) ⊢ Any c mm := by
  iintro ⟨%X, H⟩
  iapply (ownsSat_intro (c := (c : Thread nD τ)) (m := mm) (q := fullShare) (Φ := fun _ => True) (X := X) trivial)
  iexact H

/-- And back. -/
theorem of_any {c : Dev nD} {sp : Space} {s : Shape} {e : EltTy} (mm : Memref sig .tc sp s e) :
    (Any c mm : sProp 𝕄) ⊢ iprop(∃ X, owns (c : Thread nD τ) mm fullShare X) := by
  iintro H
  ihave ⟨%X, -, H⟩ := (ownsSat_elim (c := (c : Thread nD τ)) (m := mm) (q := fullShare) (fun _ => True)) $$ H
  iexists X; iexact H

/-- A whole buffer at some contents. -/
theorem any_whole {c : Dev nD} (b : Ref sig .tc) :
    (iprop(∃ f : Buf (Elt F) ((c : Thread nD τ).loc b), ((c : Thread nD τ).loc b) ↦{fullShare} f) : sProp 𝕄)
      ⊢ Any c (Memref.whole b) := by
  refine BIBase.Entails.trans ?_ (any_of (Memref.whole b))
  simp only [owns_whole]
  exact .rfl

/-- And back. -/
theorem whole_any {c : Dev nD} (b : Ref sig .tc) :
    (Any c (Memref.whole b) : sProp 𝕄)
      ⊢ iprop(∃ f : Buf (Elt F) ((c : Thread nD τ).loc b), ((c : Thread nD τ).loc b) ↦{fullShare} f) := by
  refine (of_any _).trans ?_
  simp only [owns_whole]
  exact .rfl

/-- The body's obligation, every window's contents forgotten. -/
theorem body_obligation (c : Dev nD) :
    BodyObligationLoose (dats m 0 c) defs₀ 𝒱₀ () Set.univ (fun _ => true) := by
  intro t
  dsimp only
  rw [bigSep_W0]
  have hΦ (u : Fin (cfg0.N + 1)) : (dats m 0 c).Φ u = iprop(Pipeline.scopedRest spec0 c ∗ ∃ r, prngReg c r) := rfl
  rw [show (dats m 0 c).owesAt () t.succ = (dats m 0 c).owesAt () t.castSucc from rfl]
  rw [hΦ, hΦ, scopedRest0_eq]
  change _ ⊢ wp _ _ _ (bodyAt0 t) _
  iintro ⟨⟨⟨K0, K1, K2, K3, K4, K5, K6, K7⟩, Hr⟩, Ho, H0, H1, H2, H3, H4, H5, H6, H7, H8, H9, H10, H11, H12, H13, H14⟩
  iapply (wp_wand frame (wpE (defs₀ (F := F)) 𝒱₀ (c : Thread nD τ) none) Set.univ) $$ [H0 H1 H2 H3 H4 H5 H6 H7 H8 H9 H10 H11 H12 H13 H14 K0 K1 K2 K3 K4 K5 K6 K7]
  · iapply (cc0_fno_bwd_keeps c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _))
    unfold All
    isplitl [H0]; · iapply (any_of _); iexact H0
    isplitl [H1]; · iapply (any_of _); iexact H1
    isplitl [H2]; · iapply (any_of _); iexact H2
    isplitl [H3]; · iapply (any_of _); iexact H3
    isplitl [H4]; · iapply (any_of _); iexact H4
    isplitl [H5]; · iapply (any_of _); iexact H5
    isplitl [H6]; · iapply (any_of _); iexact H6
    isplitl [H7]; · iapply (any_of _); iexact H7
    isplitl [H8]; · iapply (any_of _); iexact H8
    isplitl [H9]; · iapply (any_of _); iexact H9
    isplitl [H10]; · iapply (any_of _); iexact H10
    isplitl [H11]; · iapply (any_of _); iexact H11
    isplitl [H12]; · iapply (any_of _); iexact H12
    isplitl [H13]; · iapply (any_of _); iexact H13
    isplitl [H14]; · iapply (any_of _); iexact H14
    isplitl [K0]; · iapply (any_whole _); iexact K0
    isplitl [K1]; · iapply (any_whole _); iexact K1
    isplitl [K2]; · iapply (any_whole _); iexact K2
    isplitl [K3]; · iapply (any_whole _); iexact K3
    isplitl [K4]; · iapply (any_whole _); iexact K4
    isplitl [K5]; · iapply (any_whole _); iexact K5
    isplitl [K6]; · iapply (any_whole _); iexact K6
    iapply (any_whole _); iexact K7
  · iintro %u H
    unfold All
    icases H with ⟨H0, H1, H2, H3, H4, H5, H6, H7, H8, H9, H10, H11, H12, H13, H14, K0, K1, K2, K3, K4, K5, K6, K7⟩
    isplitl [K0 K1 K2 K3 K4 K5 K6 K7 Hr]
    · isplitl [K0 K1 K2 K3 K4 K5 K6 K7]
      · isplitl [K0]; · iapply (whole_any _); iexact K0
        isplitl [K1]; · iapply (whole_any _); iexact K1
        isplitl [K2]; · iapply (whole_any _); iexact K2
        isplitl [K3]; · iapply (whole_any _); iexact K3
        isplitl [K4]; · iapply (whole_any _); iexact K4
        isplitl [K5]; · iapply (whole_any _); iexact K5
        isplitl [K6]; · iapply (whole_any _); iexact K6
        iapply (whole_any _); iexact K7
      · iexact Hr
    isplitl [Ho]; · iexact Ho
    isplitl [H0]; · iapply (of_any _); iexact H0
    isplitl [H1]; · iapply (of_any _); iexact H1
    isplitl [H2]; · iapply (of_any _); iexact H2
    isplitl [H3]; · iapply (of_any _); iexact H3
    isplitl [H4]; · iapply (of_any _); iexact H4
    isplitl [H5]; · iapply (of_any _); iexact H5
    isplitl [H6]; · iapply (of_any _); iexact H6
    isplitl [H7]; · iapply (of_any _); iexact H7
    isplitl [H8]; · iapply (of_any _); iexact H8
    isplitl [H9]; · iapply (of_any _); iexact H9
    isplitl [H10]; · iapply (of_any _); iexact H10
    isplitl [H11]; · iapply (of_any _); iexact H11
    isplitl [H12]; · iapply (of_any _); iexact H12
    isplitl [H13]; · iapply (of_any _); iexact H13
    iapply (of_any _); iexact H14

/-- The buffers the host lines after the region write. -/
def tailT : Finset (Ref sig .tc) := {main_v10, main_v11, main_v12, main_v13, main_v14, main_v15}

/-- What those lines write lies among them. -/
theorem tail_writes : ∀ ops ∈ ([hostOps1] : List (List (HloOp τ sig (Elt F)))), ∀ op ∈ ops, ∀ b : Ref sig .tc,
    Proc.devRef .tc b ∈ op.writes → b ∈ tailT := by
  intro ops hops op hop b hb
  simp only [List.mem_cons, List.mem_nil_iff, or_false] at hops
  subst hops
  simp only [hostOps1, List.mem_cons, List.mem_nil_iff, or_false] at hop
  rcases hop with rfl | rfl | rfl | rfl | rfl | rfl <;>
  · simp only [StableHlo.unary_writes, Finset.mem_singleton] at hb
    obtain rfl := Proc.devRef_injective (τ := τ) _ hb
    decide

/-- The program runs to its end, the arguments unchanged and every semaphore back at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8)) ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      (h.1.arr_in c 2 rfl).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      (h.1.arr_in c 0 rfl).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c)⟩, h.2⟩)
    (Pipeline.θ_run_frame_around_T_forget cfgs (dats m) 0 launch0 defs₀ 𝒱₀ (fun _ => true) tailT m ρ main
      (hbody := body_obligation m)
      (hshare := fun c => (dats m 0 c).share_full fun _ => rfl) (howed := fun _ _ => rfl)
      (V₀ := V0 m) (opss := [hostOps1]) (hsub := sfx_sub) (hfresh := sfx_fresh) (hkeep := sfx_keeps)
      (hT := tail_writes) (hmain := hmain m 𝒱₀) (hA := fun _ _ => rfl) (hΦ := fun _ _ => rfl)
      (Q' := fun r => Pipeline.RDat.FramePostR cfg0 (fun c => (dats m 0 c).toRForget (fun _ => true)) tailT (fun c b => V0 m c (Proc.devRef .tc b)) r ∧ r.2.sem = fun _ => 0)
      (hQ' := fun _ h => h))

end Cert.Proof.KernelIdeal
-- ==== Proof.Sem.lean ====
/-
  The memory of one run of the body: the twenty-three buffers it is given, a predicate on the contents of each, and
  the rules by which a load, a store, a word read, a loop and a called part are run from such a memory.
-/
module

public import proofs.«01_k».proof.Proof.Own
public import proofs.«01_k».proof.Proof.Gen.KernelIdeal
public import proofs.«01_k».proof.Proof.Gen.KernelIdeal.Skeleton
public import proofs.«01_k».proof.Proof.Gen.KernelIdeal.Frame
public import Idealize.ShloMosaic.Lib.Pointwise

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra the body is run at. -/
abbrev UU (nD : Nat) (τ : Topo) : Type := UR sig nD τ
abbrev 𝒱₀ : Variants := Variants.none

local notation "𝕄" => MT nD τ sig Unit (Elt F) ℕ (UU nD τ) ℕ

/-- The buffers the body is given. -/
structure Bufs where
  a1 : Memref sig .tc .smem S768 .f32
  h1 : a1.IsWhole
  a2 : Memref sig .tc .smem S1 .f32
  h2 : a2.IsWhole
  a3 : Memref sig .tc .vmem S768 .f32
  h3 : a3.IsWhole
  a4 : Memref sig .tc .vmem S32x96x128 .i8
  h4 : a4.IsWhole
  a5 : Memref sig .tc .vmem S32x96x128 .i8
  h5 : a5.IsWhole
  a6 : Memref sig .tc .vmem S96x64x128 .i8
  h6 : a6.IsWhole
  a7 : Memref sig .tc .vmem S96x64x128 .i8
  h7 : a7.IsWhole
  a8 : Memref sig .tc .vmem S32x64x2048 .fp8e5m2
  h8 : a8.IsWhole
  a9 : Memref sig .tc .vmem S1x2x2048x128 .bf16
  h9 : a9.IsWhole
  a10 : Memref sig .tc .vmem S96x64x128 .f32
  h10 : a10.IsWhole
  a11 : Memref sig .tc .vmem S96x64x128 .f32
  h11 : a11.IsWhole
  a12 : Memref sig .tc .vmem S32x96x128 .bf16
  h12 : a12.IsWhole
  a13 : Memref sig .tc .vmem S32x96x128 .bf16
  h13 : a13.IsWhole
  a14 : Memref sig .tc .vmem S32x64x128 .bf16
  h14 : a14.IsWhole
  a15 : Memref sig .tc .vmem S32x64x128 .bf16
  h15 : a15.IsWhole
  a16 : Memref sig .tc .vmem S2x896x128 .i32
  h16 : a16.IsWhole
  a17 : Memref sig .tc .vmem S2x1920x128 .i32
  h17 : a17.IsWhole
  a18 : Memref sig .tc .vmem S1536x128 .i32
  h18 : a18.IsWhole
  a19 : Memref sig .tc .vmem S4608x2x128 .bf16
  h19 : a19.IsWhole
  a20 : Memref sig .tc .vmem S4608x128 .i32
  h20 : a20.IsWhole
  a21 : Memref sig .tc .vmem S6656x128 .f32
  h21 : a21.IsWhole
  a22 : Memref sig .tc .vmem S6656x128 .f32
  h22 : a22.IsWhole
  a23 : Memref sig .tc .vmem S4608x2x128 .bf16
  h23 : a23.IsWhole

/-- What is said of the contents of each buffer. -/
structure Preds (F : FTy → Type) where
  p1 : (S768.Idx → Elt F .f32) → Prop
  p2 : (S1.Idx → Elt F .f32) → Prop
  p3 : (S768.Idx → Elt F .f32) → Prop
  p4 : (S32x96x128.Idx → Elt F .i8) → Prop
  p5 : (S32x96x128.Idx → Elt F .i8) → Prop
  p6 : (S96x64x128.Idx → Elt F .i8) → Prop
  p7 : (S96x64x128.Idx → Elt F .i8) → Prop
  p8 : (S32x64x2048.Idx → Elt F .fp8e5m2) → Prop
  p9 : (S1x2x2048x128.Idx → Elt F .bf16) → Prop
  p10 : (S96x64x128.Idx → Elt F .f32) → Prop
  p11 : (S96x64x128.Idx → Elt F .f32) → Prop
  p12 : (S32x96x128.Idx → Elt F .bf16) → Prop
  p13 : (S32x96x128.Idx → Elt F .bf16) → Prop
  p14 : (S32x64x128.Idx → Elt F .bf16) → Prop
  p15 : (S32x64x128.Idx → Elt F .bf16) → Prop
  p16 : (S2x896x128.Idx → Elt F .i32) → Prop
  p17 : (S2x1920x128.Idx → Elt F .i32) → Prop
  p18 : (S1536x128.Idx → Elt F .i32) → Prop
  p19 : (S4608x2x128.Idx → Elt F .bf16) → Prop
  p20 : (S4608x128.Idx → Elt F .i32) → Prop
  p21 : (S6656x128.Idx → Elt F .f32) → Prop
  p22 : (S6656x128.Idx → Elt F .f32) → Prop
  p23 : (S4608x2x128.Idx → Elt F .bf16) → Prop

/-- The predicate on buffer 1 replaced. -/
@[reducible] def Preds.set1 (σ : Preds F) (Ψ : (S768.Idx → Elt F .f32) → Prop) : Preds F := { σ with p1 := Ψ }
/-- The predicate on buffer 2 replaced. -/
@[reducible] def Preds.set2 (σ : Preds F) (Ψ : (S1.Idx → Elt F .f32) → Prop) : Preds F := { σ with p2 := Ψ }
/-- The predicate on buffer 3 replaced. -/
@[reducible] def Preds.set3 (σ : Preds F) (Ψ : (S768.Idx → Elt F .f32) → Prop) : Preds F := { σ with p3 := Ψ }
/-- The predicate on buffer 4 replaced. -/
@[reducible] def Preds.set4 (σ : Preds F) (Ψ : (S32x96x128.Idx → Elt F .i8) → Prop) : Preds F := { σ with p4 := Ψ }
/-- The predicate on buffer 5 replaced. -/
@[reducible] def Preds.set5 (σ : Preds F) (Ψ : (S32x96x128.Idx → Elt F .i8) → Prop) : Preds F := { σ with p5 := Ψ }
/-- The predicate on buffer 6 replaced. -/
@[reducible] def Preds.set6 (σ : Preds F) (Ψ : (S96x64x128.Idx → Elt F .i8) → Prop) : Preds F := { σ with p6 := Ψ }
/-- The predicate on buffer 7 replaced. -/
@[reducible] def Preds.set7 (σ : Preds F) (Ψ : (S96x64x128.Idx → Elt F .i8) → Prop) : Preds F := { σ with p7 := Ψ }
/-- The predicate on buffer 8 replaced. -/
@[reducible] def Preds.set8 (σ : Preds F) (Ψ : (S32x64x2048.Idx → Elt F .fp8e5m2) → Prop) : Preds F := { σ with p8 := Ψ }
/-- The predicate on buffer 9 replaced. -/
@[reducible] def Preds.set9 (σ : Preds F) (Ψ : (S1x2x2048x128.Idx → Elt F .bf16) → Prop) : Preds F := { σ with p9 := Ψ }
/-- The predicate on buffer 10 replaced. -/
@[reducible] def Preds.set10 (σ : Preds F) (Ψ : (S96x64x128.Idx → Elt F .f32) → Prop) : Preds F := { σ with p10 := Ψ }
/-- The predicate on buffer 11 replaced. -/
@[reducible] def Preds.set11 (σ : Preds F) (Ψ : (S96x64x128.Idx → Elt F .f32) → Prop) : Preds F := { σ with p11 := Ψ }
/-- The predicate on buffer 12 replaced. -/
@[reducible] def Preds.set12 (σ : Preds F) (Ψ : (S32x96x128.Idx → Elt F .bf16) → Prop) : Preds F := { σ with p12 := Ψ }
/-- The predicate on buffer 13 replaced. -/
@[reducible] def Preds.set13 (σ : Preds F) (Ψ : (S32x96x128.Idx → Elt F .bf16) → Prop) : Preds F := { σ with p13 := Ψ }
/-- The predicate on buffer 14 replaced. -/
@[reducible] def Preds.set14 (σ : Preds F) (Ψ : (S32x64x128.Idx → Elt F .bf16) → Prop) : Preds F := { σ with p14 := Ψ }
/-- The predicate on buffer 15 replaced. -/
@[reducible] def Preds.set15 (σ : Preds F) (Ψ : (S32x64x128.Idx → Elt F .bf16) → Prop) : Preds F := { σ with p15 := Ψ }
/-- The predicate on buffer 16 replaced. -/
@[reducible] def Preds.set16 (σ : Preds F) (Ψ : (S2x896x128.Idx → Elt F .i32) → Prop) : Preds F := { σ with p16 := Ψ }
/-- The predicate on buffer 17 replaced. -/
@[reducible] def Preds.set17 (σ : Preds F) (Ψ : (S2x1920x128.Idx → Elt F .i32) → Prop) : Preds F := { σ with p17 := Ψ }
/-- The predicate on buffer 18 replaced. -/
@[reducible] def Preds.set18 (σ : Preds F) (Ψ : (S1536x128.Idx → Elt F .i32) → Prop) : Preds F := { σ with p18 := Ψ }
/-- The predicate on buffer 19 replaced. -/
@[reducible] def Preds.set19 (σ : Preds F) (Ψ : (S4608x2x128.Idx → Elt F .bf16) → Prop) : Preds F := { σ with p19 := Ψ }
/-- The predicate on buffer 20 replaced. -/
@[reducible] def Preds.set20 (σ : Preds F) (Ψ : (S4608x128.Idx → Elt F .i32) → Prop) : Preds F := { σ with p20 := Ψ }
/-- The predicate on buffer 21 replaced. -/
@[reducible] def Preds.set21 (σ : Preds F) (Ψ : (S6656x128.Idx → Elt F .f32) → Prop) : Preds F := { σ with p21 := Ψ }
/-- The predicate on buffer 22 replaced. -/
@[reducible] def Preds.set22 (σ : Preds F) (Ψ : (S6656x128.Idx → Elt F .f32) → Prop) : Preds F := { σ with p22 := Ψ }
/-- The predicate on buffer 23 replaced. -/
@[reducible] def Preds.set23 (σ : Preds F) (Ψ : (S4608x2x128.Idx → Elt F .bf16) → Prop) : Preds F := { σ with p23 := Ψ }

/-- Every buffer is owned, its contents as `σ` says. -/
def St (c : Dev nD) (b : Bufs) (σ : Preds F) : sProp 𝕄 :=
  iprop(ownsSat (c : Thread nD τ) b.a1 fullShare σ.p1 ∗ ownsSat (c : Thread nD τ) b.a2 fullShare σ.p2 ∗ ownsSat (c : Thread nD τ) b.a3 fullShare σ.p3 ∗ ownsSat (c : Thread nD τ) b.a4 fullShare σ.p4 ∗ ownsSat (c : Thread nD τ) b.a5 fullShare σ.p5 ∗ ownsSat (c : Thread nD τ) b.a6 fullShare σ.p6 ∗ ownsSat (c : Thread nD τ) b.a7 fullShare σ.p7 ∗ ownsSat (c : Thread nD τ) b.a8 fullShare σ.p8 ∗ ownsSat (c : Thread nD τ) b.a9 fullShare σ.p9 ∗ ownsSat (c : Thread nD τ) b.a10 fullShare σ.p10 ∗ ownsSat (c : Thread nD τ) b.a11 fullShare σ.p11 ∗ ownsSat (c : Thread nD τ) b.a12 fullShare σ.p12 ∗ ownsSat (c : Thread nD τ) b.a13 fullShare σ.p13 ∗ ownsSat (c : Thread nD τ) b.a14 fullShare σ.p14 ∗ ownsSat (c : Thread nD τ) b.a15 fullShare σ.p15 ∗ ownsSat (c : Thread nD τ) b.a16 fullShare σ.p16 ∗ ownsSat (c : Thread nD τ) b.a17 fullShare σ.p17 ∗ ownsSat (c : Thread nD τ) b.a18 fullShare σ.p18 ∗ ownsSat (c : Thread nD τ) b.a19 fullShare σ.p19 ∗ ownsSat (c : Thread nD τ) b.a20 fullShare σ.p20 ∗ ownsSat (c : Thread nD τ) b.a21 fullShare σ.p21 ∗ ownsSat (c : Thread nD τ) b.a22 fullShare σ.p22 ∗ ownsSat (c : Thread nD τ) b.a23 fullShare σ.p23)

/-- A buffer among those owned: its predicate read off, and its predicate replaced. -/
class Slot (F : FTy → Type) [FloatOps F] (c : Dev nD) (b : Bufs) {sp : Space} {s : Shape} {e : EltTy} (m : Memref sig .tc sp s e)
    (get : outParam (Preds F → (s.Idx → Elt F e) → Prop)) (set : outParam (Preds F → ((s.Idx → Elt F e) → Prop) → Preds F)) : Prop where
  acc : ∀ σ, St c b σ ⊢ iprop(ownsSat (c : Thread nD τ) m fullShare (get σ) ∗ (∀ Ψ, ownsSat (c : Thread nD τ) m fullShare Ψ -∗ St c b (set σ Ψ)))
  same : ∀ σ, set σ (get σ) = σ

instance slot1 (c : Dev nD) (b : Bufs) : Slot F c b b.a1 (fun σ => σ.p1) Preds.set1 where
  acc σ := by
    unfold St
    iintro ⟨H1, H2, H3, H4, H5, H6, H7, H8, H9, H10, H11, H12, H13, H14, H15, H16, H17, H18, H19, H20, H21, H22, H23⟩
    isplitl [H1]; · iexact H1
    iintro %Ψ H1
    iframe
  same σ := rfl

instance slot2 (c : Dev nD) (b : Bufs) : Slot F c b b.a2 (fun σ => σ.p2) Preds.set2 where
  acc σ := by
    unfold St
    iintro ⟨H1, H2, H3, H4, H5, H6, H7, H8, H9, H10, H11, H12, H13, H14, H15, H16, H17, H18, H19, H20, H21, H22, H23⟩
    isplitl [H2]; · iexact H2
    iintro %Ψ H2
    iframe
  same σ := rfl

instance slot3 (c : Dev nD) (b : Bufs) : Slot F c b b.a3 (fun σ => σ.p3) Preds.set3 where
  acc σ := by
    unfold St
    iintro ⟨H1, H2, H3, H4, H5, H6, H7, H8, H9, H10, H11, H12, H13, H14, H15, H16, H17, H18, H19, H20, H21, H22, H23⟩
    isplitl [H3]; · iexact H3
    iintro %Ψ H3
    iframe
  same σ := rfl

instance slot4 (c : Dev nD) (b : Bufs) : Slot F c b b.a4 (fun σ => σ.p4) Preds.set4 where
  acc σ := by
    unfold St
    iintro ⟨H1, H2, H3, H4, H5, H6, H7, H8, H9, H10, H11, H12, H13, H14, H15, H16, H17, H18, H19, H20, H21, H22, H23⟩
    isplitl [H4]; · iexact H4
    iintro %Ψ H4
    iframe
  same σ := rfl

instance slot5 (c : Dev nD) (b : Bufs) : Slot F c b b.a5 (fun σ => σ.p5) Preds.set5 where
  acc σ := by
    unfold St
    iintro ⟨H1, H2, H3, H4, H5, H6, H7, H8, H9, H10, H11, H12, H13, H14, H15, H16, H17, H18, H19, H20, H21, H22, H23⟩
    isplitl [H5]; · iexact H5
    iintro %Ψ H5
    iframe
  same σ := rfl

instance slot6 (c : Dev nD) (b : Bufs) : Slot F c b b.a6 (fun σ => σ.p6) Preds.set6 where
  acc σ := by
    unfold St
    iintro ⟨H1, H2, H3, H4, H5, H6, H7, H8, H9, H10, H11, H12, H13, H14, H15, H16, H17, H18, H19, H20, H21, H22, H23⟩
    isplitl [H6]; · iexact H6
    iintro %Ψ H6
    iframe
  same σ := rfl

instance slot7 (c : Dev nD) (b : Bufs) : Slot F c b b.a7 (fun σ => σ.p7) Preds.set7 where
  acc σ := by
    unfold St
    iintro ⟨H1, H2, H3, H4, H5, H6, H7, H8, H9, H10, H11, H12, H13, H14, H15, H16, H17, H18, H19, H20, H21, H22, H23⟩
    isplitl [H7]; · iexact H7
    iintro %Ψ H7
    iframe
  same σ := rfl

instance slot8 (c : Dev nD) (b : Bufs) : Slot F c b b.a8 (fun σ => σ.p8) Preds.set8 where
  acc σ := by
    unfold St
    iintro ⟨H1, H2, H3, H4, H5, H6, H7, H8, H9, H10, H11, H12, H13, H14, H15, H16, H17, H18, H19, H20, H21, H22, H23⟩
    isplitl [H8]; · iexact H8
    iintro %Ψ H8
    iframe
  same σ := rfl

instance slot9 (c : Dev nD) (b : Bufs) : Slot F c b b.a9 (fun σ => σ.p9) Preds.set9 where
  acc σ := by
    unfold St
    iintro ⟨H1, H2, H3, H4, H5, H6, H7, H8, H9, H10, H11, H12, H13, H14, H15, H16, H17, H18, H19, H20, H21, H22, H23⟩
    isplitl [H9]; · iexact H9
    iintro %Ψ H9
    iframe
  same σ := rfl

instance slot10 (c : Dev nD) (b : Bufs) : Slot F c b b.a10 (fun σ => σ.p10) Preds.set10 where
  acc σ := by
    unfold St
    iintro ⟨H1, H2, H3, H4, H5, H6, H7, H8, H9, H10, H11, H12, H13, H14, H15, H16, H17, H18, H19, H20, H21, H22, H23⟩
    isplitl [H10]; · iexact H10
    iintro %Ψ H10
    iframe
  same σ := rfl

instance slot11 (c : Dev nD) (b : Bufs) : Slot F c b b.a11 (fun σ => σ.p11) Preds.set11 where
  acc σ := by
    unfold St
    iintro ⟨H1, H2, H3, H4, H5, H6, H7, H8, H9, H10, H11, H12, H13, H14, H15, H16, H17, H18, H19, H20, H21, H22, H23⟩
    isplitl [H11]; · iexact H11
    iintro %Ψ H11
    iframe
  same σ := rfl

instance slot12 (c : Dev nD) (b : Bufs) : Slot F c b b.a12 (fun σ => σ.p12) Preds.set12 where
  acc σ := by
    unfold St
    iintro ⟨H1, H2, H3, H4, H5, H6, H7, H8, H9, H10, H11, H12, H13, H14, H15, H16, H17, H18, H19, H20, H21, H22, H23⟩
    isplitl [H12]; · iexact H12
    iintro %Ψ H12
    iframe
  same σ := rfl

instance slot13 (c : Dev nD) (b : Bufs) : Slot F c b b.a13 (fun σ => σ.p13) Preds.set13 where
  acc σ := by
    unfold St
    iintro ⟨H1, H2, H3, H4, H5, H6, H7, H8, H9, H10, H11, H12, H13, H14, H15, H16, H17, H18, H19, H20, H21, H22, H23⟩
    isplitl [H13]; · iexact H13
    iintro %Ψ H13
    iframe
  same σ := rfl

instance slot14 (c : Dev nD) (b : Bufs) : Slot F c b b.a14 (fun σ => σ.p14) Preds.set14 where
  acc σ := by
    unfold St
    iintro ⟨H1, H2, H3, H4, H5, H6, H7, H8, H9, H10, H11, H12, H13, H14, H15, H16, H17, H18, H19, H20, H21, H22, H23⟩
    isplitl [H14]; · iexact H14
    iintro %Ψ H14
    iframe
  same σ := rfl

instance slot15 (c : Dev nD) (b : Bufs) : Slot F c b b.a15 (fun σ => σ.p15) Preds.set15 where
  acc σ := by
    unfold St
    iintro ⟨H1, H2, H3, H4, H5, H6, H7, H8, H9, H10, H11, H12, H13, H14, H15, H16, H17, H18, H19, H20, H21, H22, H23⟩
    isplitl [H15]; · iexact H15
    iintro %Ψ H15
    iframe
  same σ := rfl

instance slot16 (c : Dev nD) (b : Bufs) : Slot F c b b.a16 (fun σ => σ.p16) Preds.set16 where
  acc σ := by
    unfold St
    iintro ⟨H1, H2, H3, H4, H5, H6, H7, H8, H9, H10, H11, H12, H13, H14, H15, H16, H17, H18, H19, H20, H21, H22, H23⟩
    isplitl [H16]; · iexact H16
    iintro %Ψ H16
    iframe
  same σ := rfl

instance slot17 (c : Dev nD) (b : Bufs) : Slot F c b b.a17 (fun σ => σ.p17) Preds.set17 where
  acc σ := by
    unfold St
    iintro ⟨H1, H2, H3, H4, H5, H6, H7, H8, H9, H10, H11, H12, H13, H14, H15, H16, H17, H18, H19, H20, H21, H22, H23⟩
    isplitl [H17]; · iexact H17
    iintro %Ψ H17
    iframe
  same σ := rfl

instance slot18 (c : Dev nD) (b : Bufs) : Slot F c b b.a18 (fun σ => σ.p18) Preds.set18 where
  acc σ := by
    unfold St
    iintro ⟨H1, H2, H3, H4, H5, H6, H7, H8, H9, H10, H11, H12, H13, H14, H15, H16, H17, H18, H19, H20, H21, H22, H23⟩
    isplitl [H18]; · iexact H18
    iintro %Ψ H18
    iframe
  same σ := rfl

instance slot19 (c : Dev nD) (b : Bufs) : Slot F c b b.a19 (fun σ => σ.p19) Preds.set19 where
  acc σ := by
    unfold St
    iintro ⟨H1, H2, H3, H4, H5, H6, H7, H8, H9, H10, H11, H12, H13, H14, H15, H16, H17, H18, H19, H20, H21, H22, H23⟩
    isplitl [H19]; · iexact H19
    iintro %Ψ H19
    iframe
  same σ := rfl

instance slot20 (c : Dev nD) (b : Bufs) : Slot F c b b.a20 (fun σ => σ.p20) Preds.set20 where
  acc σ := by
    unfold St
    iintro ⟨H1, H2, H3, H4, H5, H6, H7, H8, H9, H10, H11, H12, H13, H14, H15, H16, H17, H18, H19, H20, H21, H22, H23⟩
    isplitl [H20]; · iexact H20
    iintro %Ψ H20
    iframe
  same σ := rfl

instance slot21 (c : Dev nD) (b : Bufs) : Slot F c b b.a21 (fun σ => σ.p21) Preds.set21 where
  acc σ := by
    unfold St
    iintro ⟨H1, H2, H3, H4, H5, H6, H7, H8, H9, H10, H11, H12, H13, H14, H15, H16, H17, H18, H19, H20, H21, H22, H23⟩
    isplitl [H21]; · iexact H21
    iintro %Ψ H21
    iframe
  same σ := rfl

instance slot22 (c : Dev nD) (b : Bufs) : Slot F c b b.a22 (fun σ => σ.p22) Preds.set22 where
  acc σ := by
    unfold St
    iintro ⟨H1, H2, H3, H4, H5, H6, H7, H8, H9, H10, H11, H12, H13, H14, H15, H16, H17, H18, H19, H20, H21, H22, H23⟩
    isplitl [H22]; · iexact H22
    iintro %Ψ H22
    iframe
  same σ := rfl

instance slot23 (c : Dev nD) (b : Bufs) : Slot F c b b.a23 (fun σ => σ.p23) Preds.set23 where
  acc σ := by
    unfold St
    iintro ⟨H1, H2, H3, H4, H5, H6, H7, H8, H9, H10, H11, H12, H13, H14, H15, H16, H17, H18, H19, H20, H21, H22, H23⟩
    isplitl [H23]; · iexact H23
    iintro %Ψ H23
    iframe
  same σ := rfl

/-- From the memory `σ` the program runs to `R`. -/
def Runs (c : Dev nD) (b : Bufs) (σ : Preds F) {α : Type} (p : Prog (TpuEff nD τ sig (Elt F) Λ₀ .tc) α)
    (R : α → sProp (MT nD τ sig Unit (Elt F) ℕ (UU nD τ) ℕ)) : Prop :=
  St c b σ ⊢ wp frame (wpE (defs₀ (F := F)) 𝒱₀ (c : Thread nD τ) none) Set.univ p R

namespace Runs

variable {c : Dev nD} {b : Bufs} {σ : Preds F} {α β γ : Type} {s s' : Shape} {e : EltTy} {cs : CoreSpace}
variable {R : α → sProp (MT nD τ sig Unit (Elt F) ℕ (UU nD τ) ℕ)}

/-- A load reads contents that meet the buffer's predicate. -/
theorem ld {m : Memref sig .tc cs s e} {get : Preds F → (s.Idx → Elt F e) → Prop} {set : Preds F → ((s.Idx → Elt F e) → Prop) → Preds F}
    [hS : Slot F c b m get set] {r : LoadRect s} {hl : m.view.LoadsAt r}
    {k : (r.shape.Idx → Elt F e) → Prog (TpuEff nD τ sig (Elt F) Λ₀ .tc) α}
    (h : ∀ X, get σ X → Runs c b σ (k (fun j => X (r.idx j))) R) :
    Runs c b σ (Prog.lift (TpuEff.load m r hl) >>= k : Prog (TpuEff nD τ sig (Elt F) Λ₀ .tc) α) R := by
  unfold Runs
  refine (hS.acc σ).trans ?_
  iintro ⟨H, HK⟩
  iapply (wp_ld 𝒱₀ (c : Thread nD τ) none Set.univ) $$ H
  iintro %X %hX H
  iapply (show St c b σ ⊢ _ from h X hX)
  ihave H := HK $$ %_ H
  rw [hS.same]
  iexact H

/-- A load of a buffer whose contents are known reads them. -/
theorem ldv {m : Memref sig .tc cs s e} {get : Preds F → (s.Idx → Elt F e) → Prop} {set : Preds F → ((s.Idx → Elt F e) → Prop) → Preds F}
    [hS : Slot F c b m get set] {r : LoadRect s} {hl : m.view.LoadsAt r}
    {k : (r.shape.Idx → Elt F e) → Prog (TpuEff nD τ sig (Elt F) Λ₀ .tc) α} {v : r.shape.Idx → Elt F e}
    (hv : ∀ X, get σ X → (fun j => X (r.idx j)) = v) (h : Runs c b σ (k v) R) :
    Runs c b σ (Prog.lift (TpuEff.load m r hl) >>= k : Prog (TpuEff nD τ sig (Elt F) Λ₀ .tc) α) R :=
  ld fun X hX => by rw [hv X hX]; exact h

/-- A load whose value is not looked at. -/
theorem ld_any {m : Memref sig .tc cs s e} {get : Preds F → (s.Idx → Elt F e) → Prop} {set : Preds F → ((s.Idx → Elt F e) → Prop) → Preds F}
    [hS : Slot F c b m get set] {r : LoadRect s} {hl : m.view.LoadsAt r}
    {p : Prog (TpuEff nD τ sig (Elt F) Λ₀ .tc) α} (h : Runs c b σ p R) :
    Runs c b σ (Prog.lift (TpuEff.load m r hl) >>= fun _ => p : Prog (TpuEff nD τ sig (Elt F) Λ₀ .tc) α) R :=
  ld fun _ _ => h

/-- A load through a slice with its unit axes dropped. -/
theorem ldq {m : Memref sig .tc cs s e} {get : Preds F → (s.Idx → Elt F e) → Prop} {set : Preds F → ((s.Idx → Elt F e) → Prop) → Preds F}
    [hS : Slot F c b m get set] {r₀ : Rect s} {hr : ∀ a, r₀.stride a = 1} {hs : r₀.shape.Squeezes s'} {r : LoadRect s'}
    {hl : ((m.slice r₀ hr).squeeze s' hs).view.LoadsAt r}
    {k : (r.shape.Idx → Elt F e) → Prog (TpuEff nD τ sig (Elt F) Λ₀ .tc) α} {v : r.shape.Idx → Elt F e}
    (hv : ∀ X, get σ X → (fun j => X (r₀.emb (Shape.reshapeEquiv hs.numel_eq (r.idx j)))) = v) (h : Runs c b σ (k v) R) :
    Runs c b σ (Prog.lift (TpuEff.load ((m.slice r₀ hr).squeeze s' hs) r hl) >>= k : Prog (TpuEff nD τ sig (Elt F) Λ₀ .tc) α) R := by
  unfold Runs
  refine (hS.acc σ).trans ?_
  iintro ⟨H, HK⟩
  iapply (wp_ld_sq 𝒱₀ (c : Thread nD τ) none Set.univ) $$ H
  iintro %X %hX H
  rw [hv X hX]
  iapply (show St c b σ ⊢ _ from h)
  ihave H := HK $$ %_ H
  rw [hS.same]
  iexact H

/-- A word read from scalar memory. -/
theorem sld {m : Memref sig .tc .smem s e} {get : Preds F → (s.Idx → Elt F e) → Prop} {set : Preds F → ((s.Idx → Elt F e) → Prop) → Preds F}
    [hS : Slot F c b m get set] {r : Rect s} {h1 : r.shape.numel = 1} {hp : e.packing = 1}
    {k : Elt F e → Prog (TpuEff nD τ sig (Elt F) Λ₀ .tc) α} {v : Elt F e}
    (hv : ∀ X, get σ X → X (r.emb (Shape.Idx.first (h1.symm ▸ Nat.one_pos))) = v) (h : Runs c b σ (k v) R) :
    Runs c b σ (smemLoad (p := .tc) m r h1 hp >>= k : Prog (TpuEff nD τ sig (Elt F) Λ₀ .tc) α) R := by
  unfold Runs
  refine (hS.acc σ).trans ?_
  iintro ⟨H, HK⟩
  iapply (wp_sld 𝒱₀ (c : Thread nD τ) none Set.univ) $$ H
  iintro %X %hX H
  rw [hv X hX]
  iapply (show St c b σ ⊢ _ from h)
  ihave H := HK $$ %_ H
  rw [hS.same]
  iexact H

/-- A store: `Ψ` holds of the overlaid contents. -/
theorem st {m : Memref sig .tc cs s e} {get : Preds F → (s.Idx → Elt F e) → Prop} {set : Preds F → ((s.Idx → Elt F e) → Prop) → Preds F}
    [hS : Slot F c b m get set] {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} (Ψ : (s.Idx → Elt F e) → Prop)
    (hΨ : ∀ X, get σ X → Ψ (r.overlay X w)) (h : Runs c b (set σ Ψ) (k ⟨⟩) R) :
    Runs c b σ (Prog.lift (TpuEff.store m r w Finset.univ hx hm) >>= k : Prog (TpuEff nD τ sig (Elt F) Λ₀ .tc) α) R := by
  unfold Runs
  refine (hS.acc σ).trans ?_
  iintro ⟨H, HK⟩
  iapply (wp_st 𝒱₀ (c : Thread nD τ) none Set.univ Ψ hΨ) $$ H
  iintro H
  iapply (show St c b (set σ Ψ) ⊢ _ from h)
  iapply HK $$ %_ H

/-- Sequencing re-associated. -/
theorem assoc {p : Prog (TpuEff nD τ sig (Elt F) Λ₀ .tc) γ} {q : γ → Prog (TpuEff nD τ sig (Elt F) Λ₀ .tc) β}
    {k : β → Prog (TpuEff nD τ sig (Elt F) Λ₀ .tc) α} (h : Runs c b σ (p >>= fun x => q x >>= k) R) :
    Runs c b σ ((p >>= q) >>= k) R := by
  rw [bind_assoc]; exact h

/-- A value handed on. -/
theorem pure {a : β} {k : β → Prog (TpuEff nD τ sig (Elt F) Λ₀ .tc) α} (h : Runs c b σ (k a) R) :
    Runs c b σ (Pure.pure a >>= k) R := by
  rw [pure_bind]; exact h

/-- A loop run by its invariant. -/
theorem loop {w : ℕ} {ς : Type} {L : Scf.Loop w} {hok : L.OK} {init : ς}
    {body : Fin L.trips → ς → Prog (TpuEff nD τ sig (Elt F) Λ₀ .tc) ς} {k : ς → Prog (TpuEff nD τ sig (Elt F) Λ₀ .tc) α}
    (I : ℕ → Preds F) (h0 : I 0 = σ) (hb : ∀ k u, Runs c b (I k.val) (body k u) (fun _ => St c b (I (k.val + 1))))
    (h : ∀ x, Runs c b (I L.trips) (k x) R) :
    Runs c b σ (Scf.Loop.for L hok init body >>= k : Prog (TpuEff nD τ sig (Elt F) Λ₀ .tc) α) R := by
  unfold Runs
  rw [← h0]
  iintro H
  iapply (wp_loop 𝒱₀ (c : Thread nD τ) none Set.univ L hok init body (fun n => St c b (I n)) hb) $$ H
  iintro %x H
  iapply (show St c b (I L.trips) ⊢ _ from h x); iexact H

/-- The end of a program. -/
theorem done {a : α} (h : St c b σ ⊢ R a) : Runs c b σ (Pure.pure a) R :=
  h.trans (le_wp_ret frame (wpE (defs₀ (F := F)) 𝒱₀ (c : Thread nD τ) none) Set.univ a R)

/-- What is said of one buffer weakened. -/
theorem weaken {sp : Space} (m : Memref sig .tc sp s e) {get : Preds F → (s.Idx → Elt F e) → Prop} {set : Preds F → ((s.Idx → Elt F e) → Prop) → Preds F}
    [hS : Slot F c b m get set] (Ψ : (s.Idx → Elt F e) → Prop) (hΨ : ∀ X, get σ X → Ψ X)
    {p : Prog (TpuEff nD τ sig (Elt F) Λ₀ .tc) α} (h : Runs c b (set σ Ψ) p R) : Runs c b σ p R := by
  unfold Runs
  refine (hS.acc σ).trans ?_
  iintro ⟨H, HK⟩
  iapply (show St c b (set σ Ψ) ⊢ _ from h)
  iapply HK
  iapply (ownsSat_mono (c : Thread nD τ) m fullShare hΨ); iexact H

/-- The memory named otherwise. -/
theorem cast {σ' : Preds F} (hσ : σ = σ') {p : Prog (TpuEff nD τ sig (Elt F) Λ₀ .tc) α} (h : Runs c b σ' p R) : Runs c b σ p R :=
  hσ ▸ h

end Runs

section Overlay

variable {α : Type} {A B C : ℕ}

/-- Inside the rectangle the overlay is the vector laid over. -/
theorem ov3_in {r : Rect ⟨3, ![A, B, C]⟩} {X : (⟨3, ![A, B, C]⟩ : Shape).Idx → α} {w : r.shape.Idx → α} {a : Fin A} {b : Fin B} {c : Fin C}
    (i : r.shape.Idx) (h0 : r.off 0 + r.stride 0 * (i 0).val = a.val) (h1 : r.off 1 + r.stride 1 * (i 1).val = b.val)
    (h2 : r.off 2 + r.stride 2 * (i 2).val = c.val) : r.overlay X w (ix3 a b c) = w i := by
  have : ix3 a b c = r.emb i := by
    funext x; apply Fin.ext; rw [Rect.emb_apply]
    fin_cases x
    · exact h0.symm
    · exact h1.symm
    · exact h2.symm
  rw [this, Rect.overlay_emb]

/-- Outside the rectangle the overlay is what lay there. -/
theorem ov3_out {r : Rect ⟨3, ![A, B, C]⟩} {X : (⟨3, ![A, B, C]⟩ : Shape).Idx → α} {w : r.shape.Idx → α} {a : Fin A} {b : Fin B} {c : Fin C}
    (h : ∀ i : r.shape.Idx, r.off 0 + r.stride 0 * (i 0).val = a.val → r.off 1 + r.stride 1 * (i 1).val = b.val →
      r.off 2 + r.stride 2 * (i 2).val = c.val → False) : r.overlay X w (ix3 a b c) = X (ix3 a b c) := by
  refine Rect.overlay_of_not_mem _ _ _ fun hm => ?_
  obtain ⟨i, hi⟩ := r.exists_idx_of_mem hm
  have e (x : Fin 3) := congrArg Fin.val (congrFun hi x)
  exact h i (e 0) (e 1) (e 2)

/-- The same on two axes. -/
theorem ov2_in {r : Rect ⟨2, ![A, B]⟩} {X : (⟨2, ![A, B]⟩ : Shape).Idx → α} {w : r.shape.Idx → α} {a : Fin A} {b : Fin B}
    (i : r.shape.Idx) (h0 : r.off 0 + r.stride 0 * (i 0).val = a.val) (h1 : r.off 1 + r.stride 1 * (i 1).val = b.val) :
    r.overlay X w (ix2 a b) = w i := by
  have : ix2 a b = r.emb i := by
    funext x; apply Fin.ext; rw [Rect.emb_apply]
    fin_cases x
    · exact h0.symm
    · exact h1.symm
  rw [this, Rect.overlay_emb]

/-- The same on two axes. -/
theorem ov2_out {r : Rect ⟨2, ![A, B]⟩} {X : (⟨2, ![A, B]⟩ : Shape).Idx → α} {w : r.shape.Idx → α} {a : Fin A} {b : Fin B}
    (h : ∀ i : r.shape.Idx, r.off 0 + r.stride 0 * (i 0).val = a.val → r.off 1 + r.stride 1 * (i 1).val = b.val → False) :
    r.overlay X w (ix2 a b) = X (ix2 a b) := by
  refine Rect.overlay_of_not_mem _ _ _ fun hm => ?_
  obtain ⟨i, hi⟩ := r.exists_idx_of_mem hm
  have e (x : Fin 2) := congrArg Fin.val (congrFun hi x)
  exact h i (e 0) (e 1)

end Overlay

end Cert.Proof.Sem
-- ==== Proof.Spec.lean ====
/-
  What the blocks of one grid point hold: the inputs, and, as functions of them, the contents of the scratch buffers
  and of the outputs after each phase of the body. The words and vectors are named by the body's own payloads.
-/
module

public import proofs.«01_k».proof.Proof.Sem

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The inputs of one grid point. -/
structure Blk (F : FTy → Type) where
  i : grid0.Coords
  x1 : S768.Idx → Elt F .f32
  x2 : S1.Idx → Elt F .f32
  x3 : S768.Idx → Elt F .f32
  x4 : S32x96x128.Idx → Elt F .i8
  x5 : S32x96x128.Idx → Elt F .i8
  x6 : S96x64x128.Idx → Elt F .i8
  x7 : S96x64x128.Idx → Elt F .i8
  x8 : S32x64x2048.Idx → Elt F .fp8e5m2
  x9 : S1x2x2048x128.Idx → Elt F .bf16

namespace Blk

variable (B : Blk F)

/-- The memory before the body: the inputs known, nothing said of the rest. -/
def base : Preds F where
  p1 := (· = B.x1)
  p2 := (· = B.x2)
  p3 := (· = B.x3)
  p4 := (· = B.x4)
  p5 := (· = B.x5)
  p6 := (· = B.x6)
  p7 := (· = B.x7)
  p8 := (· = B.x8)
  p9 := (· = B.x9)
  p10 := fun _ => True
  p11 := fun _ => True
  p12 := fun _ => True
  p13 := fun _ => True
  p14 := fun _ => True
  p15 := fun _ => True
  p16 := fun _ => True
  p17 := fun _ => True
  p18 := fun _ => True
  p19 := fun _ => True
  p20 := fun _ => True
  p21 := fun _ => True
  p22 := fun _ => True
  p23 := fun _ => True

/-- One of two arrays. -/
def sel {α : Type} (x y : α) : ℕ → α
  | 0 => x
  | _ + 1 => y

/-- The point's place in the grid. -/
theorem i_lt : (B.i 0).val < 6 := (B.i 0).isLt

/-- The scale of the gradient. -/
def dys : Elt F .f32 := B.x2 (ix1 0)

/-- The scales of `x` for the block's modes. -/
def xs : Vec F S128 .f32 := fun j => B.x3 (ix1 ⟨128 * (B.i 0).val + (j 0).val, by have := B.i_lt; have : (j 0).val < 128 := (j 0).isLt; omega⟩)

/-- One part of the block's basis. -/
def fb (p : Fin 2) : Vec F S1x1x2048x128 .bf16 := fun j => B.x9 (ix4 0 p (j 2 : Fin 2048) (j 3 : Fin 128))

/-- The packed bytes of one batch of `x`: word `r` of mode `m`. -/
def xw (p : ℕ) (b : Fin 32) (r : Fin 24) (m : Fin 128) : BitVec 32 :=
  k0_pay91 (F := F) (fun j => sel B.x4 B.x5 p (ix3 b (j 1 : Fin 96) (j 2 : Fin 128))) (ix3 0 r m)

/-- The packed bytes of one input channel of the weights: word `r` of mode `m`. -/
def ww (p : ℕ) (d : Fin 96) (r : Fin 16) (m : Fin 128) : BitVec 32 :=
  k0_pay1 (F := F) (fun j => sel B.x6 B.x7 p (ix3 d (j 1 : Fin 64) (j 2 : Fin 128))) (ix3 0 r m)

/-- Batch `n % 32` of part `n / 32` of `x`. -/
def xv (n : ℕ) : Vec F S1x96x128 .i8 := fun j =>
  sel B.x4 B.x5 (n / 32) (ix3 ⟨n % 32, Nat.mod_lt _ (by decide)⟩ (j 1 : Fin 96) (j 2 : Fin 128))

/-- Channel `w % 96` of part `w / 96` of the weights. -/
def wv (w : ℕ) : Vec F S1x64x128 .i8 := fun j =>
  sel B.x6 B.x7 (w / 96) (ix3 ⟨w % 96, Nat.mod_lt _ (by decide)⟩ (j 1 : Fin 64) (j 2 : Fin 128))

/-- The first `n` batches of the two parts of `x` lie in the word buffer. -/
def XI (n : ℕ) (X : S2x896x128.Idx → BitVec 32) : Prop :=
  ∀ (p : Fin 2) (b : Fin 32) (r : Fin 24) (m : Fin 128), p.val * 32 + b.val < n →
    X (ix3 p ⟨28 * b.val + r.val, by omega⟩ m) = B.xw p b r m

/-- The first `n` channels of the two parts of the weights lie in the word buffer. -/
def WI (n : ℕ) (X : S2x1920x128.Idx → BitVec 32) : Prop :=
  ∀ (p : Fin 2) (d : Fin 96) (r : Fin 16) (m : Fin 128), p.val * 96 + d.val < n →
    X (ix3 p ⟨20 * d.val + r.val, by omega⟩ m) = B.ww p d r m

/-- The memory while the words are copied. -/
def C (σ : Preds F) (n w : ℕ) : Preds F := (σ.set16 (B.XI n)).set17 (B.WI w)

end Blk

end Cert.Proof.Sem
-- ==== Proof.Rows.lean ====
/-
  Buffers known row by row: a predicate that names the contents of the rows of which a property holds, and how a load
  and a store of equally spaced rows act on it.
-/
module

public import proofs.«01_k».proof.Proof.Spec

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rows `a` with `D a` hold `f a`. -/
def R2 {α : Type} {A B : ℕ} (D : ℕ → Prop) (f : ℕ → Fin B → α) (X : (⟨2, ![A, B]⟩ : Shape).Idx → α) : Prop :=
  ∀ (a : Fin A) (b : Fin B), D a.val → X (ix2 a b) = f a.val b

/-- The planes `a` with `D a` hold `f a`. -/
def R3 {α : Type} {A B C : ℕ} (D : ℕ → Prop) (f : ℕ → Fin B → Fin C → α) (X : (⟨3, ![A, B, C]⟩ : Shape).Idx → α) : Prop :=
  ∀ (a : Fin A) (b : Fin B) (c : Fin C), D a.val → X (ix3 a b c) = f a.val b c

/-- Every `t`-th row of `f` from `o` on. -/
def rd2 {α : Type} {B : ℕ} (N : ℕ) (f : ℕ → Fin B → α) (o t : ℕ) : (⟨2, ![N, B]⟩ : Shape).Idx → α :=
  fun j => f (o + t * (j 0).val) (j 1)

/-- Every `t`-th plane of `f` from `o` on. -/
def rd3 {α : Type} {B C : ℕ} (N : ℕ) (f : ℕ → Fin B → Fin C → α) (o t : ℕ) : (⟨3, ![N, B, C]⟩ : Shape).Idx → α :=
  fun j => f (o + t * (j 0).val) (j 1) (j 2)

variable {α : Type} {A B C N : ℕ}

theorem one2 : (fun _ => 1 : Fin 2 → ℕ) = ![1, 1] := by funext x; fin_cases x <;> rfl
theorem one3 : (fun _ => 1 : Fin 3 → ℕ) = ![1, 1, 1] := by funext x; fin_cases x <;> rfl

/-- A load of spaced planes. -/
theorem R3.ld {D : ℕ → Prop} {f : ℕ → Fin B → Fin C → α} {X : (⟨3, ![A, B, C]⟩ : Shape).Idx → α} (hX : R3 D f X)
    {off sd : Fin 3 → ℕ} {inb} {o t : ℕ} (ho : off = ![o, 0, 0]) (hs : sd = ![t, 1, 1]) (hD : ∀ i < N, D (o + t * i)) :
    (fun j => X ((⟨off, (⟨3, ![N, B, C]⟩ : Shape).size, sd, inb⟩ : LoadRect ⟨3, ![A, B, C]⟩).idx j)) = rd3 N f o t := by
  subst ho hs
  funext j
  have hj : (⟨![o, 0, 0], (⟨3, ![N, B, C]⟩ : Shape).size, ![t, 1, 1], inb⟩ : LoadRect ⟨3, ![A, B, C]⟩).idx j
      = ix3 ((⟨![o, 0, 0], (⟨3, ![N, B, C]⟩ : Shape).size, ![t, 1, 1], inb⟩ : LoadRect ⟨3, ![A, B, C]⟩).idx j 0) (j 1) (j 2) := by
    funext x; apply Fin.ext
    fin_cases x
    · rfl
    · change 0 + 1 * (j 1).val = (j 1).val; omega
    · change 0 + 1 * (j 2).val = (j 2).val; omega
  rw [hj]
  exact hX _ _ _ (hD _ (j 0).isLt)

/-- A store of spaced planes. -/
theorem R3.st {D D' : ℕ → Prop} {f : ℕ → Fin B → Fin C → α} {X : (⟨3, ![A, B, C]⟩ : Shape).Idx → α} (hX : R3 D f X)
    {off sd : Fin 3 → ℕ} {inb hp} {w : (⟨3, ![N, B, C]⟩ : Shape).Idx → α} {o t : ℕ} (ho : off = ![o, 0, 0]) (hs : sd = ![t, 1, 1])
    (hw : ∀ (i : Fin N) b c, w (ix3 i b c) = f (o + t * i.val) b c)
    (hD : ∀ a < A, D' a → D a ∨ ∃ i < N, a = o + t * i) :
    R3 D' f ((⟨⟨off, (⟨3, ![N, B, C]⟩ : Shape).size, sd, inb⟩, hp⟩ : Rect ⟨3, ![A, B, C]⟩).overlay X w) := by
  subst ho hs
  intro a b c ha
  by_cases h : ∃ i < N, a.val = o + t * i
  · obtain ⟨i, hi, hai⟩ := h
    rw [hai, ← hw ⟨i, hi⟩ b c]
    refine ov3_in (r := (⟨⟨![o, 0, 0], (⟨3, ![N, B, C]⟩ : Shape).size, ![t, 1, 1], inb⟩, hp⟩ : Rect ⟨3, ![A, B, C]⟩)) (ix3 ⟨i, hi⟩ b c) ?_ ?_ ?_
    · exact hai.symm
    · change 0 + 1 * b.val = b.val; omega
    · change 0 + 1 * c.val = c.val; omega
  · have hD' := (hD a.val a.isLt ha).resolve_right h
    rw [← hX a b c hD']
    exact ov3_out fun i h0 _ _ => h ⟨(i 0).val, (i 0).isLt, h0.symm⟩

/-- A load of spaced rows. -/
theorem R2.ld {D : ℕ → Prop} {f : ℕ → Fin B → α} {X : (⟨2, ![A, B]⟩ : Shape).Idx → α} (hX : R2 D f X)
    {off sd : Fin 2 → ℕ} {inb} {o t : ℕ} (ho : off = ![o, 0]) (hs : sd = ![t, 1]) (hD : ∀ i < N, D (o + t * i)) :
    (fun j => X ((⟨off, (⟨2, ![N, B]⟩ : Shape).size, sd, inb⟩ : LoadRect ⟨2, ![A, B]⟩).idx j)) = rd2 N f o t := by
  subst ho hs
  funext j
  have hj : (⟨![o, 0], (⟨2, ![N, B]⟩ : Shape).size, ![t, 1], inb⟩ : LoadRect ⟨2, ![A, B]⟩).idx j
      = ix2 ((⟨![o, 0], (⟨2, ![N, B]⟩ : Shape).size, ![t, 1], inb⟩ : LoadRect ⟨2, ![A, B]⟩).idx j 0) (j 1) := by
    funext x; apply Fin.ext
    fin_cases x
    · rfl
    · change 0 + 1 * (j 1).val = (j 1).val; omega
  rw [hj]
  exact hX _ _ (hD _ (j 0).isLt)

/-- A store of spaced rows. -/
theorem R2.st {D D' : ℕ → Prop} {f : ℕ → Fin B → α} {X : (⟨2, ![A, B]⟩ : Shape).Idx → α} (hX : R2 D f X)
    {off sd : Fin 2 → ℕ} {inb hp} {w : (⟨2, ![N, B]⟩ : Shape).Idx → α} {o t : ℕ} (ho : off = ![o, 0]) (hs : sd = ![t, 1])
    (hw : ∀ (i : Fin N) b, w (ix2 i b) = f (o + t * i.val) b)
    (hD : ∀ a < A, D' a → D a ∨ ∃ i < N, a = o + t * i) :
    R2 D' f ((⟨⟨off, (⟨2, ![N, B]⟩ : Shape).size, sd, inb⟩, hp⟩ : Rect ⟨2, ![A, B]⟩).overlay X w) := by
  subst ho hs
  intro a b ha
  by_cases h : ∃ i < N, a.val = o + t * i
  · obtain ⟨i, hi, hai⟩ := h
    rw [hai, ← hw ⟨i, hi⟩ b]
    refine ov2_in (r := (⟨⟨![o, 0], (⟨2, ![N, B]⟩ : Shape).size, ![t, 1], inb⟩, hp⟩ : Rect ⟨2, ![A, B]⟩)) (ix2 ⟨i, hi⟩ b) ?_ ?_
    · exact hai.symm
    · change 0 + 1 * b.val = b.val; omega
  · have hD' := (hD a.val a.isLt ha).resolve_right h
    rw [← hX a b hD']
    exact ov2_out fun i h0 _ => h ⟨(i 0).val, (i 0).isLt, h0.symm⟩

/-- An array known whole is known plane by plane. -/
theorem R3.whole [NeZero A] {x X : (⟨3, ![A, B, C]⟩ : Shape).Idx → α} (h : X = x) :
    R3 (· < A) (fun a b c => x (ix3 (Fin.ofNat A a) b c)) X := by
  subst h
  intro a b c _
  exact congrArg (fun t => X (ix3 t b c)) (Fin.ext (Nat.mod_eq_of_lt a.isLt).symm)

theorem R3.mono {D D' : ℕ → Prop} {f : ℕ → Fin B → Fin C → α} {X : (⟨3, ![A, B, C]⟩ : Shape).Idx → α} (hX : R3 D f X)
    (h : ∀ a < A, D' a → D a) : R3 D' f X := fun a b c ha => hX a b c (h _ a.isLt ha)

theorem R2.mono {D D' : ℕ → Prop} {f : ℕ → Fin B → α} {X : (⟨2, ![A, B]⟩ : Shape).Idx → α} (hX : R2 D f X)
    (h : ∀ a < A, D' a → D a) : R2 D' f X := fun a b ha => hX a b (h _ a.isLt ha)

end Cert.Proof.Sem
-- ==== Proof.Held.lean ====
/-
  What each scratch buffer and each output holds at the end of its phase, as functions of the inputs of the grid point.
-/
module

public import proofs.«01_k».proof.Proof.Rows

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

namespace Blk

variable (B : Blk F)

/-- The factor of each mode's gradient. -/
def coef : FVec F S1x128 .f32 := k0_pay86 B.i B.dys

/-- The two parts of the basis side by side. -/
def ff : FVec F S2048x256 .bf16 := k0_pay88 (B.fb 0) (B.fb 1)

/-- Batches `4 n` to `4 n + 3` of the gradient. -/
def v8 (n : ℕ) : Vec F S4x64x2048 .fp8e5m2 := rd3 4 (fun a b c => B.x8 (ix3 (Fin.ofNat 32 a) b c)) (4 * n) 1

/-- The real part of the gradient's spectrum, four batches. -/
def p15 (n : ℕ) : FVec F S4x64x128 .f32 := k0_pay15 B.coef B.ff (B.v8 n)

/-- The imaginary part. -/
def p16 (n : ℕ) : FVec F S4x64x128 .f32 := k0_pay16 B.coef B.ff (B.v8 n)

/-- The first output of the spectrum, by batches. -/
def f14 (a : ℕ) (o : Fin 64) (m : Fin 128) : Elt F .bf16 := k0_pay17 B.coef B.ff (B.v8 (a / 4)) (ix3 (Fin.ofNat 4 a) o m)

/-- The second output of the spectrum, by batches. -/
def f15 (a : ℕ) (o : Fin 64) (m : Fin 128) : Elt F .bf16 := k0_pay18 B.coef B.ff (B.v8 (a / 4)) (ix3 (Fin.ofNat 4 a) o m)

/-- The rows `R` of every mode's spectrum. -/
def y19 (R : ℕ) : Vec F S128x2x128 .bf16 :=
  if R < 16 then
    if R % 2 = 0 then k0_pay22 (k0_pay19 B.coef B.ff (B.v8 (R / 2))) (k0_pay20 B.coef B.ff (B.v8 (R / 2)))
    else k0_pay89 (k0_pay24 (B.p15 (R / 2)) (B.p16 (R / 2))) (k0_pay25 (B.p15 (R / 2)) (B.p16 (R / 2)))
  else
    if R % 2 = 0 then k0_pay23 (B.p15 ((R - 16) / 2)) (B.p16 ((R - 16) / 2)) (k0_pay21 B.coef B.ff (B.v8 ((R - 16) / 2)))
    else k0_pay90 (B.p15 ((R - 16) / 2)) (B.p16 ((R - 16) / 2)) (k0_pay26 (B.p16 ((R - 16) / 2))) (k0_pay27 (B.p15 ((R - 16) / 2))) (k0_pay28 (F := F))

/-- The spectrum, by mode and row. -/
def f19 (a : ℕ) (h : Fin 2) (l : Fin 128) : Elt F .bf16 := B.y19 (a % 36) (ix3 (Fin.ofNat 128 (a / 36)) h l)

/-- Word `r` of every batch of a part of `x`. -/
def g16 (p r : ℕ) : Vec F S32x128 .i32 := fun j => B.xw p (j 0) (Fin.ofNat 24 r) (j 1)

/-- The words of `x`, by mode. -/
def f18 (a : ℕ) (l : Fin 128) : BitVec 32 :=
  k0_pay2 (F := F) (B.g16 0 (a % 12)) (B.g16 1 (a % 12)) (B.g16 0 (a % 12 + 12)) (B.g16 1 (a % 12 + 12)) (ix2 (Fin.ofNat 128 (a / 12)) l)

/-- Word `r` of every channel of a part of the weights. -/
def g17 (p r : ℕ) : Vec F S96x128 .i32 := fun j => B.ww p (j 0) (Fin.ofNat 16 r) (j 1)

/-- The words of the weights, by mode. -/
def f20 (a : ℕ) (d : Fin 128) : BitVec 32 :=
  if a % 36 < 16 then k0_pay3 (F := F) (B.g17 0 (a % 36)) (ix2 (Fin.ofNat 128 (a / 36)) d)
  else k0_pay4 (F := F) (B.g17 1 (a % 36 - 16)) (ix2 (Fin.ofNat 128 (a / 36)) d)

/-- The words of `x` of modes `2 q` and `2 q + 1`. -/
def xt (q : ℕ) : Vec F S24x128 .i32 := rd2 24 B.f18 (24 * q) 1

/-- The spectrum of mode `n`. -/
def yt (n : ℕ) : Vec F S32x2x128 .bf16 := rd3 32 B.f19 (36 * n) 1

/-- The words of the weights of mode `n`. -/
def wt (n : ℕ) : Vec F S32x128 .i32 := rd2 32 B.f20 (36 * n) 1

/-- The scale of the weights of mode `n`. -/
def ws (n : ℕ) : Elt F .f32 := B.x1 (ix1 (Fin.ofNat 768 (128 * (B.i 0).val + n)))

/-- The products for the gradient of the weights: the first half of the channels, by mode. -/
def f21 (a : ℕ) (l : Fin 128) : Elt F .f32 :=
  if a / 52 % 2 = 0 then k0_pay32 (B.xt (a / 104)) (B.yt (a / 52)) (ix2 (Fin.ofNat 48 (a % 52)) l)
  else k0_pay38 (k0_pay29 (B.xt (a / 104))) (B.yt (a / 52)) (ix2 (Fin.ofNat 48 (a % 52)) l)

/-- The second half of the channels. -/
def f22 (a : ℕ) (l : Fin 128) : Elt F .f32 :=
  if a / 52 % 2 = 0 then k0_pay33 (B.xt (a / 104)) (B.yt (a / 52)) (ix2 (Fin.ofNat 48 (a % 52)) l)
  else k0_pay39 (k0_pay29 (B.xt (a / 104))) (B.yt (a / 52)) (ix2 (Fin.ofNat 48 (a % 52)) l)

/-- The products for the gradient of `x`, by mode and row. -/
def f23 (a : ℕ) (h : Fin 2) (d : Fin 128) : Elt F .bf16 :=
  k0_pay35 (k0_pay34 (B.yt (a / 36)) (B.wt (a / 36))) (B.ws (a / 36)) (ix3 (Fin.ofNat 32 (a % 36)) h d)

/-- The scales of `x` as a row. -/
def v18 : FVec F S1x128 .f32 := k0_pay87 B.xs

/-- The real part of the gradient of the weights. -/
def f10 (a : ℕ) (o : Fin 64) (m : Fin 128) : Elt F .f32 :=
  if a < 48 then k0_pay7 B.v18 (rd2 128 B.f21 a 52) (ix3 0 o m) else k0_pay10 B.v18 (rd2 128 B.f22 (a - 48) 52) (ix3 0 o m)

/-- The imaginary part. -/
def f11 (a : ℕ) (o : Fin 64) (m : Fin 128) : Elt F .f32 :=
  if a < 48 then k0_pay8 B.v18 (rd2 128 B.f21 a 52) (ix3 0 o m) else k0_pay11 B.v18 (rd2 128 B.f22 (a - 48) 52) (ix3 0 o m)

/-- The real part of the gradient of `x`. -/
def f12 (a : ℕ) (d : Fin 96) (m : Fin 128) : Elt F .bf16 :=
  if a % 2 = 0 then k0_pay82 (rd3 128 B.f23 (a / 2) 36) (ix3 0 d m) else k0_pay83 (rd3 128 B.f23 (a / 2) 36) (ix3 0 d m)

/-- The imaginary part. -/
def f13 (a : ℕ) (d : Fin 96) (m : Fin 128) : Elt F .bf16 :=
  if a % 2 = 0 then k0_pay12 (k0_pay85 (rd3 128 B.f23 (16 + a / 2) 36)) (ix3 0 d m)
  else k0_pay13 (k0_pay84 (rd3 128 B.f23 (16 + a / 2) 36)) (ix3 0 d m)

/-- The memory during the first loop. -/
def I1 (k : ℕ) : Preds F :=
  ((B.base.set14 (R3 (· < 4 * k) B.f14)).set15 (R3 (· < 4 * k) B.f15)).set19 (R3 (fun a => a % 36 < 32 ∧ a % 36 % 16 < 2 * k) B.f19)

/-- After the copies. -/
def S1 : Preds F := B.C (B.I1 8) 64 192

/-- During the second loop. -/
def I2 (k : ℕ) : Preds F := B.S1.set18 (R2 (fun a => a % 12 < k) B.f18)

/-- During the third loop. -/
def I3 (k : ℕ) : Preds F := (B.I2 12).set20 (R2 (fun a => a % 36 % 16 < k ∧ a % 36 < 32) B.f20)

/-- During the fourth loop: the modes done in each of its three buffers. -/
def C4 (n₁ n₂ n₃ : ℕ) : Preds F :=
  (((B.I3 16).set21 (R2 (fun a => a / 52 < n₁ ∧ a % 52 < 48) B.f21)).set22 (R2 (fun a => a / 52 < n₂ ∧ a % 52 < 48) B.f22)).set23
    (R3 (fun a => a / 36 < n₃ ∧ a % 36 < 32) B.f23)

/-- During the fifth loop. -/
def I5 (k : ℕ) : Preds F := ((B.C4 128 128 128).set10 (R3 (fun a => a % 48 < k) B.f10)).set11 (R3 (fun a => a % 48 < k) B.f11)

/-- During the sixth loop. -/
def I6 (k : ℕ) : Preds F := ((B.I5 48).set12 (R3 (· < 2 * k) B.f12)).set13 (R3 (· < 2 * k) B.f13)

end Blk

end Cert.Proof.Sem
-- ==== Proof.Blocks.lean ====
/-
  The blocks of one grid point, and what the output arrays are said to hold.
-/
module

public import proofs.«01_k».proof.Proof.Held
public import proofs.«01_k».proof.Proof.KIFrame

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.KernelIdeal (any_of of_any any_whole whole_any)
open Idealize.ShloMosaic.Pipeline (Dat Cfg Window BodyObligation BodyObligationLoose cellOf)

local notation "𝕄" => MT nD τ sig Unit (Elt F) ℕ (UU nD τ) ℕ

variable (m : (ℓ : Loc nD τ sig) → Buf (Elt F) ℓ) (ρ : Dev nD → PrngReg)

/-- The inputs of grid point `t`. -/
def blk (c : Dev nD) (t : Fin cfg0.N) : Blk F where
  i := grid0.coords t
  x1 := iblk m c 0 t
  x2 := iblk m c 1 t
  x3 := iblk m c 2 t
  x4 := iblk m c 3 t
  x5 := iblk m c 4 t
  x6 := iblk m c 5 t
  x7 := iblk m c 6 t
  x8 := iblk m c 7 t
  x9 := iblk m c 8 t

/-- An array of three axes given by planes. -/
def arr3 {α : Type} {A B C : ℕ} (f : ℕ → Fin B → Fin C → α) (j : (⟨3, ![A, B, C]⟩ : Shape).Idx) : α := f (j 0).val (j 1) (j 2)

/-- Planes that all hold what `f` says are the array of `f`. -/
theorem R3.all {α : Type} {A B C : ℕ} {D : ℕ → Prop} {f : ℕ → Fin B → Fin C → α} {X : (⟨3, ![A, B, C]⟩ : Shape).Idx → α} (hX : R3 D f X)
    (h : ∀ a < A, D a) : X = arr3 f := by
  funext j
  have e : j = ix3 (j 0) (j 1) (j 2) := by funext x; fin_cases x <;> rfl
  rw [e]
  exact hX _ _ _ (h _ (j 0).isLt)

/-- The launch's data: the inputs kept, the outputs as the body leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => arr3 (blk m c t).f10
    | ⟨10, _⟩ => arr3 (blk m c t).f11
    | ⟨11, _⟩ => arr3 (blk m c t).f12
    | ⟨12, _⟩ => arr3 (blk m c t).f13
    | ⟨13, _⟩ => arr3 (blk m c t).f14
    | ⟨14, _⟩ => arr3 (blk m c t).f15
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = arr3 (blk m c t).f10 := by dsimp only [dats]
theorem after_10 (c : Dev nD) (t : Fin cfg0.N) : (dats m 0 c).after 10 t = arr3 (blk m c t).f11 := by dsimp only [dats]
theorem after_11 (c : Dev nD) (t : Fin cfg0.N) : (dats m 0 c).after 11 t = arr3 (blk m c t).f12 := by dsimp only [dats]
theorem after_12 (c : Dev nD) (t : Fin cfg0.N) : (dats m 0 c).after 12 t = arr3 (blk m c t).f13 := by dsimp only [dats]
theorem after_13 (c : Dev nD) (t : Fin cfg0.N) : (dats m 0 c).after 13 t = arr3 (blk m c t).f14 := by dsimp only [dats]
theorem after_14 (c : Dev nD) (t : Fin cfg0.N) : (dats m 0 c).after 14 t = arr3 (blk m c t).f15 := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d

/-- Contents that are known, owned. -/
theorem sat_eq {c : Dev nD} {sp : Space} {s : Shape} {e : EltTy} (mm : Memref sig .tc sp s e) (x : s.Idx → Elt F e) :
    (owns (c : Thread nD τ) mm fullShare x : sProp 𝕄) ⊢ ownsSat (c : Thread nD τ) mm fullShare (· = x) :=
  ownsSat_intro (c := (c : Thread nD τ)) (m := mm) (q := fullShare) (Φ := (· = x)) (X := x) rfl

/-- Contents a predicate determines. -/
theorem eq_sat {c : Dev nD} {sp : Space} {s : Shape} {e : EltTy} (mm : Memref sig .tc sp s e) (x : s.Idx → Elt F e)
    {Φ : (s.Idx → Elt F e) → Prop} (h : ∀ X, Φ X → X = x) :
    (ownsSat (c : Thread nD τ) mm fullShare Φ : sProp 𝕄) ⊢ owns (c : Thread nD τ) mm fullShare x := by
  iintro H
  ihave ⟨%X, %hX, H⟩ := (ownsSat_elim (c := (c : Thread nD τ)) (m := mm) (q := fullShare) Φ) $$ H
  rw [h X hX]
  iexact H

theorem beg_1 (B : Blk F) : B.base.p1 = (· = B.x1) := rfl
theorem beg_2 (B : Blk F) : B.base.p2 = (· = B.x2) := rfl
theorem beg_3 (B : Blk F) : B.base.p3 = (· = B.x3) := rfl
theorem beg_4 (B : Blk F) : B.base.p4 = (· = B.x4) := rfl
theorem beg_5 (B : Blk F) : B.base.p5 = (· = B.x5) := rfl
theorem beg_6 (B : Blk F) : B.base.p6 = (· = B.x6) := rfl
theorem beg_7 (B : Blk F) : B.base.p7 = (· = B.x7) := rfl
theorem beg_8 (B : Blk F) : B.base.p8 = (· = B.x8) := rfl
theorem beg_9 (B : Blk F) : B.base.p9 = (· = B.x9) := rfl
theorem beg_10 (B : Blk F) : B.base.p10 = fun _ => True := rfl
theorem beg_11 (B : Blk F) : B.base.p11 = fun _ => True := rfl
theorem beg_12 (B : Blk F) : B.base.p12 = fun _ => True := rfl
theorem beg_13 (B : Blk F) : B.base.p13 = fun _ => True := rfl
theorem beg_14 (B : Blk F) : B.base.p14 = fun _ => True := rfl
theorem beg_15 (B : Blk F) : B.base.p15 = fun _ => True := rfl
theorem beg_16 (B : Blk F) : B.base.p16 = fun _ => True := rfl
theorem beg_17 (B : Blk F) : B.base.p17 = fun _ => True := rfl
theorem beg_18 (B : Blk F) : B.base.p18 = fun _ => True := rfl
theorem beg_19 (B : Blk F) : B.base.p19 = fun _ => True := rfl
theorem beg_20 (B : Blk F) : B.base.p20 = fun _ => True := rfl
theorem beg_21 (B : Blk F) : B.base.p21 = fun _ => True := rfl
theorem beg_22 (B : Blk F) : B.base.p22 = fun _ => True := rfl
theorem beg_23 (B : Blk F) : B.base.p23 = fun _ => True := rfl

set_option maxHeartbeats 1000000 in
/-- Before the body: the inputs hold their blocks. -/
theorem open_at (c : Dev nD) (b : Bufs) (B : Blk F) : iprop(owns (c : Thread nD τ) b.a1 fullShare B.x1 ∗ owns (c : Thread nD τ) b.a2 fullShare B.x2 ∗ owns (c : Thread nD τ) b.a3 fullShare B.x3 ∗ owns (c : Thread nD τ) b.a4 fullShare B.x4 ∗ owns (c : Thread nD τ) b.a5 fullShare B.x5 ∗ owns (c : Thread nD τ) b.a6 fullShare B.x6 ∗ owns (c : Thread nD τ) b.a7 fullShare B.x7 ∗ owns (c : Thread nD τ) b.a8 fullShare B.x8 ∗ owns (c : Thread nD τ) b.a9 fullShare B.x9 ∗ ownsSat (c : Thread nD τ) b.a10 fullShare (fun _ => True) ∗ ownsSat (c : Thread nD τ) b.a11 fullShare (fun _ => True) ∗ ownsSat (c : Thread nD τ) b.a12 fullShare (fun _ => True) ∗ ownsSat (c : Thread nD τ) b.a13 fullShare (fun _ => True) ∗ ownsSat (c : Thread nD τ) b.a14 fullShare (fun _ => True) ∗ ownsSat (c : Thread nD τ) b.a15 fullShare (fun _ => True) ∗ ownsSat (c : Thread nD τ) b.a16 fullShare (fun _ => True) ∗ ownsSat (c : Thread nD τ) b.a17 fullShare (fun _ => True) ∗ ownsSat (c : Thread nD τ) b.a18 fullShare (fun _ => True) ∗ ownsSat (c : Thread nD τ) b.a19 fullShare (fun _ => True) ∗ ownsSat (c : Thread nD τ) b.a20 fullShare (fun _ => True) ∗ ownsSat (c : Thread nD τ) b.a21 fullShare (fun _ => True) ∗ ownsSat (c : Thread nD τ) b.a22 fullShare (fun _ => True) ∗ ownsSat (c : Thread nD τ) b.a23 fullShare (fun _ => True) : sProp 𝕄) ⊢ St c b B.base := by
  unfold St
  rw [beg_1, beg_2, beg_3, beg_4, beg_5, beg_6, beg_7, beg_8, beg_9, beg_10, beg_11, beg_12, beg_13, beg_14, beg_15, beg_16, beg_17, beg_18, beg_19, beg_20, beg_21, beg_22, beg_23]
  refine BIClass.sep_mono (sat_eq b.a1 B.x1) ?_
  refine BIClass.sep_mono (sat_eq b.a2 B.x2) ?_
  refine BIClass.sep_mono (sat_eq b.a3 B.x3) ?_
  refine BIClass.sep_mono (sat_eq b.a4 B.x4) ?_
  refine BIClass.sep_mono (sat_eq b.a5 B.x5) ?_
  refine BIClass.sep_mono (sat_eq b.a6 B.x6) ?_
  refine BIClass.sep_mono (sat_eq b.a7 B.x7) ?_
  refine BIClass.sep_mono (sat_eq b.a8 B.x8) ?_
  refine BIClass.sep_mono (sat_eq b.a9 B.x9) ?_
  refine BIClass.sep_mono (BIBase.Entails.rfl) ?_
  refine BIClass.sep_mono (BIBase.Entails.rfl) ?_
  refine BIClass.sep_mono (BIBase.Entails.rfl) ?_
  refine BIClass.sep_mono (BIBase.Entails.rfl) ?_
  refine BIClass.sep_mono (BIBase.Entails.rfl) ?_
  refine BIClass.sep_mono (BIBase.Entails.rfl) ?_
  refine BIClass.sep_mono (BIBase.Entails.rfl) ?_
  refine BIClass.sep_mono (BIBase.Entails.rfl) ?_
  refine BIClass.sep_mono (BIBase.Entails.rfl) ?_
  refine BIClass.sep_mono (BIBase.Entails.rfl) ?_
  refine BIClass.sep_mono (BIBase.Entails.rfl) ?_
  refine BIClass.sep_mono (BIBase.Entails.rfl) ?_
  refine BIClass.sep_mono (BIBase.Entails.rfl) ?_
  exact .rfl

theorem end_1 (B : Blk F) : (B.I6 16).p1 = (· = B.x1) := rfl
theorem end_2 (B : Blk F) : (B.I6 16).p2 = (· = B.x2) := rfl
theorem end_3 (B : Blk F) : (B.I6 16).p3 = (· = B.x3) := rfl
theorem end_4 (B : Blk F) : (B.I6 16).p4 = (· = B.x4) := rfl
theorem end_5 (B : Blk F) : (B.I6 16).p5 = (· = B.x5) := rfl
theorem end_6 (B : Blk F) : (B.I6 16).p6 = (· = B.x6) := rfl
theorem end_7 (B : Blk F) : (B.I6 16).p7 = (· = B.x7) := rfl
theorem end_8 (B : Blk F) : (B.I6 16).p8 = (· = B.x8) := rfl
theorem end_9 (B : Blk F) : (B.I6 16).p9 = (· = B.x9) := rfl
theorem end_10 (B : Blk F) : (B.I6 16).p10 = R3 (fun a => a % 48 < 48) B.f10 := rfl
theorem end_11 (B : Blk F) : (B.I6 16).p11 = R3 (fun a => a % 48 < 48) B.f11 := rfl
theorem end_12 (B : Blk F) : (B.I6 16).p12 = R3 (· < 2 * 16) B.f12 := rfl
theorem end_13 (B : Blk F) : (B.I6 16).p13 = R3 (· < 2 * 16) B.f13 := rfl
theorem end_14 (B : Blk F) : (B.I6 16).p14 = R3 (· < 4 * 8) B.f14 := rfl
theorem end_15 (B : Blk F) : (B.I6 16).p15 = R3 (· < 4 * 8) B.f15 := rfl

set_option maxHeartbeats 1000000 in
/-- After the body: the outputs hold theirs. -/
theorem close_at (c : Dev nD) (b : Bufs) (B : Blk F) : St c b (B.I6 16) ⊢ iprop(owns (c : Thread nD τ) b.a1 fullShare B.x1 ∗ owns (c : Thread nD τ) b.a2 fullShare B.x2 ∗ owns (c : Thread nD τ) b.a3 fullShare B.x3 ∗ owns (c : Thread nD τ) b.a4 fullShare B.x4 ∗ owns (c : Thread nD τ) b.a5 fullShare B.x5 ∗ owns (c : Thread nD τ) b.a6 fullShare B.x6 ∗ owns (c : Thread nD τ) b.a7 fullShare B.x7 ∗ owns (c : Thread nD τ) b.a8 fullShare B.x8 ∗ owns (c : Thread nD τ) b.a9 fullShare B.x9 ∗ owns (c : Thread nD τ) b.a10 fullShare (arr3 B.f10) ∗ owns (c : Thread nD τ) b.a11 fullShare (arr3 B.f11) ∗ owns (c : Thread nD τ) b.a12 fullShare (arr3 B.f12) ∗ owns (c : Thread nD τ) b.a13 fullShare (arr3 B.f13) ∗ owns (c : Thread nD τ) b.a14 fullShare (arr3 B.f14) ∗ owns (c : Thread nD τ) b.a15 fullShare (arr3 B.f15) ∗ ownsSat (c : Thread nD τ) b.a16 fullShare (fun _ => True) ∗ ownsSat (c : Thread nD τ) b.a17 fullShare (fun _ => True) ∗ ownsSat (c : Thread nD τ) b.a18 fullShare (fun _ => True) ∗ ownsSat (c : Thread nD τ) b.a19 fullShare (fun _ => True) ∗ ownsSat (c : Thread nD τ) b.a20 fullShare (fun _ => True) ∗ ownsSat (c : Thread nD τ) b.a21 fullShare (fun _ => True) ∗ ownsSat (c : Thread nD τ) b.a22 fullShare (fun _ => True) ∗ ownsSat (c : Thread nD τ) b.a23 fullShare (fun _ => True) : sProp 𝕄) := by
  unfold St
  rw [end_1, end_2, end_3, end_4, end_5, end_6, end_7, end_8, end_9, end_10, end_11, end_12, end_13, end_14, end_15]
  refine BIClass.sep_mono (eq_sat (Φ := (· = B.x1)) b.a1 B.x1 (fun X hX => hX)) ?_
  refine BIClass.sep_mono (eq_sat (Φ := (· = B.x2)) b.a2 B.x2 (fun X hX => hX)) ?_
  refine BIClass.sep_mono (eq_sat (Φ := (· = B.x3)) b.a3 B.x3 (fun X hX => hX)) ?_
  refine BIClass.sep_mono (eq_sat (Φ := (· = B.x4)) b.a4 B.x4 (fun X hX => hX)) ?_
  refine BIClass.sep_mono (eq_sat (Φ := (· = B.x5)) b.a5 B.x5 (fun X hX => hX)) ?_
  refine BIClass.sep_mono (eq_sat (Φ := (· = B.x6)) b.a6 B.x6 (fun X hX => hX)) ?_
  refine BIClass.sep_mono (eq_sat (Φ := (· = B.x7)) b.a7 B.x7 (fun X hX => hX)) ?_
  refine BIClass.sep_mono (eq_sat (Φ := (· = B.x8)) b.a8 B.x8 (fun X hX => hX)) ?_
  refine BIClass.sep_mono (eq_sat (Φ := (· = B.x9)) b.a9 B.x9 (fun X hX => hX)) ?_
  refine BIClass.sep_mono (eq_sat (Φ := R3 (fun a => a % 48 < 48) B.f10) b.a10 (arr3 B.f10) (fun X hX => R3.all hX (fun a ha => by omega))) ?_
  refine BIClass.sep_mono (eq_sat (Φ := R3 (fun a => a % 48 < 48) B.f11) b.a11 (arr3 B.f11) (fun X hX => R3.all hX (fun a ha => by omega))) ?_
  refine BIClass.sep_mono (eq_sat (Φ := R3 (· < 2 * 16) B.f12) b.a12 (arr3 B.f12) (fun X hX => R3.all hX (fun a ha => by omega))) ?_
  refine BIClass.sep_mono (eq_sat (Φ := R3 (· < 2 * 16) B.f13) b.a13 (arr3 B.f13) (fun X hX => R3.all hX (fun a ha => by omega))) ?_
  refine BIClass.sep_mono (eq_sat (Φ := R3 (· < 4 * 8) B.f14) b.a14 (arr3 B.f14) (fun X hX => R3.all hX (fun a ha => by omega))) ?_
  refine BIClass.sep_mono (eq_sat (Φ := R3 (· < 4 * 8) B.f15) b.a15 (arr3 B.f15) (fun X hX => R3.all hX (fun a ha => by omega))) ?_
  refine BIClass.sep_mono (ownsSat_mono (c : Thread nD τ) b.a16 fullShare fun _ _ => trivial) ?_
  refine BIClass.sep_mono (ownsSat_mono (c : Thread nD τ) b.a17 fullShare fun _ _ => trivial) ?_
  refine BIClass.sep_mono (ownsSat_mono (c : Thread nD τ) b.a18 fullShare fun _ _ => trivial) ?_
  refine BIClass.sep_mono (ownsSat_mono (c : Thread nD τ) b.a19 fullShare fun _ _ => trivial) ?_
  refine BIClass.sep_mono (ownsSat_mono (c : Thread nD τ) b.a20 fullShare fun _ _ => trivial) ?_
  refine BIClass.sep_mono (ownsSat_mono (c : Thread nD τ) b.a21 fullShare fun _ _ => trivial) ?_
  refine BIClass.sep_mono (ownsSat_mono (c : Thread nD τ) b.a22 fullShare fun _ _ => trivial) ?_
  exact ownsSat_mono (c : Thread nD τ) b.a23 fullShare fun _ _ => trivial

end Cert.Proof.Sem
-- ==== Proof.Copy.lean ====
/-
  The copies: each batch of `x` and each channel of the weights, packed four bytes to a word, into its rows of a word buffer.
-/
module

public import proofs.«01_k».proof.Proof.Spec

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {b : Bufs} {σ : Preds F} {B : Blk F} {α : Type}
variable {R : α → sProp (MT nD τ sig Unit (Elt F) ℕ (UU nD τ) ℕ)}

/-- The rows of batch `n` of `x` stored. -/
theorem stX {n w : ℕ} {off : Fin 3 → ℕ}
    {inb : ∀ a, off a + S1x24x128.size a ≤ S2x896x128.size a}
    {v : (Rect.unit (s := S2x896x128) off S1x24x128.size inb).shape.Idx → Elt F .i32}
    {hx : (b.a16.access (Rect.unit (s := S2x896x128) off S1x24x128.size inb)).Stores Finset.univ}
    {hm} {k : PUnit → Prog (TpuEff nD τ sig (Elt F) Λ₀ .tc) α}
    (hoff : off = ![n / 32, 28 * (n % 32), 0]) (hv : v = k0_pay91 (F := F) (B.xv n))
    (h : Runs c b (B.C σ (n + 1) w) (k ⟨⟩) R) :
    Runs c b (B.C σ n w) (Prog.lift (TpuEff.store b.a16 (Rect.unit (s := S2x896x128) off S1x24x128.size inb)
      v Finset.univ hx hm) >>= k : Prog (TpuEff nD τ sig (Elt F) Λ₀ .tc) α) R := by
  subst hoff
  refine .st (B.XI (n + 1)) ?_ h
  intro X hX p b r m hpb
  subst hv
  by_cases hn : p.val * 32 + b.val < n
  · rw [ov3_out, ← hX p b r m hn]
    intro i h0 h1 h2
    have := (i 1).isLt
    change n / 32 + 1 * (i 0).val = p.val at h0
    change 28 * (n % 32) + 1 * (i 1).val = 28 * b.val + r.val at h1
    have hi0 : (i 0).val < 1 := (i 0).isLt
    have hi1 : (i 1).val < 24 := (i 1).isLt
    omega
  · have hp : n / 32 = p.val := by omega
    have hb : n % 32 = b.val := by omega
    rw [ov3_in (ix3 0 r m)]
    · unfold Blk.xw Blk.xv
      rw [hp]
      congr 1
      funext j
      refine congrArg _ ?_
      exact congrArg (fun t => ix3 t (j 1 : Fin 96) (j 2 : Fin 128)) (Fin.ext hb)
    · change n / 32 + 1 * 0 = p.val; omega
    · change 28 * (n % 32) + 1 * r.val = 28 * b.val + r.val; omega
    · change 0 + 1 * m.val = m.val; omega

/-- The rows of channel `w` of the weights stored. -/
theorem stW {n w : ℕ} {off : Fin 3 → ℕ}
    {inb : ∀ a, off a + S1x16x128.size a ≤ S2x1920x128.size a}
    {v : (Rect.unit (s := S2x1920x128) off S1x16x128.size inb).shape.Idx → Elt F .i32}
    {hx : (b.a17.access (Rect.unit (s := S2x1920x128) off S1x16x128.size inb)).Stores Finset.univ}
    {hm} {k : PUnit → Prog (TpuEff nD τ sig (Elt F) Λ₀ .tc) α}
    (hoff : off = ![w / 96, 20 * (w % 96), 0]) (hv : v = k0_pay1 (F := F) (B.wv w))
    (h : Runs c b (B.C σ n (w + 1)) (k ⟨⟩) R) :
    Runs c b (B.C σ n w) (Prog.lift (TpuEff.store b.a17 (Rect.unit (s := S2x1920x128) off S1x16x128.size inb)
      v Finset.univ hx hm) >>= k : Prog (TpuEff nD τ sig (Elt F) Λ₀ .tc) α) R := by
  subst hoff
  refine .st (B.WI (w + 1)) ?_ h
  intro X hX p b r m hpb
  subst hv
  by_cases hn : p.val * 96 + b.val < w
  · rw [ov3_out, ← hX p b r m hn]
    intro i h0 h1 h2
    change w / 96 + 1 * (i 0).val = p.val at h0
    change 20 * (w % 96) + 1 * (i 1).val = 20 * b.val + r.val at h1
    have hi0 : (i 0).val < 1 := (i 0).isLt
    have hi1 : (i 1).val < 16 := (i 1).isLt
    omega
  · have hp : w / 96 = p.val := by omega
    have hb : w % 96 = b.val := by omega
    rw [ov3_in (ix3 0 r m)]
    · unfold Blk.ww Blk.wv
      rw [hp]
      congr 1
      funext j
      refine congrArg _ ?_
      exact congrArg (fun t => ix3 t (j 1 : Fin 64) (j 2 : Fin 128)) (Fin.ext hb)
    · change w / 96 + 1 * 0 = p.val; omega
    · change 20 * (w % 96) + 1 * r.val = 20 * b.val + r.val; omega
    · change 0 + 1 * m.val = m.val; omega

/-- The batch of `x` that is copied next, loaded. -/
theorem ldX (m : Memref sig .tc .vmem S32x96x128 .i8) {get : Preds F → (S32x96x128.Idx → Elt F .i8) → Prop} {set} [Slot F c b m get set]
    {n w : ℕ} {off : Fin 3 → ℕ} {inb : ∀ a, off a + S1x96x128.size a ≤ S32x96x128.size a} {hl}
    {k : ((Rect.unit (s := S32x96x128) off S1x96x128.size inb).toLoadRect.shape.Idx → Elt F .i8) → Prog (TpuEff nD τ sig (Elt F) Λ₀ .tc) α}
    (hg : ∀ X, get (B.C σ n w) X → X = Blk.sel B.x4 B.x5 (n / 32))
    (hoff : off = ![n % 32, 0, 0]) (h : Runs c b (B.C σ n w) (k (B.xv n)) R) :
    Runs c b (B.C σ n w) (Prog.lift (TpuEff.load m (Rect.unit (s := S32x96x128) off S1x96x128.size inb).toLoadRect hl) >>= k
      : Prog (TpuEff nD τ sig (Elt F) Λ₀ .tc) α) R := by
  refine .ldv (v := B.xv n) (fun X hX => ?_) h
  rw [hg X hX]
  subst hoff
  funext j
  refine congrArg _ ?_
  funext x; apply Fin.ext
  fin_cases x
  · change n % 32 + 1 * (j 0).val = n % 32
    have : (j 0).val < 1 := (j 0).isLt
    omega
  · change 0 + 1 * (j 1).val = (j 1).val; omega
  · change 0 + 1 * (j 2).val = (j 2).val; omega

/-- The channel of the weights that is copied next, loaded. -/
theorem ldW (m : Memref sig .tc .vmem S96x64x128 .i8) {get : Preds F → (S96x64x128.Idx → Elt F .i8) → Prop} {set} [Slot F c b m get set]
    {n w : ℕ} {off : Fin 3 → ℕ} {inb : ∀ a, off a + S1x64x128.size a ≤ S96x64x128.size a} {hl}
    {k : ((Rect.unit (s := S96x64x128) off S1x64x128.size inb).toLoadRect.shape.Idx → Elt F .i8) → Prog (TpuEff nD τ sig (Elt F) Λ₀ .tc) α}
    (hg : ∀ X, get (B.C σ n w) X → X = Blk.sel B.x6 B.x7 (w / 96))
    (hoff : off = ![w % 96, 0, 0]) (h : Runs c b (B.C σ n w) (k (B.wv w)) R) :
    Runs c b (B.C σ n w) (Prog.lift (TpuEff.load m (Rect.unit (s := S96x64x128) off S1x64x128.size inb).toLoadRect hl) >>= k
      : Prog (TpuEff nD τ sig (Elt F) Λ₀ .tc) α) R := by
  refine .ldv (v := B.wv w) (fun X hX => ?_) h
  rw [hg X hX]
  subst hoff
  funext j
  refine congrArg _ ?_
  funext x; apply Fin.ext
  fin_cases x
  · change w % 96 + 1 * (j 0).val = w % 96
    have : (j 0).val < 1 := (j 0).isLt
    omega
  · change 0 + 1 * (j 1).val = (j 1).val; omega
  · change 0 + 1 * (j 2).val = (j 2).val; omega

end Cert.Proof.Sem
-- ==== Proof.Run1.lean ====
/-
  The first phase of the body: the spectra of the gradient, then the copies.
-/
module

public import proofs.«01_k».proof.Proof.Copy

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {b : Bufs} {B : Blk F}

/-- The only index of the one-entry array. -/
theorem idx_S1 (i : S1.Idx) : i = ix1 0 := by
  funext x; apply Fin.ext
  have h : (i x).val < 1 := by
    have := (i x).isLt
    fin_cases x
    exact this
  fin_cases x
  exact Nat.lt_one_iff.mp h

set_option maxHeartbeats 4000000 in
theorem run1 (I : ℕ → Preds F) (h0 : I 0 = B.base) (σ : Preds F) (h8 : I 8 = (B.C σ 0 0)) (h4 : σ.p4 = (· = B.x4)) (h5 : σ.p5 = (· = B.x5))
   (h6 : σ.p6 = (· = B.x6)) (h7 : σ.p7 = (· = B.x7))
   (hb : ∀ k u, Runs c b (I k.val) (k0_t1_body B.i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 B.dys (B.fb 0) (B.fb 1) k u) (fun _ => St c b (I (k.val + 1)))) :
    Runs c b B.base (k0_part70 B.i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23) (fun r => iprop(⌜r = ⟨BitVec.ofNat 32 (B.i 0).val, k0_pay87 B.xs⟩⌝ ∗ St c b (B.C σ 64 191))) := by
  rw [k0_part70_eq_skeleton]
  unfold k0_part70_skel
  rw [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
  unfold k0_part14_skel
  refine Runs.assoc ?_
  refine Runs.sld (v := B.dys) (fun X hX => by rw [show X = B.x2 from hX, idx_S1 (Rect.emb _ _)]; rfl) ?_
  refine Runs.assoc ?_
  refine Runs.ldv (v := B.xs) (fun X hX => by
    rw [show X = B.x3 from hX]
    funext j
    refine congrArg B.x3 ?_
    funext x; apply Fin.ext
    fin_cases x
    have h : k0_off1 B.i 0 = 128 * (B.i 0).val := congrFun (k0_off1_eq B.i) 0
    change k0_off1 B.i 0 + 1 * (j 0).val = 128 * (B.i 0).val + (j 0).val
    omega) ?_
  refine Runs.assoc ?_
  have hf (p : Fin 2) (off : Fin 4 → ℕ) (ho : off = ![0, p.val, 0, 0]) (inb) (X : S1x2x2048x128.Idx → Elt F .bf16) (hX : X = B.x9) :
      (fun j => X ((Rect.unit (s := S1x2x2048x128) off S1x1x2048x128.size inb).toLoadRect.idx j)) = B.fb p := by
    subst hX ho
    funext j
    refine congrArg B.x9 ?_
    funext x; apply Fin.ext
    fin_cases x
    · change 0 + 1 * (j 0).val = 0
      have : (j 0).val < 1 := (j 0).isLt
      omega
    · change p.val + 1 * (j 1).val = p.val
      have : (j 1).val < 1 := (j 1).isLt
      omega
    · change 0 + 1 * (j 2).val = (j 2).val; omega
    · change 0 + 1 * (j 3).val = (j 3).val; omega
  refine Runs.ldv (v := B.fb 0) (hf 0 _ rfl _) ?_
  refine Runs.assoc ?_
  refine Runs.ldv (v := B.fb 1) (hf 1 _ rfl _) ?_
  refine Runs.assoc ?_
  refine Runs.loop I h0 hb fun _ => ?_
  refine Runs.cast h8 ?_
  have l4 (n w) (X) (hX : (B.C σ n w).p4 X) : X = B.x4 := by
    have : σ.p4 X := hX
    rw [h4] at this; exact this
  have l5 (n w) (X) (hX : (B.C σ n w).p5 X) : X = B.x5 := by
    have : σ.p5 X := hX
    rw [h5] at this; exact this
  have l6 (n w) (X) (hX : (B.C σ n w).p6 X) : X = B.x6 := by
    have : σ.p6 X := hX
    rw [h6] at this; exact this
  have l7 (n w) (X) (hX : (B.C σ n w).p7 X) : X = B.x7 := by
    have : σ.p7 X := hX
    rw [h7] at this; exact this
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part15_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part16_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part17_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part18_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part19_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part20_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part21_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part22_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part23_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part24_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part25_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part26_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part27_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part28_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part29_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part30_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part31_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part32_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part33_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part34_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part35_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part36_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part37_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part38_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part39_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part40_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part41_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part42_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part43_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part44_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part45_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part46_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part47_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part48_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part49_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part50_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part51_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part52_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part53_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part54_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part55_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part56_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part57_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part58_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part59_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part60_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part61_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part62_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part63_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part64_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part65_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part66_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part67_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part68_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  unfold k0_part69_skel
  repeat (first
    | with_reducible refine Runs.assoc ?_
    | ((with_reducible refine ldX b.a4 ?_ ?_ ?_); exact l4 _ _; rfl)
    | ((with_reducible refine ldX b.a5 ?_ ?_ ?_); exact l5 _ _; rfl)
    | ((with_reducible refine ldW b.a6 ?_ ?_ ?_); exact l6 _ _; rfl)
    | ((with_reducible refine ldW b.a7 ?_ ?_ ?_); exact l7 _ _; rfl)
    | with_reducible refine Runs.ld (m := b.a16) (fun _ _ => ?_)
    | with_reducible refine Runs.ld (m := b.a17) (fun _ _ => ?_)
    | ((with_reducible refine stX ?_ ?_ ?_); rfl; rfl)
    | ((with_reducible refine stW ?_ ?_ ?_); rfl; rfl)
    | with_reducible refine Runs.pure ?_)
  refine Runs.done ?_
  iintro H
  isplitr
  · ipureintro; rfl
  · iexact H

end Cert.Proof.Sem
-- ==== Proof.Run2.lean ====
/-
  The loops between the copies and the products: the spectra, and the words regrouped by mode.
-/
module

public import proofs.«01_k».proof.Proof.Held
public import Idealize.ShloMosaic.Lib.ValueLayout

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {b : Bufs} {B : Blk F} {α : Type}

theorem R3.empty {A B' C : ℕ} {D : ℕ → Prop} {f : ℕ → Fin B' → Fin C → α} (h : ∀ a, ¬ D a) :
    (R3 (A := A) D f) = fun _ => True := by
  funext X; exact propext ⟨fun _ => trivial, fun _ a _ _ ha => absurd ha (h _)⟩

theorem R2.empty {A B' : ℕ} {D : ℕ → Prop} {f : ℕ → Fin B' → α} (h : ∀ a, ¬ D a) :
    (R2 (A := A) D f) = fun _ => True := by
  funext X; exact propext ⟨fun _ => trivial, fun _ a _ ha => absurd ha (h _)⟩

/-- Row `R` of mode `i` of the spectrum. -/
theorem f19_row (R : ℕ) (hR : R < 36) (i : Fin 128) (h : Fin 2) (l : Fin 128) :
    B.f19 (R + 36 * i.val) h l = B.y19 R (ix3 i h l) := by
  have h1 : (R + 36 * i.val) % 36 = R := by omega
  have h2 : (Fin.ofNat 128 ((R + 36 * i.val) / 36)) = i := Fin.ext (show (R + 36 * i.val) / 36 % 128 = i.val by omega)
  unfold Blk.f19
  rw [h1, h2]

/-- Trip `k` of the first loop. -/
theorem t1 (k : Fin k0_t1_loop.trips) (u) : Runs c b (B.I1 k.val) (k0_t1_body B.i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 B.dys (B.fb 0) (B.fb 1) k u)
    (fun _ => St c b (B.I1 (k.val + 1))) := by
  have hk : k.val < 8 := k.isLt
  unfold k0_t1_body
  rw [k0_part1_eq_skeleton, k0_part2_eq_skeleton]
  unfold k0_part1_skel
  refine Runs.assoc ?_
  refine Runs.ldv (m := b.a8) (v := B.v8 k.val) (fun X hX => R3.ld (R3.whole hX) (k0_off2_eq k) one3 (fun i hi => by omega)) ?_
  refine Runs.assoc ?_
  refine Runs.ld (m := b.a14) (fun _ _ => ?_)
  refine Runs.assoc ?_
  refine Runs.st (m := b.a14) (R3 (· < 4 * (k.val + 1)) B.f14) (fun X hX => R3.st hX (k0_off3_eq k) one3 (fun i o m => by
    have h1 : (4 * k.val + 1 * i.val) / 4 = k.val := by omega
    have h2 : Fin.ofNat 4 (4 * k.val + 1 * i.val) = i := Fin.ext (show (4 * k.val + 1 * i.val) % 4 = i.val by omega)
    unfold Blk.f14
    rw [h1, h2]
    rfl) (fun a ha h => by
      by_cases h1 : a < 4 * k.val
      · exact .inl h1
      · exact .inr ⟨a - 4 * k.val, by omega, by omega⟩)) ?_
  refine Runs.assoc ?_
  refine Runs.ld (m := b.a15) (fun _ _ => ?_)
  refine Runs.assoc ?_
  refine Runs.st (m := b.a15) (R3 (· < 4 * (k.val + 1)) B.f15) (fun X hX => R3.st hX (k0_off3_eq k) one3 (fun i o m => by
    have h1 : (4 * k.val + 1 * i.val) / 4 = k.val := by omega
    have h2 : Fin.ofNat 4 (4 * k.val + 1 * i.val) = i := Fin.ext (show (4 * k.val + 1 * i.val) % 4 = i.val by omega)
    unfold Blk.f15
    rw [h1, h2]
    rfl) (fun a ha h => by
      by_cases h1 : a < 4 * k.val
      · exact .inl h1
      · exact .inr ⟨a - 4 * k.val, by omega, by omega⟩)) ?_
  refine Runs.pure ?_
  unfold k0_part2_skel
  refine Runs.assoc ?_
  refine Runs.ld (m := b.a19) (fun _ _ => ?_)
  refine Runs.assoc ?_
  refine Runs.st (m := b.a19) (R3 (fun a => (a % 36 < 32 ∧ a % 36 % 16 < 2 * k.val) ∨ a % 36 = 2 * k.val) B.f19)
    (fun X hX => R3.st hX (o := 2 * k.val) (k0_off4_eq k 0) rfl (fun i h l => by
      rw [f19_row _ (by omega)]
      unfold Blk.y19
      rw [if_pos (by omega), if_pos (by omega), show 2 * k.val / 2 = k.val by omega]
      rfl) (fun a ha h => by
        by_cases h1 : a % 36 = 2 * k.val
        · exact .inr ⟨a / 36, by omega, by omega⟩
        · exact .inl (h.resolve_right h1))) ?_
  refine Runs.assoc ?_
  refine Runs.ld (m := b.a19) (fun _ _ => ?_)
  refine Runs.assoc ?_
  refine Runs.st (m := b.a19) (R3 (fun a => ((a % 36 < 32 ∧ a % 36 % 16 < 2 * k.val) ∨ a % 36 = 2 * k.val) ∨ a % 36 = 2 * k.val + 16) B.f19)
    (fun X hX => R3.st hX (o := 2 * k.val + 16) (k0_off5_eq k 0) rfl (fun i h l => by
      rw [f19_row _ (by omega)]
      unfold Blk.y19
      rw [if_neg (by omega), if_pos (by omega), show (2 * k.val + 16 - 16) / 2 = k.val by omega]
      rfl) (fun a ha h => by
        by_cases h1 : a % 36 = 2 * k.val + 16
        · exact .inr ⟨a / 36, by omega, by omega⟩
        · exact .inl (h.resolve_right h1))) ?_
  refine Runs.pure ?_
  refine Runs.ld (m := b.a19) (fun _ _ => ?_)
  refine Runs.st (m := b.a19) (R3 (fun a => (((a % 36 < 32 ∧ a % 36 % 16 < 2 * k.val) ∨ a % 36 = 2 * k.val) ∨ a % 36 = 2 * k.val + 16) ∨ a % 36 = 2 * k.val + 1) B.f19)
    (fun X hX => R3.st hX (o := 2 * k.val + 1) (k0_off4_eq k 1) rfl (fun i h l => by
      rw [f19_row _ (by omega)]
      unfold Blk.y19
      rw [if_pos (by omega), if_neg (by omega), show (2 * k.val + 1) / 2 = k.val by omega]
      rfl) (fun a ha h => by
        by_cases h1 : a % 36 = 2 * k.val + 1
        · exact .inr ⟨a / 36, by omega, by omega⟩
        · exact .inl (h.resolve_right h1))) ?_
  refine Runs.ld (m := b.a19) (fun _ _ => ?_)
  refine Runs.st (m := b.a19) (R3 (fun a => a % 36 < 32 ∧ a % 36 % 16 < 2 * (k.val + 1)) B.f19)
    (fun X hX => R3.st (D := fun a => (((a % 36 < 32 ∧ a % 36 % 16 < 2 * k.val) ∨ a % 36 = 2 * k.val) ∨ a % 36 = 2 * k.val + 16) ∨ a % 36 = 2 * k.val + 1) hX (o := 2 * k.val + 1 + 16) (k0_off5_eq k 1) rfl (fun i h l => by
      rw [f19_row _ (by omega)]
      unfold Blk.y19
      rw [if_neg (by omega), if_neg (by omega), show (2 * k.val + 1 + 16 - 16) / 2 = k.val by omega]
      rfl) (fun a ha h => by
        by_cases h1 : a % 36 = 2 * k.val + 1 + 16
        · exact .inr ⟨a / 36, by omega, by omega⟩
        · exact .inl (by omega))) ?_
  refine Runs.done ?_
  iintro H
  iexact H

/-- Word `r` of every batch, read from the word buffer of `x`. -/
theorem read16 {X : S2x896x128.Idx → BitVec 32} (hX : B.XI 64 X) (p : Fin 2) (r : ℕ) (hr : r < 24) {off₀ : Fin 3 → ℕ} (h0 : off₀ = ![p.val, 0, 0])
    {inb} {h : S896x128.numel = (Rect.unit (s := S2x896x128) off₀ S1x896x128.size inb).shape.numel} {off : Fin 2 → ℕ} (ho : off = ![r, 0]) {inb'} :
    (fun j => X ((Rect.unit (s := S2x896x128) off₀ S1x896x128.size inb).emb
      (Shape.reshapeEquiv h ((⟨off, S32x128.size, ![28, 1], inb'⟩ : LoadRect S896x128).idx j)))) = B.g16 p.val r := by
  subst h0 ho
  funext j
  have hj0 : (j 0).val < 32 := (j 0).isLt
  have hj : (⟨![r, 0], S32x128.size, ![28, 1], inb'⟩ : LoadRect S896x128).idx j = ix2 ⟨28 * (j 0).val + r, by omega⟩ (j 1 : Fin 128) := by
    funext x; apply Fin.ext
    fin_cases x
    · change r + 28 * (j 0).val = 28 * (j 0).val + r; omega
    · change 0 + 1 * (j 1).val = (j 1).val; omega
  have he (x : Fin 896) (y : Fin 128) : (Rect.unit (s := S2x896x128) ![p.val, 0, 0] S1x896x128.size inb).emb (ix3 0 x y) = ix3 p x y := by
    funext a; apply Fin.ext
    fin_cases a
    · change p.val + 1 * 0 = p.val; omega
    · change 0 + 1 * x.val = x.val; omega
    · change 0 + 1 * y.val = y.val; omega
  rw [hj]
  refine (congrArg (fun t => X ((Rect.unit (s := S2x896x128) ![p.val, 0, 0] S1x896x128.size inb).emb t)) (ValueIdx.reshapeEquiv_ix2_1ab h _ _)).trans ?_
  refine (congrArg X (he _ _)).trans ?_
  have h2 : (Fin.ofNat 24 r).val = r := Nat.mod_eq_of_lt hr
  have := hX p (j 0) (Fin.ofNat 24 r) (j 1) (by have := p.isLt; change p.val * 32 + (j 0).val < 64; omega)
  refine Eq.trans (congrArg X ?_) this
  refine congrArg (fun t => ix3 p t (j 1 : Fin 128)) (Fin.ext ?_)
  change 28 * (j 0).val + r = 28 * (j 0).val + (Fin.ofNat 24 r).val
  rw [h2]

/-- Word `r` of every channel, read from the word buffer of the weights. -/
theorem read17 {X : S2x1920x128.Idx → BitVec 32} (hX : B.WI 192 X) (p : Fin 2) (r : ℕ) (hr : r < 16) {off₀ : Fin 3 → ℕ} (h0 : off₀ = ![p.val, 0, 0])
    {inb} {h : S1920x128.numel = (Rect.unit (s := S2x1920x128) off₀ S1x1920x128.size inb).shape.numel} {off : Fin 2 → ℕ} (ho : off = ![r, 0]) {inb'} :
    (fun j => X ((Rect.unit (s := S2x1920x128) off₀ S1x1920x128.size inb).emb
      (Shape.reshapeEquiv h ((⟨off, S96x128.size, ![20, 1], inb'⟩ : LoadRect S1920x128).idx j)))) = B.g17 p.val r := by
  subst h0 ho
  funext j
  have hj0 : (j 0).val < 96 := (j 0).isLt
  have hj : (⟨![r, 0], S96x128.size, ![20, 1], inb'⟩ : LoadRect S1920x128).idx j = ix2 ⟨20 * (j 0).val + r, by omega⟩ (j 1 : Fin 128) := by
    funext x; apply Fin.ext
    fin_cases x
    · change r + 20 * (j 0).val = 20 * (j 0).val + r; omega
    · change 0 + 1 * (j 1).val = (j 1).val; omega
  have he (x : Fin 1920) (y : Fin 128) : (Rect.unit (s := S2x1920x128) ![p.val, 0, 0] S1x1920x128.size inb).emb (ix3 0 x y) = ix3 p x y := by
    funext a; apply Fin.ext
    fin_cases a
    · change p.val + 1 * 0 = p.val; omega
    · change 0 + 1 * x.val = x.val; omega
    · change 0 + 1 * y.val = y.val; omega
  rw [hj]
  refine (congrArg (fun t => X ((Rect.unit (s := S2x1920x128) ![p.val, 0, 0] S1x1920x128.size inb).emb t)) (ValueIdx.reshapeEquiv_ix2_1ab h _ _)).trans ?_
  refine (congrArg X (he _ _)).trans ?_
  have h2 : (Fin.ofNat 16 r).val = r := Nat.mod_eq_of_lt hr
  have := hX p (j 0) (Fin.ofNat 16 r) (j 1) (by have := p.isLt; change p.val * 96 + (j 0).val < 192; omega)
  refine Eq.trans (congrArg X ?_) this
  refine congrArg (fun t => ix3 p t (j 1 : Fin 128)) (Fin.ext ?_)
  change 20 * (j 0).val + r = 20 * (j 0).val + (Fin.ofNat 16 r).val
  rw [h2]

/-- Trip `k` of the second loop. -/
theorem t2 (k : Fin k0_t2_loop.trips) (u) : Runs c b (B.I2 k.val) (k0_t2_body B.i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 k u)
    (fun _ => St c b (B.I2 (k.val + 1))) := by
  have hk : k.val < 12 := k.isLt
  unfold k0_t2_body
  refine Runs.ldq (m := b.a16) (v := B.g16 0 k.val) (fun X hX => read16 hX 0 _ (by omega) rfl (k0_off6_eq k 0)) ?_
  refine Runs.ldq (m := b.a16) (v := B.g16 1 k.val) (fun X hX => read16 hX 1 _ (by omega) rfl (k0_off6_eq k 0)) ?_
  refine Runs.ldq (m := b.a16) (v := B.g16 0 (k.val + 12)) (fun X hX => read16 hX 0 _ (by omega) rfl (k0_off6_eq k 1)) ?_
  refine Runs.ldq (m := b.a16) (v := B.g16 1 (k.val + 12)) (fun X hX => read16 hX 1 _ (by omega) rfl (k0_off6_eq k 1)) ?_
  refine Runs.ld (m := b.a18) (fun _ _ => ?_)
  refine Runs.st (m := b.a18) (R2 (fun a => a % 12 < k.val + 1) B.f18)
    (fun X hX => R2.st (D := fun a => a % 12 < k.val) hX (o := k.val) (k0_off7_eq k) rfl (fun i l => by
      have h1 : (k.val + 12 * i.val) % 12 = k.val := by omega
      have h2 : Fin.ofNat 128 ((k.val + 12 * i.val) / 12) = i := Fin.ext (show (k.val + 12 * i.val) / 12 % 128 = i.val by omega)
      unfold Blk.f18
      rw [h1, h2]) (fun a ha h => by
        by_cases h1 : a % 12 = k.val
        · exact .inr ⟨a / 12, by omega, by omega⟩
        · exact .inl (by omega))) ?_
  refine Runs.done ?_
  iintro H
  iexact H

/-- Trip `k` of the third loop. -/
theorem t3 (k : Fin k0_t3_loop.trips) (u) : Runs c b (B.I3 k.val) (k0_t3_body B.i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 k u)
    (fun _ => St c b (B.I3 (k.val + 1))) := by
  have hk : k.val < 16 := k.isLt
  unfold k0_t3_body
  refine Runs.ldq (m := b.a17) (v := B.g17 0 k.val) (fun X hX => read17 hX 0 _ (by omega) rfl (k0_off8_eq k)) ?_
  refine Runs.ld (m := b.a20) (fun _ _ => ?_)
  refine Runs.st (m := b.a20) (R2 (fun a => (a % 36 % 16 < k.val ∧ a % 36 < 32) ∨ a % 36 = k.val) B.f20)
    (fun X hX => R2.st hX (o := k.val) ((k0_off9_eq k 0).trans (by rw [show 16 * (0 : Fin 2).val + k.val = k.val by simp])) rfl (fun i l => by
      have h1 : (k.val + 36 * i.val) % 36 = k.val := by omega
      have h2 : Fin.ofNat 128 ((k.val + 36 * i.val) / 36) = i := Fin.ext (show (k.val + 36 * i.val) / 36 % 128 = i.val by omega)
      unfold Blk.f20
      rw [h1, h2, if_pos hk]) (fun a ha h => by
        by_cases h1 : a % 36 = k.val
        · exact .inr ⟨a / 36, by omega, by omega⟩
        · exact .inl (h.resolve_right h1))) ?_
  refine Runs.ldq (m := b.a17) (v := B.g17 1 k.val) (fun X hX => read17 hX 1 _ (by omega) rfl (k0_off8_eq k)) ?_
  refine Runs.ld (m := b.a20) (fun _ _ => ?_)
  refine Runs.st (m := b.a20) (R2 (fun a => a % 36 % 16 < k.val + 1 ∧ a % 36 < 32) B.f20)
    (fun X hX => R2.st (D := fun a => (a % 36 % 16 < k.val ∧ a % 36 < 32) ∨ a % 36 = k.val) hX (o := 16 + k.val) (k0_off9_eq k 1) rfl (fun i l => by
      have h1 : (16 + k.val + 36 * i.val) % 36 = 16 + k.val := by omega
      have h2 : Fin.ofNat 128 ((16 + k.val + 36 * i.val) / 36) = i := Fin.ext (show (16 + k.val + 36 * i.val) / 36 % 128 = i.val by omega)
      have h3 : 16 + k.val - 16 = k.val := by omega
      unfold Blk.f20
      rw [h1, h2, if_neg (by omega), h3]) (fun a ha h => by
        by_cases h1 : a % 36 = 16 + k.val
        · exact .inr ⟨a / 36, by omega, by omega⟩
        · exact .inl (by omega))) ?_
  refine Runs.done ?_
  iintro H
  iexact H

end Cert.Proof.Sem
-- ==== Proof.Run4.lean ====
/-
  The products: mode by mode, the gradient of the weights and the gradient of `x`.
-/
module

public import proofs.«01_k».proof.Proof.Held

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {b : Bufs} {B : Blk F} {α : Type}
variable {R : α → sProp (MT nD τ sig Unit (Elt F) ℕ (UU nD τ) ℕ)}

section Offsets

variable (k : Fin k0_t4_loop.trips) {n : ℕ} {x y : BitVec 32} (hx : ∃ r : Fin 4, x = BitVec.ofNat 32 (2 * r.val))
variable (hy : ∃ r : Fin 2, y = BitVec.ofNat 32 r.val)

include hx

theorem o10 {q : ℕ} (h : 2 * q = 8 * k.val + x.toNat) : k0_off10 k x = ![24 * q, 0] := by
  obtain ⟨r, rfl⟩ := hx
  have hr := r.isLt
  rw [BitVec.toNat_ofNat] at h
  rw [k0_off10_eq, show 96 * k.val + 24 * r.val = 24 * q by omega]

include hy

theorem o11 (h : n = 8 * k.val + x.toNat + y.toNat) : k0_off11 k x y = ![36 * n, 0, 0] := by
  obtain ⟨r, rfl⟩ := hx
  obtain ⟨s, rfl⟩ := hy
  have hr := r.isLt
  have hs := s.isLt
  rw [BitVec.toNat_ofNat, BitVec.toNat_ofNat] at h
  rw [k0_off11_eq, show 288 * k.val + 72 * r.val + 36 * s.val = 36 * n by omega]

theorem o12 (h : n = 8 * k.val + x.toNat + y.toNat) : k0_off12 k x y = ![52 * n, 0] := by
  obtain ⟨r, rfl⟩ := hx
  obtain ⟨s, rfl⟩ := hy
  have hr := r.isLt
  have hs := s.isLt
  rw [BitVec.toNat_ofNat, BitVec.toNat_ofNat] at h
  rw [k0_off12_eq, show 416 * k.val + 104 * r.val + 52 * s.val = 52 * n by omega]

theorem o13 (h : n = 8 * k.val + x.toNat + y.toNat) : k0_off13 k x y = ![36 * n, 0] := by
  obtain ⟨r, rfl⟩ := hx
  obtain ⟨s, rfl⟩ := hy
  have hr := r.isLt
  have hs := s.isLt
  rw [BitVec.toNat_ofNat, BitVec.toNat_ofNat] at h
  rw [k0_off13_eq, show 288 * k.val + 72 * r.val + 36 * s.val = 36 * n by omega]

theorem o14 (i : grid0.Coords) (h : n = 8 * k.val + x.toNat + y.toNat) : k0_off14 i k x y = ![128 * (i 0).val + n] := by
  obtain ⟨r, rfl⟩ := hx
  obtain ⟨s, rfl⟩ := hy
  have hr := r.isLt
  have hs := s.isLt
  rw [BitVec.toNat_ofNat, BitVec.toNat_ofNat] at h
  rw [k0_off14_eq, show 128 * (i 0).val + 8 * k.val + 2 * r.val + s.val = 128 * (i 0).val + n by omega]

end Offsets

/-- The words of `x` of two modes loaded. -/
theorem ld18 {q n₂ n₃ : ℕ} {off : Fin 2 → ℕ} {inb : ∀ a, off a + S24x128.size a ≤ S1536x128.size a} {hl}
    {k : ((Rect.unit (s := S1536x128) off S24x128.size inb).toLoadRect.shape.Idx → Elt F .i32) → Prog (TpuEff nD τ sig (Elt F) Λ₀ .tc) α}
    (hoff : off = ![24 * q, 0]) (hq : q < 64) (h : Runs c b (B.C4 (2 * q) n₂ n₃) (k (B.xt q)) R) :
    Runs c b (B.C4 (2 * q) n₂ n₃) (Prog.lift (TpuEff.load b.a18 (Rect.unit (s := S1536x128) off S24x128.size inb).toLoadRect hl) >>= k
      : Prog (TpuEff nD τ sig (Elt F) Λ₀ .tc) α) R :=
  .ldv (m := b.a18) (v := B.xt q) (fun X hX => R2.ld (D := fun a => a % 12 < 12) hX hoff one2 (fun i hi => by omega)) h

/-- The spectrum of a mode loaded. -/
theorem ld19 {n n₂ n₃ : ℕ} {off : Fin 3 → ℕ} {inb : ∀ a, off a + S32x2x128.size a ≤ S4608x2x128.size a} {hl}
    {k : ((Rect.unit (s := S4608x2x128) off S32x2x128.size inb).toLoadRect.shape.Idx → Elt F .bf16) → Prog (TpuEff nD τ sig (Elt F) Λ₀ .tc) α}
    (hoff : off = ![36 * n, 0, 0]) (hq : n < 128) (h : Runs c b (B.C4 n n₂ n₃) (k (B.yt n)) R) :
    Runs c b (B.C4 n n₂ n₃) (Prog.lift (TpuEff.load b.a19 (Rect.unit (s := S4608x2x128) off S32x2x128.size inb).toLoadRect hl) >>= k
      : Prog (TpuEff nD τ sig (Elt F) Λ₀ .tc) α) R :=
  .ldv (m := b.a19) (v := B.yt n) (fun X hX => R3.ld (D := fun a => a % 36 < 32 ∧ a % 36 % 16 < 2 * 8) hX hoff one3 (fun i hi => by omega)) h

/-- The words of the weights of a mode loaded. -/
theorem ld20 {n n₁ n₂ : ℕ} {off : Fin 2 → ℕ} {inb : ∀ a, off a + S32x128.size a ≤ S4608x128.size a} {hl}
    {k : ((Rect.unit (s := S4608x128) off S32x128.size inb).toLoadRect.shape.Idx → Elt F .i32) → Prog (TpuEff nD τ sig (Elt F) Λ₀ .tc) α}
    (hoff : off = ![36 * n, 0]) (hq : n < 128) (h : Runs c b (B.C4 n₁ n₂ n) (k (B.wt n)) R) :
    Runs c b (B.C4 n₁ n₂ n) (Prog.lift (TpuEff.load b.a20 (Rect.unit (s := S4608x128) off S32x128.size inb).toLoadRect hl) >>= k
      : Prog (TpuEff nD τ sig (Elt F) Λ₀ .tc) α) R :=
  .ldv (m := b.a20) (v := B.wt n) (fun X hX => R2.ld (D := fun a => a % 36 % 16 < 16 ∧ a % 36 < 32) hX hoff one2 (fun i hi => by omega)) h

/-- The scale of the weights of a mode read. -/
theorem ld1 {n n₁ n₂ : ℕ} {off : Fin 1 → ℕ} {inb : ∀ a, off a + S1.size a ≤ S768.size a} {h1 : S1.numel = 1}
    {hp : EltTy.f32.packing = EltTy.f32.packing}
    {k : Elt F .f32 → Prog (TpuEff nD τ sig (Elt F) Λ₀ .tc) α}
    (hoff : off = ![128 * (B.i 0).val + n]) (hq : n < 128) (h : Runs c b (B.C4 n₁ n₂ n) (k (B.ws n)) R) :
    Runs c b (B.C4 n₁ n₂ n) (smemLoad (p := .tc) b.a1 (Rect.unit (s := S768) off S1.size inb) h1 hp >>= k
      : Prog (TpuEff nD τ sig (Elt F) Λ₀ .tc) α) R := by
  subst hoff
  refine .sld (m := b.a1) (v := B.ws n) (fun X hX => ?_) h
  rw [show X = B.x1 from hX]
  refine congrArg B.x1 ?_
  have hi := B.i_lt
  funext x; apply Fin.ext
  fin_cases x
  rw [Rect.emb_apply]
  have h0 : ((Shape.Idx.first (s := S1) (h1.symm ▸ Nat.one_pos)) 0).val < 1 := Fin.isLt _
  change 128 * (B.i 0).val + n + 1 * ((Shape.Idx.first (s := S1) (h1.symm ▸ Nat.one_pos)) 0).val = (128 * (B.i 0).val + n) % 768
  omega

/-- The products of an even mode stored, first half of the channels. -/
theorem st21e {n₂ n₃ q : ℕ} {off : Fin 2 → ℕ} {inb : ∀ a, off a + S48x128.size a ≤ S6656x128.size a}
    {v : (Rect.unit (s := S6656x128) off S48x128.size inb).shape.Idx → Elt F .f32}
    {hx : (b.a21.access (Rect.unit (s := S6656x128) off S48x128.size inb)).Stores Finset.univ}
    {hm} {k : PUnit → Prog (TpuEff nD τ sig (Elt F) Λ₀ .tc) α}
    (hoff : off = ![52 * (2 * q), 0]) (hv : v = k0_pay32 (B.xt q) (B.yt (2 * q))) (hq : q < 64)
    (h : Runs c b (B.C4 (2 * q + 1) n₂ n₃) (k ⟨⟩) R) :
    Runs c b (B.C4 (2 * q) n₂ n₃) (Prog.lift (TpuEff.store b.a21 (Rect.unit (s := S6656x128) off S48x128.size inb)
      v Finset.univ hx hm) >>= k : Prog (TpuEff nD τ sig (Elt F) Λ₀ .tc) α) R := by
  subst hv
  refine Runs.st (m := b.a21) (R2 (fun a => a / 52 < (2 * q + 1) ∧ a % 52 < 48) B.f21)
    (fun X hX => R2.st (D := fun a => a / 52 < (2 * q) ∧ a % 52 < 48) hX hoff one2 (fun i l => ?_) (fun a ha h => ?_)) h
  · have h1 : (52 * (2 * q) + 1 * i.val) / 52 = (2 * q) := by omega
    have h2 : (52 * (2 * q) + 1 * i.val) / 104 = q := by omega
    have h3 : Fin.ofNat 48 ((52 * (2 * q) + 1 * i.val) % 52) = i := Fin.ext (show (52 * (2 * q) + 1 * i.val) % 52 % 48 = i.val by omega)
    unfold Blk.f21
    rw [h1, h2, h3, if_pos (by omega)]
  · by_cases h1 : a / 52 < (2 * q)
    · exact .inl ⟨h1, h.2⟩
    · exact .inr ⟨a % 52, by omega, by omega⟩

/-- The products of an odd mode stored, first half of the channels. -/
theorem st21o {n₂ n₃ q : ℕ} {off : Fin 2 → ℕ} {inb : ∀ a, off a + S48x128.size a ≤ S6656x128.size a}
    {v : (Rect.unit (s := S6656x128) off S48x128.size inb).shape.Idx → Elt F .f32}
    {hx : (b.a21.access (Rect.unit (s := S6656x128) off S48x128.size inb)).Stores Finset.univ}
    {hm} {k : PUnit → Prog (TpuEff nD τ sig (Elt F) Λ₀ .tc) α}
    (hoff : off = ![52 * (2 * q + 1), 0]) (hv : v = k0_pay38 (k0_pay29 (B.xt q)) (B.yt (2 * q + 1))) (hq : q < 64)
    (h : Runs c b (B.C4 (2 * (q + 1)) n₂ n₃) (k ⟨⟩) R) :
    Runs c b (B.C4 (2 * q + 1) n₂ n₃) (Prog.lift (TpuEff.store b.a21 (Rect.unit (s := S6656x128) off S48x128.size inb)
      v Finset.univ hx hm) >>= k : Prog (TpuEff nD τ sig (Elt F) Λ₀ .tc) α) R := by
  subst hv
  refine Runs.st (m := b.a21) (R2 (fun a => a / 52 < (2 * (q + 1)) ∧ a % 52 < 48) B.f21)
    (fun X hX => R2.st (D := fun a => a / 52 < (2 * q + 1) ∧ a % 52 < 48) hX hoff one2 (fun i l => ?_) (fun a ha h => ?_)) h
  · have h1 : (52 * (2 * q + 1) + 1 * i.val) / 52 = (2 * q + 1) := by omega
    have h2 : (52 * (2 * q + 1) + 1 * i.val) / 104 = q := by omega
    have h3 : Fin.ofNat 48 ((52 * (2 * q + 1) + 1 * i.val) % 52) = i := Fin.ext (show (52 * (2 * q + 1) + 1 * i.val) % 52 % 48 = i.val by omega)
    unfold Blk.f21
    rw [h1, h2, h3, if_neg (by omega)]
  · by_cases h1 : a / 52 < (2 * q + 1)
    · exact .inl ⟨h1, h.2⟩
    · exact .inr ⟨a % 52, by omega, by omega⟩

/-- The products of an even mode stored, second half of the channels. -/
theorem st22e {n₁ n₃ q : ℕ} {off : Fin 2 → ℕ} {inb : ∀ a, off a + S48x128.size a ≤ S6656x128.size a}
    {v : (Rect.unit (s := S6656x128) off S48x128.size inb).shape.Idx → Elt F .f32}
    {hx : (b.a22.access (Rect.unit (s := S6656x128) off S48x128.size inb)).Stores Finset.univ}
    {hm} {k : PUnit → Prog (TpuEff nD τ sig (Elt F) Λ₀ .tc) α}
    (hoff : off = ![52 * (2 * q), 0]) (hv : v = k0_pay33 (B.xt q) (B.yt (2 * q))) (hq : q < 64)
    (h : Runs c b (B.C4 n₁ (2 * q + 1) n₃) (k ⟨⟩) R) :
    Runs c b (B.C4 n₁ (2 * q) n₃) (Prog.lift (TpuEff.store b.a22 (Rect.unit (s := S6656x128) off S48x128.size inb)
      v Finset.univ hx hm) >>= k : Prog (TpuEff nD τ sig (Elt F) Λ₀ .tc) α) R := by
  subst hv
  refine Runs.st (m := b.a22) (R2 (fun a => a / 52 < (2 * q + 1) ∧ a % 52 < 48) B.f22)
    (fun X hX => R2.st (D := fun a => a / 52 < (2 * q) ∧ a % 52 < 48) hX hoff one2 (fun i l => ?_) (fun a ha h => ?_)) h
  · have h1 : (52 * (2 * q) + 1 * i.val) / 52 = (2 * q) := by omega
    have h2 : (52 * (2 * q) + 1 * i.val) / 104 = q := by omega
    have h3 : Fin.ofNat 48 ((52 * (2 * q) + 1 * i.val) % 52) = i := Fin.ext (show (52 * (2 * q) + 1 * i.val) % 52 % 48 = i.val by omega)
    unfold Blk.f22
    rw [h1, h2, h3, if_pos (by omega)]
  · by_cases h1 : a / 52 < (2 * q)
    · exact .inl ⟨h1, h.2⟩
    · exact .inr ⟨a % 52, by omega, by omega⟩

/-- The products of an odd mode stored, second half of the channels. -/
theorem st22o {n₁ n₃ q : ℕ} {off : Fin 2 → ℕ} {inb : ∀ a, off a + S48x128.size a ≤ S6656x128.size a}
    {v : (Rect.unit (s := S6656x128) off S48x128.size inb).shape.Idx → Elt F .f32}
    {hx : (b.a22.access (Rect.unit (s := S6656x128) off S48x128.size inb)).Stores Finset.univ}
    {hm} {k : PUnit → Prog (TpuEff nD τ sig (Elt F) Λ₀ .tc) α}
    (hoff : off = ![52 * (2 * q + 1), 0]) (hv : v = k0_pay39 (k0_pay29 (B.xt q)) (B.yt (2 * q + 1))) (hq : q < 64)
    (h : Runs c b (B.C4 n₁ (2 * (q + 1)) n₃) (k ⟨⟩) R) :
    Runs c b (B.C4 n₁ (2 * q + 1) n₃) (Prog.lift (TpuEff.store b.a22 (Rect.unit (s := S6656x128) off S48x128.size inb)
      v Finset.univ hx hm) >>= k : Prog (TpuEff nD τ sig (Elt F) Λ₀ .tc) α) R := by
  subst hv
  refine Runs.st (m := b.a22) (R2 (fun a => a / 52 < (2 * (q + 1)) ∧ a % 52 < 48) B.f22)
    (fun X hX => R2.st (D := fun a => a / 52 < (2 * q + 1) ∧ a % 52 < 48) hX hoff one2 (fun i l => ?_) (fun a ha h => ?_)) h
  · have h1 : (52 * (2 * q + 1) + 1 * i.val) / 52 = (2 * q + 1) := by omega
    have h2 : (52 * (2 * q + 1) + 1 * i.val) / 104 = q := by omega
    have h3 : Fin.ofNat 48 ((52 * (2 * q + 1) + 1 * i.val) % 52) = i := Fin.ext (show (52 * (2 * q + 1) + 1 * i.val) % 52 % 48 = i.val by omega)
    unfold Blk.f22
    rw [h1, h2, h3, if_neg (by omega)]
  · by_cases h1 : a / 52 < (2 * q + 1)
    · exact .inl ⟨h1, h.2⟩
    · exact .inr ⟨a % 52, by omega, by omega⟩

/-- The gradient of `x` of one mode laid into its buffer. -/
theorem step23 {n : ℕ} {off : Fin 3 → ℕ} {inb : ∀ a, off a + S32x2x128.size a ≤ S4608x2x128.size a}
    {v : (Rect.unit (s := S4608x2x128) off S32x2x128.size inb).shape.Idx → Elt F .bf16} {X : S4608x2x128.Idx → Elt F .bf16}
    (hX : R3 (fun a => a / 36 < n ∧ a % 36 < 32) B.f23 X)
    (hoff : off = ![36 * n, 0, 0]) (hv : v = k0_pay35 (k0_pay34 (B.yt n) (B.wt n)) (B.ws n)) :
    R3 (fun a => a / 36 < n + 1 ∧ a % 36 < 32) B.f23 ((Rect.unit (s := S4608x2x128) off S32x2x128.size inb).overlay X v) := by
  subst hv
  refine R3.st (D := fun a => a / 36 < n ∧ a % 36 < 32) hX hoff one3 (fun i l m => ?_) (fun a ha h => ?_)
  · have h1 : (36 * n + 1 * i.val) / 36 = n := by omega
    have h3 : Fin.ofNat 32 ((36 * n + 1 * i.val) % 36) = i := Fin.ext (show (36 * n + 1 * i.val) % 36 % 32 = i.val by omega)
    unfold Blk.f23
    rw [h1, h3]
  · by_cases h1 : a / 36 < n
    · exact .inl ⟨h1, h.2⟩
    · exact .inr ⟨a % 36, by omega, by omega⟩

/-- The gradient of `x` of an even mode stored. -/
theorem st23e {n₁ n₂ q : ℕ} {off : Fin 3 → ℕ} {inb : ∀ a, off a + S32x2x128.size a ≤ S4608x2x128.size a}
    {v : (Rect.unit (s := S4608x2x128) off S32x2x128.size inb).shape.Idx → Elt F .bf16}
    {hx : (b.a23.access (Rect.unit (s := S4608x2x128) off S32x2x128.size inb)).Stores Finset.univ}
    {hm} {k : PUnit → Prog (TpuEff nD τ sig (Elt F) Λ₀ .tc) α}
    (hoff : off = ![36 * (2 * q), 0, 0]) (hv : v = k0_pay35 (k0_pay34 (B.yt (2 * q)) (B.wt (2 * q))) (B.ws (2 * q)))
    (h : Runs c b (B.C4 n₁ n₂ (2 * q + 1)) (k ⟨⟩) R) :
    Runs c b (B.C4 n₁ n₂ (2 * q)) (Prog.lift (TpuEff.store b.a23 (Rect.unit (s := S4608x2x128) off S32x2x128.size inb)
      v Finset.univ hx hm) >>= k : Prog (TpuEff nD τ sig (Elt F) Λ₀ .tc) α) R :=
  .st (m := b.a23) (R3 (fun a => a / 36 < (2 * q + 1) ∧ a % 36 < 32) B.f23) (fun _ hX => step23 (n := (2 * q)) hX hoff hv) h

/-- The gradient of `x` of an odd mode stored. -/
theorem st23o {n₁ n₂ q : ℕ} {off : Fin 3 → ℕ} {inb : ∀ a, off a + S32x2x128.size a ≤ S4608x2x128.size a}
    {v : (Rect.unit (s := S4608x2x128) off S32x2x128.size inb).shape.Idx → Elt F .bf16}
    {hx : (b.a23.access (Rect.unit (s := S4608x2x128) off S32x2x128.size inb)).Stores Finset.univ}
    {hm} {k : PUnit → Prog (TpuEff nD τ sig (Elt F) Λ₀ .tc) α}
    (hoff : off = ![36 * (2 * q + 1), 0, 0]) (hv : v = k0_pay35 (k0_pay34 (B.yt (2 * q + 1)) (B.wt (2 * q + 1))) (B.ws (2 * q + 1)))
    (h : Runs c b (B.C4 n₁ n₂ (2 * (q + 1))) (k ⟨⟩) R) :
    Runs c b (B.C4 n₁ n₂ (2 * q + 1)) (Prog.lift (TpuEff.store b.a23 (Rect.unit (s := S4608x2x128) off S32x2x128.size inb)
      v Finset.univ hx hm) >>= k : Prog (TpuEff nD τ sig (Elt F) Λ₀ .tc) α) R :=
  .st (m := b.a23) (R3 (fun a => a / 36 < (2 * (q + 1)) ∧ a % 36 < 32) B.f23) (fun _ hX => step23 (n := (2 * q + 1)) hX hoff hv) h

set_option maxHeartbeats 2000000 in
/-- Trip `k` of the fourth loop. -/
theorem t4 (w : BitVec 32) (k : Fin k0_t4_loop.trips) (u) : Runs c b (B.C4 (8 * k.val) (8 * k.val) (8 * k.val)) (k0_t4_body B.i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 w k u)
    (fun _ => St c b (B.C4 (8 * (k.val + 1)) (8 * (k.val + 1)) (8 * (k.val + 1)))) := by
  have hk : k.val < 16 := k.isLt
  unfold k0_t4_body
  rw [k0_part12_eq_skeleton]
  unfold k0_part12_skel
  rw [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  refine Runs.cast (show _ = B.C4 (2 * (4 * k.val)) (2 * (4 * k.val)) (2 * (4 * k.val)) by rw [show 8 * k.val = 2 * (4 * k.val) by omega]) ?_
  repeat (first
    | with_reducible refine Runs.assoc ?_
    | with_reducible refine Runs.pure ?_
    | ((with_reducible refine ld18 ?_ ?_ ?_); (exact o10 k (by decide) (by simp only [BitVec.toNat_ofNat]; omega)); omega)
    | ((with_reducible refine ld19 ?_ ?_ ?_); (exact o11 k (by decide) (by decide) (by simp only [BitVec.toNat_ofNat]; omega)); omega)
    | ((with_reducible refine ld20 ?_ ?_ ?_); (exact o13 k (by decide) (by decide) (by simp only [BitVec.toNat_ofNat]; omega)); omega)
    | ((with_reducible refine ld1 (B := B) ?_ ?_ ?_); (exact o14 k (by decide) (by decide) _ (by simp only [BitVec.toNat_ofNat]; omega)); omega)
    | with_reducible refine Runs.ld (m := b.a21) (fun _ _ => ?_)
    | with_reducible refine Runs.ld (m := b.a22) (fun _ _ => ?_)
    | with_reducible refine Runs.ld (m := b.a23) (fun _ _ => ?_)
    | ((with_reducible refine st21e ?_ ?_ ?_ ?_); (exact o12 k (by decide) (by decide) (by simp only [BitVec.toNat_ofNat]; omega)); rfl; omega)
    | ((with_reducible refine st21o ?_ ?_ ?_ ?_); (exact o12 k (by decide) (by decide) (by simp only [BitVec.toNat_ofNat]; omega)); rfl; omega)
    | ((with_reducible refine st22e ?_ ?_ ?_ ?_); (exact o12 k (by decide) (by decide) (by simp only [BitVec.toNat_ofNat]; omega)); rfl; omega)
    | ((with_reducible refine st22o ?_ ?_ ?_ ?_); (exact o12 k (by decide) (by decide) (by simp only [BitVec.toNat_ofNat]; omega)); rfl; omega)
    | ((with_reducible refine st23e ?_ ?_ ?_); (exact o11 k (by decide) (by decide) (by simp only [BitVec.toNat_ofNat]; omega)); rfl)
    | ((with_reducible refine st23o ?_ ?_ ?_); (exact o11 k (by decide) (by decide) (by simp only [BitVec.toNat_ofNat]; omega)); rfl))
  unfold k0_part3_skel
  repeat (first
    | with_reducible refine Runs.assoc ?_
    | with_reducible refine Runs.pure ?_
    | ((with_reducible refine ld18 ?_ ?_ ?_); (exact o10 k (by decide) (by simp only [BitVec.toNat_ofNat]; omega)); omega)
    | ((with_reducible refine ld19 ?_ ?_ ?_); (exact o11 k (by decide) (by decide) (by simp only [BitVec.toNat_ofNat]; omega)); omega)
    | ((with_reducible refine ld20 ?_ ?_ ?_); (exact o13 k (by decide) (by decide) (by simp only [BitVec.toNat_ofNat]; omega)); omega)
    | ((with_reducible refine ld1 (B := B) ?_ ?_ ?_); (exact o14 k (by decide) (by decide) _ (by simp only [BitVec.toNat_ofNat]; omega)); omega)
    | with_reducible refine Runs.ld (m := b.a21) (fun _ _ => ?_)
    | with_reducible refine Runs.ld (m := b.a22) (fun _ _ => ?_)
    | with_reducible refine Runs.ld (m := b.a23) (fun _ _ => ?_)
    | ((with_reducible refine st21e ?_ ?_ ?_ ?_); (exact o12 k (by decide) (by decide) (by simp only [BitVec.toNat_ofNat]; omega)); rfl; omega)
    | ((with_reducible refine st21o ?_ ?_ ?_ ?_); (exact o12 k (by decide) (by decide) (by simp only [BitVec.toNat_ofNat]; omega)); rfl; omega)
    | ((with_reducible refine st22e ?_ ?_ ?_ ?_); (exact o12 k (by decide) (by decide) (by simp only [BitVec.toNat_ofNat]; omega)); rfl; omega)
    | ((with_reducible refine st22o ?_ ?_ ?_ ?_); (exact o12 k (by decide) (by decide) (by simp only [BitVec.toNat_ofNat]; omega)); rfl; omega)
    | ((with_reducible refine st23e ?_ ?_ ?_); (exact o11 k (by decide) (by decide) (by simp only [BitVec.toNat_ofNat]; omega)); rfl)
    | ((with_reducible refine st23o ?_ ?_ ?_); (exact o11 k (by decide) (by decide) (by simp only [BitVec.toNat_ofNat]; omega)); rfl))
  unfold k0_part4_skel
  repeat (first
    | with_reducible refine Runs.assoc ?_
    | with_reducible refine Runs.pure ?_
    | ((with_reducible refine ld18 ?_ ?_ ?_); (exact o10 k (by decide) (by simp only [BitVec.toNat_ofNat]; omega)); omega)
    | ((with_reducible refine ld19 ?_ ?_ ?_); (exact o11 k (by decide) (by decide) (by simp only [BitVec.toNat_ofNat]; omega)); omega)
    | ((with_reducible refine ld20 ?_ ?_ ?_); (exact o13 k (by decide) (by decide) (by simp only [BitVec.toNat_ofNat]; omega)); omega)
    | ((with_reducible refine ld1 (B := B) ?_ ?_ ?_); (exact o14 k (by decide) (by decide) _ (by simp only [BitVec.toNat_ofNat]; omega)); omega)
    | with_reducible refine Runs.ld (m := b.a21) (fun _ _ => ?_)
    | with_reducible refine Runs.ld (m := b.a22) (fun _ _ => ?_)
    | with_reducible refine Runs.ld (m := b.a23) (fun _ _ => ?_)
    | ((with_reducible refine st21e ?_ ?_ ?_ ?_); (exact o12 k (by decide) (by decide) (by simp only [BitVec.toNat_ofNat]; omega)); rfl; omega)
    | ((with_reducible refine st21o ?_ ?_ ?_ ?_); (exact o12 k (by decide) (by decide) (by simp only [BitVec.toNat_ofNat]; omega)); rfl; omega)
    | ((with_reducible refine st22e ?_ ?_ ?_ ?_); (exact o12 k (by decide) (by decide) (by simp only [BitVec.toNat_ofNat]; omega)); rfl; omega)
    | ((with_reducible refine st22o ?_ ?_ ?_ ?_); (exact o12 k (by decide) (by decide) (by simp only [BitVec.toNat_ofNat]; omega)); rfl; omega)
    | ((with_reducible refine st23e ?_ ?_ ?_); (exact o11 k (by decide) (by decide) (by simp only [BitVec.toNat_ofNat]; omega)); rfl)
    | ((with_reducible refine st23o ?_ ?_ ?_); (exact o11 k (by decide) (by decide) (by simp only [BitVec.toNat_ofNat]; omega)); rfl))
  unfold k0_part5_skel
  repeat (first
    | with_reducible refine Runs.assoc ?_
    | with_reducible refine Runs.pure ?_
    | ((with_reducible refine ld18 ?_ ?_ ?_); (exact o10 k (by decide) (by simp only [BitVec.toNat_ofNat]; omega)); omega)
    | ((with_reducible refine ld19 ?_ ?_ ?_); (exact o11 k (by decide) (by decide) (by simp only [BitVec.toNat_ofNat]; omega)); omega)
    | ((with_reducible refine ld20 ?_ ?_ ?_); (exact o13 k (by decide) (by decide) (by simp only [BitVec.toNat_ofNat]; omega)); omega)
    | ((with_reducible refine ld1 (B := B) ?_ ?_ ?_); (exact o14 k (by decide) (by decide) _ (by simp only [BitVec.toNat_ofNat]; omega)); omega)
    | with_reducible refine Runs.ld (m := b.a21) (fun _ _ => ?_)
    | with_reducible refine Runs.ld (m := b.a22) (fun _ _ => ?_)
    | with_reducible refine Runs.ld (m := b.a23) (fun _ _ => ?_)
    | ((with_reducible refine st21e ?_ ?_ ?_ ?_); (exact o12 k (by decide) (by decide) (by simp only [BitVec.toNat_ofNat]; omega)); rfl; omega)
    | ((with_reducible refine st21o ?_ ?_ ?_ ?_); (exact o12 k (by decide) (by decide) (by simp only [BitVec.toNat_ofNat]; omega)); rfl; omega)
    | ((with_reducible refine st22e ?_ ?_ ?_ ?_); (exact o12 k (by decide) (by decide) (by simp only [BitVec.toNat_ofNat]; omega)); rfl; omega)
    | ((with_reducible refine st22o ?_ ?_ ?_ ?_); (exact o12 k (by decide) (by decide) (by simp only [BitVec.toNat_ofNat]; omega)); rfl; omega)
    | ((with_reducible refine st23e ?_ ?_ ?_); (exact o11 k (by decide) (by decide) (by simp only [BitVec.toNat_ofNat]; omega)); rfl)
    | ((with_reducible refine st23o ?_ ?_ ?_); (exact o11 k (by decide) (by decide) (by simp only [BitVec.toNat_ofNat]; omega)); rfl))
  unfold k0_part6_skel
  repeat (first
    | with_reducible refine Runs.assoc ?_
    | with_reducible refine Runs.pure ?_
    | ((with_reducible refine ld18 ?_ ?_ ?_); (exact o10 k (by decide) (by simp only [BitVec.toNat_ofNat]; omega)); omega)
    | ((with_reducible refine ld19 ?_ ?_ ?_); (exact o11 k (by decide) (by decide) (by simp only [BitVec.toNat_ofNat]; omega)); omega)
    | ((with_reducible refine ld20 ?_ ?_ ?_); (exact o13 k (by decide) (by decide) (by simp only [BitVec.toNat_ofNat]; omega)); omega)
    | ((with_reducible refine ld1 (B := B) ?_ ?_ ?_); (exact o14 k (by decide) (by decide) _ (by simp only [BitVec.toNat_ofNat]; omega)); omega)
    | with_reducible refine Runs.ld (m := b.a21) (fun _ _ => ?_)
    | with_reducible refine Runs.ld (m := b.a22) (fun _ _ => ?_)
    | with_reducible refine Runs.ld (m := b.a23) (fun _ _ => ?_)
    | ((with_reducible refine st21e ?_ ?_ ?_ ?_); (exact o12 k (by decide) (by decide) (by simp only [BitVec.toNat_ofNat]; omega)); rfl; omega)
    | ((with_reducible refine st21o ?_ ?_ ?_ ?_); (exact o12 k (by decide) (by decide) (by simp only [BitVec.toNat_ofNat]; omega)); rfl; omega)
    | ((with_reducible refine st22e ?_ ?_ ?_ ?_); (exact o12 k (by decide) (by decide) (by simp only [BitVec.toNat_ofNat]; omega)); rfl; omega)
    | ((with_reducible refine st22o ?_ ?_ ?_ ?_); (exact o12 k (by decide) (by decide) (by simp only [BitVec.toNat_ofNat]; omega)); rfl; omega)
    | ((with_reducible refine st23e ?_ ?_ ?_); (exact o11 k (by decide) (by decide) (by simp only [BitVec.toNat_ofNat]; omega)); rfl)
    | ((with_reducible refine st23o ?_ ?_ ?_); (exact o11 k (by decide) (by decide) (by simp only [BitVec.toNat_ofNat]; omega)); rfl))
  unfold k0_part7_skel
  repeat (first
    | with_reducible refine Runs.assoc ?_
    | with_reducible refine Runs.pure ?_
    | ((with_reducible refine ld18 ?_ ?_ ?_); (exact o10 k (by decide) (by simp only [BitVec.toNat_ofNat]; omega)); omega)
    | ((with_reducible refine ld19 ?_ ?_ ?_); (exact o11 k (by decide) (by decide) (by simp only [BitVec.toNat_ofNat]; omega)); omega)
    | ((with_reducible refine ld20 ?_ ?_ ?_); (exact o13 k (by decide) (by decide) (by simp only [BitVec.toNat_ofNat]; omega)); omega)
    | ((with_reducible refine ld1 (B := B) ?_ ?_ ?_); (exact o14 k (by decide) (by decide) _ (by simp only [BitVec.toNat_ofNat]; omega)); omega)
    | with_reducible refine Runs.ld (m := b.a21) (fun _ _ => ?_)
    | with_reducible refine Runs.ld (m := b.a22) (fun _ _ => ?_)
    | with_reducible refine Runs.ld (m := b.a23) (fun _ _ => ?_)
    | ((with_reducible refine st21e ?_ ?_ ?_ ?_); (exact o12 k (by decide) (by decide) (by simp only [BitVec.toNat_ofNat]; omega)); rfl; omega)
    | ((with_reducible refine st21o ?_ ?_ ?_ ?_); (exact o12 k (by decide) (by decide) (by simp only [BitVec.toNat_ofNat]; omega)); rfl; omega)
    | ((with_reducible refine st22e ?_ ?_ ?_ ?_); (exact o12 k (by decide) (by decide) (by simp only [BitVec.toNat_ofNat]; omega)); rfl; omega)
    | ((with_reducible refine st22o ?_ ?_ ?_ ?_); (exact o12 k (by decide) (by decide) (by simp only [BitVec.toNat_ofNat]; omega)); rfl; omega)
    | ((with_reducible refine st23e ?_ ?_ ?_); (exact o11 k (by decide) (by decide) (by simp only [BitVec.toNat_ofNat]; omega)); rfl)
    | ((with_reducible refine st23o ?_ ?_ ?_); (exact o11 k (by decide) (by decide) (by simp only [BitVec.toNat_ofNat]; omega)); rfl))
  unfold k0_part8_skel
  repeat (first
    | with_reducible refine Runs.assoc ?_
    | with_reducible refine Runs.pure ?_
    | ((with_reducible refine ld18 ?_ ?_ ?_); (exact o10 k (by decide) (by simp only [BitVec.toNat_ofNat]; omega)); omega)
    | ((with_reducible refine ld19 ?_ ?_ ?_); (exact o11 k (by decide) (by decide) (by simp only [BitVec.toNat_ofNat]; omega)); omega)
    | ((with_reducible refine ld20 ?_ ?_ ?_); (exact o13 k (by decide) (by decide) (by simp only [BitVec.toNat_ofNat]; omega)); omega)
    | ((with_reducible refine ld1 (B := B) ?_ ?_ ?_); (exact o14 k (by decide) (by decide) _ (by simp only [BitVec.toNat_ofNat]; omega)); omega)
    | with_reducible refine Runs.ld (m := b.a21) (fun _ _ => ?_)
    | with_reducible refine Runs.ld (m := b.a22) (fun _ _ => ?_)
    | with_reducible refine Runs.ld (m := b.a23) (fun _ _ => ?_)
    | ((with_reducible refine st21e ?_ ?_ ?_ ?_); (exact o12 k (by decide) (by decide) (by simp only [BitVec.toNat_ofNat]; omega)); rfl; omega)
    | ((with_reducible refine st21o ?_ ?_ ?_ ?_); (exact o12 k (by decide) (by decide) (by simp only [BitVec.toNat_ofNat]; omega)); rfl; omega)
    | ((with_reducible refine st22e ?_ ?_ ?_ ?_); (exact o12 k (by decide) (by decide) (by simp only [BitVec.toNat_ofNat]; omega)); rfl; omega)
    | ((with_reducible refine st22o ?_ ?_ ?_ ?_); (exact o12 k (by decide) (by decide) (by simp only [BitVec.toNat_ofNat]; omega)); rfl; omega)
    | ((with_reducible refine st23e ?_ ?_ ?_); (exact o11 k (by decide) (by decide) (by simp only [BitVec.toNat_ofNat]; omega)); rfl)
    | ((with_reducible refine st23o ?_ ?_ ?_); (exact o11 k (by decide) (by decide) (by simp only [BitVec.toNat_ofNat]; omega)); rfl))
  unfold k0_part9_skel
  repeat (first
    | with_reducible refine Runs.assoc ?_
    | with_reducible refine Runs.pure ?_
    | ((with_reducible refine ld18 ?_ ?_ ?_); (exact o10 k (by decide) (by simp only [BitVec.toNat_ofNat]; omega)); omega)
    | ((with_reducible refine ld19 ?_ ?_ ?_); (exact o11 k (by decide) (by decide) (by simp only [BitVec.toNat_ofNat]; omega)); omega)
    | ((with_reducible refine ld20 ?_ ?_ ?_); (exact o13 k (by decide) (by decide) (by simp only [BitVec.toNat_ofNat]; omega)); omega)
    | ((with_reducible refine ld1 (B := B) ?_ ?_ ?_); (exact o14 k (by decide) (by decide) _ (by simp only [BitVec.toNat_ofNat]; omega)); omega)
    | with_reducible refine Runs.ld (m := b.a21) (fun _ _ => ?_)
    | with_reducible refine Runs.ld (m := b.a22) (fun _ _ => ?_)
    | with_reducible refine Runs.ld (m := b.a23) (fun _ _ => ?_)
    | ((with_reducible refine st21e ?_ ?_ ?_ ?_); (exact o12 k (by decide) (by decide) (by simp only [BitVec.toNat_ofNat]; omega)); rfl; omega)
    | ((with_reducible refine st21o ?_ ?_ ?_ ?_); (exact o12 k (by decide) (by decide) (by simp only [BitVec.toNat_ofNat]; omega)); rfl; omega)
    | ((with_reducible refine st22e ?_ ?_ ?_ ?_); (exact o12 k (by decide) (by decide) (by simp only [BitVec.toNat_ofNat]; omega)); rfl; omega)
    | ((with_reducible refine st22o ?_ ?_ ?_ ?_); (exact o12 k (by decide) (by decide) (by simp only [BitVec.toNat_ofNat]; omega)); rfl; omega)
    | ((with_reducible refine st23e ?_ ?_ ?_); (exact o11 k (by decide) (by decide) (by simp only [BitVec.toNat_ofNat]; omega)); rfl)
    | ((with_reducible refine st23o ?_ ?_ ?_); (exact o11 k (by decide) (by decide) (by simp only [BitVec.toNat_ofNat]; omega)); rfl))
  unfold k0_part10_skel
  repeat (first
    | with_reducible refine Runs.assoc ?_
    | with_reducible refine Runs.pure ?_
    | ((with_reducible refine ld18 ?_ ?_ ?_); (exact o10 k (by decide) (by simp only [BitVec.toNat_ofNat]; omega)); omega)
    | ((with_reducible refine ld19 ?_ ?_ ?_); (exact o11 k (by decide) (by decide) (by simp only [BitVec.toNat_ofNat]; omega)); omega)
    | ((with_reducible refine ld20 ?_ ?_ ?_); (exact o13 k (by decide) (by decide) (by simp only [BitVec.toNat_ofNat]; omega)); omega)
    | ((with_reducible refine ld1 (B := B) ?_ ?_ ?_); (exact o14 k (by decide) (by decide) _ (by simp only [BitVec.toNat_ofNat]; omega)); omega)
    | with_reducible refine Runs.ld (m := b.a21) (fun _ _ => ?_)
    | with_reducible refine Runs.ld (m := b.a22) (fun _ _ => ?_)
    | with_reducible refine Runs.ld (m := b.a23) (fun _ _ => ?_)
    | ((with_reducible refine st21e ?_ ?_ ?_ ?_); (exact o12 k (by decide) (by decide) (by simp only [BitVec.toNat_ofNat]; omega)); rfl; omega)
    | ((with_reducible refine st21o ?_ ?_ ?_ ?_); (exact o12 k (by decide) (by decide) (by simp only [BitVec.toNat_ofNat]; omega)); rfl; omega)
    | ((with_reducible refine st22e ?_ ?_ ?_ ?_); (exact o12 k (by decide) (by decide) (by simp only [BitVec.toNat_ofNat]; omega)); rfl; omega)
    | ((with_reducible refine st22o ?_ ?_ ?_ ?_); (exact o12 k (by decide) (by decide) (by simp only [BitVec.toNat_ofNat]; omega)); rfl; omega)
    | ((with_reducible refine st23e ?_ ?_ ?_); (exact o11 k (by decide) (by decide) (by simp only [BitVec.toNat_ofNat]; omega)); rfl)
    | ((with_reducible refine st23o ?_ ?_ ?_); (exact o11 k (by decide) (by decide) (by simp only [BitVec.toNat_ofNat]; omega)); rfl))
  unfold k0_part11_skel
  repeat (first
    | with_reducible refine Runs.assoc ?_
    | with_reducible refine Runs.pure ?_
    | ((with_reducible refine ld18 ?_ ?_ ?_); (exact o10 k (by decide) (by simp only [BitVec.toNat_ofNat]; omega)); omega)
    | ((with_reducible refine ld19 ?_ ?_ ?_); (exact o11 k (by decide) (by decide) (by simp only [BitVec.toNat_ofNat]; omega)); omega)
    | ((with_reducible refine ld20 ?_ ?_ ?_); (exact o13 k (by decide) (by decide) (by simp only [BitVec.toNat_ofNat]; omega)); omega)
    | ((with_reducible refine ld1 (B := B) ?_ ?_ ?_); (exact o14 k (by decide) (by decide) _ (by simp only [BitVec.toNat_ofNat]; omega)); omega)
    | with_reducible refine Runs.ld (m := b.a21) (fun _ _ => ?_)
    | with_reducible refine Runs.ld (m := b.a22) (fun _ _ => ?_)
    | with_reducible refine Runs.ld (m := b.a23) (fun _ _ => ?_)
    | ((with_reducible refine st21e ?_ ?_ ?_ ?_); (exact o12 k (by decide) (by decide) (by simp only [BitVec.toNat_ofNat]; omega)); rfl; omega)
    | ((with_reducible refine st21o ?_ ?_ ?_ ?_); (exact o12 k (by decide) (by decide) (by simp only [BitVec.toNat_ofNat]; omega)); rfl; omega)
    | ((with_reducible refine st22e ?_ ?_ ?_ ?_); (exact o12 k (by decide) (by decide) (by simp only [BitVec.toNat_ofNat]; omega)); rfl; omega)
    | ((with_reducible refine st22o ?_ ?_ ?_ ?_); (exact o12 k (by decide) (by decide) (by simp only [BitVec.toNat_ofNat]; omega)); rfl; omega)
    | ((with_reducible refine st23e ?_ ?_ ?_); (exact o11 k (by decide) (by decide) (by simp only [BitVec.toNat_ofNat]; omega)); rfl)
    | ((with_reducible refine st23o ?_ ?_ ?_); (exact o11 k (by decide) (by decide) (by simp only [BitVec.toNat_ofNat]; omega)); rfl))
  rw [show 8 * (k.val + 1) = 2 * (4 * k.val + 1 + 1 + 1 + 1) by omega]
  refine Runs.done ?_
  iintro H
  iexact H

end Cert.Proof.Sem
-- ==== Proof.Run5.lean ====
/-
  The loops that write the outputs: the products regrouped by channel and by batch.
-/
module

public import proofs.«01_k».proof.Proof.Held

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {b : Bufs} {B : Blk F} {α : Type}

/-- Trip `k` of the fifth loop. -/
theorem t5 (k : Fin k0_t5_loop.trips) (u) : Runs c b (B.I5 k.val) (k0_t5_body B.i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 B.v18 k u)
    (fun _ => St c b (B.I5 (k.val + 1))) := by
  have hk : k.val < 48 := k.isLt
  have e0 : k0_off16 k 0#32 = ![k.val, 0, 0] := (k0_off16_eq k 0).trans (by rw [show 48 * (0 : Fin 2).val + k.val = k.val by simp])
  unfold k0_t5_body
  refine Runs.ldv (m := b.a21) (v := rd2 128 B.f21 k.val 52)
    (fun X hX => R2.ld (D := fun a => a / 52 < 128 ∧ a % 52 < 48) hX (k0_off15_eq k) rfl (fun i hi => by omega)) ?_
  refine Runs.ld (m := b.a10) (fun _ _ => ?_)
  refine Runs.st (m := b.a10) (R3 (fun a => a % 48 < k.val ∨ a = k.val) B.f10)
    (fun X hX => R3.st (N := 1) (D := fun a => a % 48 < k.val) hX (o := k.val) (t := 1) e0 one3 (fun i o m => by
      have hi : i = 0 := Subsingleton.elim _ _
      subst hi
      unfold Blk.f10
      rw [if_pos (show k.val + 1 * (0 : Fin 1).val < 48 by simpa using hk)]
      rfl) (fun a ha h => by
        rcases h with h | h
        · exact .inl h
        · exact .inr ⟨0, by omega, by omega⟩)) ?_
  refine Runs.ld (m := b.a11) (fun _ _ => ?_)
  refine Runs.st (m := b.a11) (R3 (fun a => a % 48 < k.val ∨ a = k.val) B.f11)
    (fun X hX => R3.st (N := 1) (D := fun a => a % 48 < k.val) hX (o := k.val) (t := 1) e0 one3 (fun i o m => by
      have hi : i = 0 := Subsingleton.elim _ _
      subst hi
      unfold Blk.f11
      rw [if_pos (show k.val + 1 * (0 : Fin 1).val < 48 by simpa using hk)]
      rfl) (fun a ha h => by
        rcases h with h | h
        · exact .inl h
        · exact .inr ⟨0, by omega, by omega⟩)) ?_
  refine Runs.ldv (m := b.a22) (v := rd2 128 B.f22 k.val 52)
    (fun X hX => R2.ld (D := fun a => a / 52 < 128 ∧ a % 52 < 48) hX (k0_off15_eq k) rfl (fun i hi => by omega)) ?_
  refine Runs.ld (m := b.a10) (fun _ _ => ?_)
  refine Runs.st (m := b.a10) (R3 (fun a => a % 48 < k.val + 1) B.f10)
    (fun X hX => R3.st (N := 1) (D := fun a => a % 48 < k.val ∨ a = k.val) hX (o := 48 + k.val) (t := 1) (k0_off16_eq k 1) one3 (fun i o m => by
      have hi : i = 0 := Subsingleton.elim _ _
      subst hi
      have h3 : 48 + k.val + 1 * (0 : Fin 1).val - 48 = k.val := by simp
      unfold Blk.f10
      rw [if_neg (show ¬ 48 + k.val + 1 * (0 : Fin 1).val < 48 by simp), h3]) (fun a ha h => by
        by_cases h1 : a = 48 + k.val
        · exact .inr ⟨0, by omega, by omega⟩
        · exact .inl (by omega))) ?_
  refine Runs.ld (m := b.a11) (fun _ _ => ?_)
  refine Runs.st (m := b.a11) (R3 (fun a => a % 48 < k.val + 1) B.f11)
    (fun X hX => R3.st (N := 1) (D := fun a => a % 48 < k.val ∨ a = k.val) hX (o := 48 + k.val) (t := 1) (k0_off16_eq k 1) one3 (fun i o m => by
      have hi : i = 0 := Subsingleton.elim _ _
      subst hi
      have h3 : 48 + k.val + 1 * (0 : Fin 1).val - 48 = k.val := by simp
      unfold Blk.f11
      rw [if_neg (show ¬ 48 + k.val + 1 * (0 : Fin 1).val < 48 by simp), h3]) (fun a ha h => by
        by_cases h1 : a = 48 + k.val
        · exact .inr ⟨0, by omega, by omega⟩
        · exact .inl (by omega))) ?_
  refine Runs.done ?_
  iintro H
  iexact H

/-- Trip `k` of the sixth loop. -/
theorem t6 (k : Fin k0_t6_loop.trips) (u) : Runs c b (B.I6 k.val) (k0_t6_body B.i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 k u)
    (fun _ => St c b (B.I6 (k.val + 1))) := by
  have hk : k.val < 16 := k.isLt
  have e0 : k0_off17 k 0#32 = ![k.val, 0, 0] := (k0_off17_eq k 0).trans (by rw [show 16 * (0 : Fin 2).val + k.val = k.val by simp])
  have d0 : (2 * k.val + 1 * (0 : Fin 1).val) / 2 = k.val := by simp
  have d1 : (2 * k.val + 1 + 1 * (0 : Fin 1).val) / 2 = k.val := by omega
  have m0 : (2 * k.val + 1 * (0 : Fin 1).val) % 2 = 0 := by simp
  have m1 : ¬ (2 * k.val + 1 + 1 * (0 : Fin 1).val) % 2 = 0 := by omega
  unfold k0_t6_body
  rw [k0_part13_eq_skeleton]
  unfold k0_part13_skel
  refine Runs.assoc ?_
  refine Runs.ldv (m := b.a23) (v := rd3 128 B.f23 k.val 36)
    (fun X hX => R3.ld (D := fun a => a / 36 < 128 ∧ a % 36 < 32) hX e0 rfl (fun i hi => by omega)) ?_
  refine Runs.assoc ?_
  refine Runs.ld (m := b.a12) (fun _ _ => ?_)
  refine Runs.assoc ?_
  refine Runs.st (m := b.a12) (R3 (· < 2 * k.val + 1) B.f12)
    (fun X hX => R3.st (N := 1) (D := fun a => a < 2 * k.val) hX (o := 2 * k.val) (t := 1) (k0_off18_eq k) one3 (fun i o m => by
      have hi : i = 0 := Subsingleton.elim _ _
      subst hi
      unfold Blk.f12
      rw [if_pos m0, d0]) (fun a ha h => by
        by_cases h1 : a < 2 * k.val
        · exact .inl h1
        · exact .inr ⟨0, by omega, by omega⟩)) ?_
  refine Runs.assoc ?_
  refine Runs.ld (m := b.a12) (fun _ _ => ?_)
  refine Runs.assoc ?_
  refine Runs.st (m := b.a12) (R3 (· < 2 * (k.val + 1)) B.f12)
    (fun X hX => R3.st (N := 1) (D := fun a => a < 2 * k.val + 1) hX (o := 2 * k.val + 1) (t := 1) (k0_off19_eq k) one3 (fun i o m => by
      have hi : i = 0 := Subsingleton.elim _ _
      subst hi
      unfold Blk.f12
      rw [if_neg m1, d1]) (fun a ha h => by
        by_cases h1 : a < 2 * k.val + 1
        · exact .inl h1
        · exact .inr ⟨0, by omega, by omega⟩)) ?_
  refine Runs.assoc ?_
  refine Runs.ldv (m := b.a23) (v := rd3 128 B.f23 (16 + k.val) 36)
    (fun X hX => R3.ld (D := fun a => a / 36 < 128 ∧ a % 36 < 32) hX (k0_off17_eq k 1) rfl (fun i hi => by omega)) ?_
  refine Runs.pure ?_
  refine Runs.ld (m := b.a13) (fun _ _ => ?_)
  refine Runs.st (m := b.a13) (R3 (· < 2 * k.val + 1) B.f13)
    (fun X hX => R3.st (N := 1) (D := fun a => a < 2 * k.val) hX (o := 2 * k.val) (t := 1) (k0_off18_eq k) one3 (fun i o m => by
      have hi : i = 0 := Subsingleton.elim _ _
      subst hi
      unfold Blk.f13
      rw [if_pos m0, d0]) (fun a ha h => by
        by_cases h1 : a < 2 * k.val
        · exact .inl h1
        · exact .inr ⟨0, by omega, by omega⟩)) ?_
  refine Runs.ld (m := b.a13) (fun _ _ => ?_)
  refine Runs.st (m := b.a13) (R3 (· < 2 * (k.val + 1)) B.f13)
    (fun X hX => R3.st (N := 1) (D := fun a => a < 2 * k.val + 1) hX (o := 2 * k.val + 1) (t := 1) (k0_off19_eq k) one3 (fun i o m => by
      have hi : i = 0 := Subsingleton.elim _ _
      subst hi
      unfold Blk.f13
      rw [if_neg m1, d1]) (fun a ha h => by
        by_cases h1 : a < 2 * k.val + 1
        · exact .inl h1
        · exact .inr ⟨0, by omega, by omega⟩)) ?_
  refine Runs.done ?_
  iintro H
  iexact H

end Cert.Proof.Sem
-- ==== Proof.Body.lean ====
/-
  The whole body: from the inputs of a grid point to its outputs.
-/
module

public import proofs.«01_k».proof.Proof.Run1
public import proofs.«01_k».proof.Proof.Run2
public import proofs.«01_k».proof.Proof.Run4
public import proofs.«01_k».proof.Proof.Run5

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {b : Bufs} {B : Blk F} {α β : Type}

/-- A part whose value is known, run on its own. -/
theorem Runs.call {R : α → sProp (MT nD τ sig Unit (Elt F) ℕ (UU nD τ) ℕ)} {σ σ' : Preds F} {v : β}
    {p : Prog (TpuEff nD τ sig (Elt F) Λ₀ .tc) β} {k : β → Prog (TpuEff nD τ sig (Elt F) Λ₀ .tc) α}
    (hp : Runs c b σ p (fun r => iprop(⌜r = v⌝ ∗ St c b σ'))) (h : Runs c b σ' (k v) R) : Runs c b σ (p >>= k) R := by
  unfold Runs
  iintro H
  iapply (wp_call 𝒱₀ (c : Thread nD τ) none Set.univ (show St c b σ ⊢ _ from hp)) $$ H
  iintro %r ⟨%hr, H⟩
  subst hr
  iapply (show St c b σ' ⊢ _ from h)
  iexact H

theorem I1_zero : B.I1 0 = B.base := by
  unfold Blk.I1
  rw [R3.empty (fun a => by omega), R3.empty (fun a => by omega), R3.empty (fun a => by omega)]
  rfl

theorem XI_zero : B.XI 0 = fun _ => True := by
  funext X
  exact propext ⟨fun _ => trivial, fun _ p b r m h => absurd h (by omega)⟩

theorem WI_zero : B.WI 0 = fun _ => True := by
  funext X
  exact propext ⟨fun _ => trivial, fun _ p b r m h => absurd h (by omega)⟩

theorem I1_copy : B.I1 8 = B.C (B.I1 8) 0 0 := by
  unfold Blk.C
  rw [XI_zero, WI_zero]
  rfl

theorem I2_zero : B.I2 0 = B.S1 := by
  unfold Blk.I2
  rw [R2.empty (fun a => by omega)]
  rfl

theorem I3_zero : B.I3 0 = B.I2 12 := by
  unfold Blk.I3
  rw [R2.empty (fun a => by omega)]
  rfl

theorem C4_zero : B.C4 0 0 0 = B.I3 16 := by
  unfold Blk.C4
  rw [R2.empty (fun a => by omega), R2.empty (fun a => by omega), R3.empty (fun a => by omega)]
  rfl

theorem I5_zero : B.I5 0 = B.C4 128 128 128 := by
  unfold Blk.I5
  rw [R3.empty (fun a => by omega), R3.empty (fun a => by omega)]
  rfl

theorem I6_zero : B.I6 0 = B.I5 48 := by
  unfold Blk.I6
  rw [R3.empty (fun a => by omega), R3.empty (fun a => by omega)]
  rfl

/-- The body run from its inputs. -/
theorem body : Runs c b B.base (cc0_fno_bwd_skel B.i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23) (fun _ => St c b (B.I6 16)) := by
  unfold cc0_fno_bwd_skel
  refine Runs.call (run1 B.I1 I1_zero (B.I1 8) I1_copy rfl rfl rfl rfl t1) ?_
  refine ldW b.a7 (fun X hX => hX) rfl ?_
  refine Runs.ld (m := b.a17) (fun _ _ => ?_)
  refine stW rfl rfl ?_
  refine Runs.loop B.I2 I2_zero t2 (fun _ => ?_)
  refine Runs.loop B.I3 I3_zero t3 (fun _ => ?_)
  refine Runs.loop (fun k => B.C4 (8 * k) (8 * k) (8 * k)) C4_zero (t4 _) (fun _ => ?_)
  refine Runs.loop B.I5 I5_zero t5 (fun _ => ?_)
  refine Runs.loop B.I6 I6_zero t6 (fun _ => ?_)
  exact Runs.done .rfl

end Cert.Proof.Sem
-- ==== Proof.Ends.lean ====
/-
  The body on the buffers of one grid point.
-/
module

public import proofs.«01_k».proof.Proof.Blocks
public import proofs.«01_k».proof.Proof.Body

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.KernelIdeal (any_of of_any any_whole whole_any)
open Idealize.ShloMosaic.Pipeline (Dat Cfg Window BodyObligation BodyObligationLoose cellOf)

local notation "𝕄" => MT nD τ sig Unit (Elt F) ℕ (UU nD τ) ℕ

variable (m : (ℓ : Loc nD τ sig) → Buf (Elt F) ℓ) (ρ : Dev nD → PrngReg)

/-- The buffers of grid point `t`. -/
abbrev bufs (t : Fin cfg0.N) : Bufs :=
  ⟨st0_0 t, hstage0_0 ((cfg0.slots t 0).cast nbuf0_0), st0_1 t, hstage0_1 ((cfg0.slots t 1).cast nbuf0_1), st0_2 t, hstage0_2 ((cfg0.slots t 2).cast nbuf0_2), st0_3 t, hstage0_3 ((cfg0.slots t 3).cast nbuf0_3), st0_4 t, hstage0_4 ((cfg0.slots t 4).cast nbuf0_4), st0_5 t, hstage0_5 ((cfg0.slots t 5).cast nbuf0_5), st0_6 t, hstage0_6 ((cfg0.slots t 6).cast nbuf0_6), st0_7 t, hstage0_7 ((cfg0.slots t 7).cast nbuf0_7), st0_8 t, hstage0_8 ((cfg0.slots t 8).cast nbuf0_8), st0_9 t, hstage0_9 ((cfg0.slots t 9).cast nbuf0_9), st0_10 t, hstage0_10 ((cfg0.slots t 10).cast nbuf0_10), st0_11 t, hstage0_11 ((cfg0.slots t 11).cast nbuf0_11), st0_12 t, hstage0_12 ((cfg0.slots t 12).cast nbuf0_12), st0_13 t, hstage0_13 ((cfg0.slots t 13).cast nbuf0_13), st0_14 t, hstage0_14 ((cfg0.slots t 14).cast nbuf0_14), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _⟩

/-- Contents, owned, of which nothing is said. -/
theorem any_out {c : Dev nD} {sp : Space} {s : Shape} {e : EltTy} (mm : Memref sig .tc sp s e) :
    (iprop(∃ X, owns (c : Thread nD τ) mm fullShare X) : sProp 𝕄) ⊢ ownsSat (c : Thread nD τ) mm fullShare fun _ => True :=
  any_of mm

/-- A scratch array, owned, of which nothing is said. -/
theorem any_in {c : Dev nD} (r : Ref sig .tc) :
    (iprop(∃ f : Buf (Elt F) ((c : Thread nD τ).loc r), ((c : Thread nD τ).loc r) ↦{fullShare} f) : sProp 𝕄)
      ⊢ ownsSat (c : Thread nD τ) (Memref.whole r) fullShare fun _ => True :=
  any_whole r

/-- And back. -/
theorem whole_out {c : Dev nD} (r : Ref sig .tc) :
    (ownsSat (c : Thread nD τ) (Memref.whole r) fullShare (fun _ => True) : sProp 𝕄)
      ⊢ iprop(∃ f : Buf (Elt F) ((c : Thread nD τ).loc r), ((c : Thread nD τ).loc r) ↦{fullShare} f) := whole_any r

set_option maxHeartbeats 2000000 in
/-- The body at grid point `t`, on the buffers there. -/
theorem run_at (c : Dev nD) (t : Fin cfg0.N) : iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ ownsSat (c : Thread nD τ) (st0_9 t) fullShare (fun _ => True) ∗ ownsSat (c : Thread nD τ) (st0_10 t) fullShare (fun _ => True) ∗ ownsSat (c : Thread nD τ) (st0_11 t) fullShare (fun _ => True) ∗ ownsSat (c : Thread nD τ) (st0_12 t) fullShare (fun _ => True) ∗ ownsSat (c : Thread nD τ) (st0_13 t) fullShare (fun _ => True) ∗ ownsSat (c : Thread nD τ) (st0_14 t) fullShare (fun _ => True) ∗ ownsSat (c : Thread nD τ) (Memref.whole cc0_scratch0) fullShare (fun _ => True) ∗ ownsSat (c : Thread nD τ) (Memref.whole cc0_scratch1) fullShare (fun _ => True) ∗ ownsSat (c : Thread nD τ) (Memref.whole cc0_scratch2) fullShare (fun _ => True) ∗ ownsSat (c : Thread nD τ) (Memref.whole cc0_scratch3) fullShare (fun _ => True) ∗ ownsSat (c : Thread nD τ) (Memref.whole cc0_scratch4) fullShare (fun _ => True) ∗ ownsSat (c : Thread nD τ) (Memref.whole cc0_scratch5) fullShare (fun _ => True) ∗ ownsSat (c : Thread nD τ) (Memref.whole cc0_scratch6) fullShare (fun _ => True) ∗ ownsSat (c : Thread nD τ) (Memref.whole cc0_scratch7) fullShare (fun _ => True) : sProp 𝕄) ⊢ wp frame (wpE (defs₀ (F := F)) 𝒱₀ (c : Thread nD τ) none) Set.univ (bodyAt0 t) (fun _ => iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (arr3 (blk m c t).f10) ∗ owns (c : Thread nD τ) (st0_10 t) fullShare (arr3 (blk m c t).f11) ∗ owns (c : Thread nD τ) (st0_11 t) fullShare (arr3 (blk m c t).f12) ∗ owns (c : Thread nD τ) (st0_12 t) fullShare (arr3 (blk m c t).f13) ∗ owns (c : Thread nD τ) (st0_13 t) fullShare (arr3 (blk m c t).f14) ∗ owns (c : Thread nD τ) (st0_14 t) fullShare (arr3 (blk m c t).f15) ∗ ownsSat (c : Thread nD τ) (Memref.whole cc0_scratch0) fullShare (fun _ => True) ∗ ownsSat (c : Thread nD τ) (Memref.whole cc0_scratch1) fullShare (fun _ => True) ∗ ownsSat (c : Thread nD τ) (Memref.whole cc0_scratch2) fullShare (fun _ => True) ∗ ownsSat (c : Thread nD τ) (Memref.whole cc0_scratch3) fullShare (fun _ => True) ∗ ownsSat (c : Thread nD τ) (Memref.whole cc0_scratch4) fullShare (fun _ => True) ∗ ownsSat (c : Thread nD τ) (Memref.whole cc0_scratch5) fullShare (fun _ => True) ∗ ownsSat (c : Thread nD τ) (Memref.whole cc0_scratch6) fullShare (fun _ => True) ∗ ownsSat (c : Thread nD τ) (Memref.whole cc0_scratch7) fullShare (fun _ => True))) := by
  have h := body (c := c) (b := bufs t) (B := blk m c t)
  unfold Runs at h
  unfold bodyAt0
  rw [cc0_fno_bwd_eq_skeleton]
  exact (open_at c (bufs t) (blk m c t)).trans (h.trans ((wp frame (wpE (defs₀ (F := F)) 𝒱₀ (c : Thread nD τ) none) Set.univ _).mono fun _ => close_at c (bufs t) (blk m c t)))

end Cert.Proof.Sem
-- ==== Proof.At.lean ====
/-
  The body at one grid point, as the launch asks for it.
-/
module

public import proofs.«01_k».proof.Proof.Ends

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.KernelIdeal (any_of of_any any_whole whole_any)
open Idealize.ShloMosaic.Pipeline (Dat Cfg Window BodyObligation BodyObligationLoose cellOf)

local notation "𝕄" => MT nD τ sig Unit (Elt F) ℕ (UU nD τ) ℕ

variable (m : (ℓ : Loc nD τ sig) → Buf (Elt F) ℓ) (ρ : Dev nD → PrngReg)

set_option maxHeartbeats 2000000 in
/-- The body at one grid point. -/
theorem body_at (c : Dev nD) (t : Fin cfg0.N) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)))
      ⊢ wp frame (wpE (defs₀ (F := F)) 𝒱₀ (c : Thread nD τ) none) Set.univ (bodyAt0 t) (fun _ =>
        iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t))) := by
  have hΦ (u : Fin (cfg0.N + 1)) : (dats m 0 c).Φ u = iprop(Pipeline.scopedRest spec0 c ∗ ∃ r, prngReg c r) := rfl
  rw [show (dats m 0 c).owesAt () t.succ = (dats m 0 c).owesAt () t.castSucc from rfl]
  rw [hΦ, hΦ, scopedRest0_eq]
  simp only [before_0, before_1, before_2, before_3, before_4, before_5, before_6, before_7, before_8]
  rw [after_0, after_1, after_2, after_3, after_4, after_5, after_6, after_7, after_8, after_9, after_10, after_11, after_12, after_13, after_14]
  have h := run_at m c t
  iintro ⟨⟨⟨K0, K1, K2, K3, K4, K5, K6, K7⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (wp_wand frame (wpE (defs₀ (F := F)) 𝒱₀ (c : Thread nD τ) none) Set.univ) $$ [H0 H1 H2 H3 H4 H5 H6 H7 H8 H9 H10 H11 H12 H13 H14 K0 K1 K2 K3 K4 K5 K6 K7]
  · iapply h
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (any_out (st0_9 t)); iexists _; iexact H9
    isplitl [H10]; · iapply (any_out (st0_10 t)); iexists _; iexact H10
    isplitl [H11]; · iapply (any_out (st0_11 t)); iexists _; iexact H11
    isplitl [H12]; · iapply (any_out (st0_12 t)); iexists _; iexact H12
    isplitl [H13]; · iapply (any_out (st0_13 t)); iexists _; iexact H13
    isplitl [H14]; · iapply (any_out (st0_14 t)); iexists _; iexact H14
    isplitl [K0]; · iapply (any_in cc0_scratch0); iexact K0
    isplitl [K1]; · iapply (any_in cc0_scratch1); iexact K1
    isplitl [K2]; · iapply (any_in cc0_scratch2); iexact K2
    isplitl [K3]; · iapply (any_in cc0_scratch3); iexact K3
    isplitl [K4]; · iapply (any_in cc0_scratch4); iexact K4
    isplitl [K5]; · iapply (any_in cc0_scratch5); iexact K5
    isplitl [K6]; · iapply (any_in cc0_scratch6); iexact K6
    iapply (any_in cc0_scratch7); iexact K7
  · iintro %u H
    icases H with ⟨H0, H1, H2, H3, H4, H5, H6, H7, H8, H9, H10, H11, H12, H13, H14, K0, K1, K2, K3, K4, K5, K6, K7⟩
    isplitl [K0 K1 K2 K3 K4 K5 K6 K7 Hr]
    · isplitl [K0 K1 K2 K3 K4 K5 K6 K7]
      · isplitl [K0]; · iapply (whole_out cc0_scratch0); iexact K0
        isplitl [K1]; · iapply (whole_out cc0_scratch1); iexact K1
        isplitl [K2]; · iapply (whole_out cc0_scratch2); iexact K2
        isplitl [K3]; · iapply (whole_out cc0_scratch3); iexact K3
        isplitl [K4]; · iapply (whole_out cc0_scratch4); iexact K4
        isplitl [K5]; · iapply (whole_out cc0_scratch5); iexact K5
        isplitl [K6]; · iapply (whole_out cc0_scratch6); iexact K6
        iapply (whole_out cc0_scratch7); iexact K7
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body's obligation. -/
theorem body_obligation (c : Dev nD) : BodyObligation (dats (F := F) m 0 c) (defs₀ (F := F)) 𝒱₀ () Set.univ := fun t => by
  rw [bigSep_W0, bigSep_W0]
  exact body_at m c t

end Cert.Proof.Sem
-- ==== Proof.Launch.lean ====
/-
  The launch of the ideal program.
-/
module

public import proofs.«01_k».proof.Proof.At

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.KernelIdeal (any_of of_any any_whole whole_any)
open Idealize.ShloMosaic.Pipeline (Dat Cfg Window BodyObligation BodyObligationLoose cellOf)

local notation "𝕄" => MT nD τ sig Unit (Elt F) ℕ (UU nD τ) ℕ

variable (m : (ℓ : Loc nD τ sig) → Buf (Elt F) ℓ) (ρ : Dev nD → PrngReg)

set_option backward.isDefEq.respectTransparency.types false in
set_option maxHeartbeats 800000 in
/-- The program runs to its end: the output arrays hold what the body left, and the lines after it have been run. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

end Cert.Proof.Sem
-- ==== Proof.Dyh.lean ====
/-
  The gradient's spectrum of one block, at the ideal instance: a sum over the 2048 positions, times the mode's factor.
-/
module

public import proofs.«01_k».proof.Proof.Blocks
public import Idealize.ShloMosaic.Lib.Pointwise

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The factor of mode `M`: one part in 2048 for the first, two for the others. -/
def fac (M : ℕ) : EReal := Ideal.div (if M = 0 then 1 else Ideal.ofBits .f32 1073741824#32) (Ideal.ofBits .f32 1157627904#32)

/-- A mode is the first when its number is zero. -/
theorem first_iff (i : Fin 6) (l : Fin 128) :
    IntOp.cmpi .eq (IntOp.addi (BitVec.ofNat 32 l.val) (Scalar.muli (BitVec.ofNat 32 i.val) 128#32)) 0#32 = if 128 * i.val + l.val = 0 then 1#1 else 0#1 := by
  revert i l
  decide +kernel

/-- The factor of a mode, with the gradient's scale. -/
theorem coef_apply (B : Blk Ideal) (l : Fin 128) :
    B.coef (ix2 0 l) = B.dys * fac (128 * (B.i 0).val + l.val) := by
  unfold Blk.coef
  unfold k0_pay86
  pointwise
  erw [first_iff (B.i 0) l]
  unfold fac
  split <;> rfl

/-- The two parts of the basis, side by side. -/
theorem ff_lo (B : Blk Ideal) (n : Fin 2048) (l : Fin 128) (h : l.val < 256) : B.ff (ix2 n ⟨l.val, h⟩) = B.x9 (ix4 0 0 n l) := by
  unfold Blk.ff
  unfold k0_pay88
  pointwise
  rfl

theorem ff_hi (B : Blk Ideal) (n : Fin 2048) (l : Fin 128) (h : 128 + l.val < 256) : B.ff (ix2 n ⟨128 + l.val, h⟩) = B.x9 (ix4 0 1 n l) := by
  unfold Blk.ff
  unfold k0_pay88
  pointwise
  rfl

/-- The batches of the gradient. -/
theorem v8_apply (B : Blk Ideal) (a : ℕ) (ha : a < 32) (o : Fin 64) (n : Fin 2048) : B.v8 (a / 4) (ix3 (Fin.ofNat 4 a) o n) = B.x8 (ix3 ⟨a, ha⟩ o n) := by
  have e : (Fin.ofNat 32 (4 * (a / 4) + 1 * (Fin.ofNat 4 a).val)) = (⟨a, ha⟩ : Fin 32) := by
    apply Fin.ext
    simp only [Fin.ofNat]
    omega
  show B.x8 (ix3 (Fin.ofNat 32 (4 * (a / 4) + 1 * (Fin.ofNat 4 a).val)) o n) = _
  rw [e]

/-- One element of the spectrum of a block: part `p`, batch `a`, output `o`, mode `l`. -/
def spec (B : Blk Ideal) (p : Fin 2) (a : Fin 32) (o : Fin 64) (l : Fin 128) : EReal :=
  (∑ n : Fin 2048, B.x8 (ix3 a o n) * B.x9 (ix4 0 p n l)) * (B.dys * fac (128 * (B.i 0).val + l.val))

/-- The real part. -/
theorem f14_apply (B : Blk Ideal) (a : ℕ) (ha : a < 32) (o : Fin 64) (l : Fin 128) : B.f14 a o l = spec B 0 ⟨a, ha⟩ o l := by
  unfold Blk.f14
  unfold k0_pay17 k0_pay15 k0_pay14
  pointwise
  rw [coef_apply]
  simp only [v8_apply B a ha, ff_lo]
  rfl

/-- The imaginary part. -/
theorem f15_apply (B : Blk Ideal) (a : ℕ) (ha : a < 32) (o : Fin 64) (l : Fin 128) : B.f15 a o l = spec B 1 ⟨a, ha⟩ o l := by
  unfold Blk.f15
  unfold k0_pay18 k0_pay16 k0_pay14
  pointwise
  rw [coef_apply]
  simp only [v8_apply B a ha, ff_hi]
  rfl

end Cert.Proof.Sem
-- ==== Proof.Spectrum.lean ====
/-
  The gradient's spectrum in the output arrays, over the arguments.
-/
module

public import proofs.«01_k».proof.Proof.Launch
public import proofs.«01_k».proof.Proof.Dyh
public import Idealize.ShloMosaic.Lib.Pipeline.ValueKit

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window)

variable (m : (ℓ : Loc nD τ sig) → Buf (Elt Ideal) ℓ) (ρ : Dev nD → PrngReg)

theorem idx_1 : ∀ t : Fin cfg0.N, win0_1.index t = ![0] := (by decide +kernel : ∀ t : Fin grid0.N, _)
theorem idx_7 : ∀ t : Fin cfg0.N, win0_7.index t = ![0, 0, 0] := (by decide +kernel : ∀ t : Fin grid0.N, _)
theorem idx_8 : ∀ t : Fin cfg0.N, win0_8.index t = ![t.val, 0, 0, 0] := (by decide +kernel : ∀ t : Fin grid0.N, _)
theorem idx_13 : ∀ t : Fin cfg0.N, win0_13.index t = ![0, 0, t.val] := (by decide +kernel : ∀ t : Fin grid0.N, _)
theorem idx_14 : ∀ t : Fin cfg0.N, win0_14.index t = ![0, 0, t.val] := (by decide +kernel : ∀ t : Fin grid0.N, _)
theorem coord : ∀ t : Fin cfg0.N, ((grid0.coords t) 0).val = t.val := (by decide +kernel : ∀ t : Fin grid0.N, _)

/-- The grid point of mode `M`. -/
def pt (M : Fin 768) : Fin cfg0.N := ⟨M.val / 128, by have := M.isLt; show M.val / 128 < 6; omega⟩

/-- The lane of mode `M`. -/
def lane (M : Fin 768) : Fin 128 := ⟨M.val % 128, by omega⟩

/-- The arrays the program prepares before the launch, of the gradient's part. -/
theorem V_main_v4 (c : Dev nD) : V m c main_v4 = transpose S32x64x2048 [0, 2, 1] (m ((c : Thread nD τ).loc main_arg6)) transposes_S32x2048x64_S32x64x2048_0_2_1 := by
  entry_read
  rfl

theorem V_main_v7 (c : Dev nD) : V m c main_v7 = transpose S6x2x2048x128 [2, 0, 1, 3] (shapeCast S2x2048x6x128 (transpose S2x2048x768 [0, 2, 1] (m ((c : Thread nD τ).loc main_arg8)) transposes_S2x768x2048_S2x2048x768_0_2_1) shapeCasts_S2x2048x768_S2x2048x6x128) transposes_S2x2048x6x128_S6x2x2048x128_2_0_1_3 := by
  entry_read
  rfl

theorem V_main_v8 (c : Dev nD) : V m c main_v8 = shapeCast S1 (m ((c : Thread nD τ).loc main_arg7)) shapeCasts_S_S1 := by
  entry_read
  rfl

/-- The first spectrum array. -/
theorem fin13 (c : Dev nD) : (dats m 0 c).arrAt 13 cfg0.N = fun j => spec (blk m c (pt (j 2))) 0 (j 0) (j 1) (lane (j 2)) := by
  refine (dats m 0 c).arrAt_eq_of_covers 13 _ (by decide +kernel) fun t hf y => ?_
  rw [after_13]
  blk_simp [idx_13 t]
  idx_bounds y
  have e0 : (win0_13.blk t).view.emb y 0 = (y 0 : Fin 32) := Fin.ext (by blk_simp [idx_13 t])
  have e1 : (win0_13.blk t).view.emb y 1 = (y 1 : Fin 64) := Fin.ext (by blk_simp [idx_13 t])
  have e2 : ((win0_13.blk t).view.emb y 2).val = t.val * 128 + (y 2).val := by blk_simp [idx_13 t]
  have hp : pt ((win0_13.blk t).view.emb y 2) = t := Fin.ext (by show ((win0_13.blk t).view.emb y 2).val / 128 = t.val; rw [e2]; omega)
  have hl : lane ((win0_13.blk t).view.emb y 2) = (y 2 : Fin 128) := Fin.ext (by show ((win0_13.blk t).view.emb y 2).val % 128 = (y 2).val; rw [e2]; omega)
  rw [e0, e1, hp, hl]
  exact f14_apply (blk m c t) (y 0).val (y 0).isLt (y 1) (y 2)

/-- The second spectrum array. -/
theorem fin14 (c : Dev nD) : (dats m 0 c).arrAt 14 cfg0.N = fun j => spec (blk m c (pt (j 2))) 1 (j 0) (j 1) (lane (j 2)) := by
  refine (dats m 0 c).arrAt_eq_of_covers 14 _ (by decide +kernel) fun t hf y => ?_
  rw [after_14]
  blk_simp [idx_14 t]
  idx_bounds y
  have e0 : (win0_14.blk t).view.emb y 0 = (y 0 : Fin 32) := Fin.ext (by blk_simp [idx_14 t])
  have e1 : (win0_14.blk t).view.emb y 1 = (y 1 : Fin 64) := Fin.ext (by blk_simp [idx_14 t])
  have e2 : ((win0_14.blk t).view.emb y 2).val = t.val * 128 + (y 2).val := by blk_simp [idx_14 t]
  have hp : pt ((win0_14.blk t).view.emb y 2) = t := Fin.ext (by show ((win0_14.blk t).view.emb y 2).val / 128 = t.val; rw [e2]; omega)
  have hl : lane ((win0_14.blk t).view.emb y 2) = (y 2 : Fin 128) := Fin.ext (by show ((win0_14.blk t).view.emb y 2).val % 128 = (y 2).val; rw [e2]; omega)
  rw [e0, e1, hp, hl]
  exact f15_apply (blk m c t) (y 0).val (y 0).isLt (y 1) (y 2)

/-- The gradient of one block. -/
theorem x8_eq (c : Dev nD) (t : Fin cfg0.N) (a : Fin 32) (o : Fin 64) (n : Fin 2048) :
    (blk m c t).x8 (ix3 a o n) = m ((c : Thread nD τ).loc main_arg6) (ix3 a n o) := by
  show V m c main_v4 ((win0_7.blk t).view.emb (ix3 a o n)) = _
  have e : (win0_7.blk t).view.emb (ix3 a o n) = ix3 a o n := by blk_ext [idx_7 t]
  rw [e, V_main_v4]
  pointwise

/-- The basis of one block. -/
theorem x9_eq (c : Dev nD) (M : Fin 768) (p : Fin 2) (n : Fin 2048) :
    (blk m c (pt M)).x9 (ix4 0 p n (lane M)) = m ((c : Thread nD τ).loc main_arg8) (ix3 p M n) := by
  show V m c main_v7 ((win0_8.blk (pt M)).view.emb (ix4 0 p n (lane M))) = _
  have e : (win0_8.blk (pt M)).view.emb (ix4 0 p n (lane M)) = ix4 (⟨(pt M).val, (pt M).isLt⟩ : Fin 6) p n (lane M) := by blk_ext [idx_8 (pt M)]
  rw [e, V_main_v7]
  pointwise
  have e : (⟨(pt M).val * 128 + (lane M).val, by have := M.isLt; show M.val / 128 * 128 + M.val % 128 < 768; omega⟩ : Fin 768) = M := Fin.ext (by show M.val / 128 * 128 + M.val % 128 = M.val; omega)
  rw [e]

/-- The scale of the gradient. -/
theorem x2_eq (c : Dev nD) (t : Fin cfg0.N) :
    (blk m c t).dys = m ((c : Thread nD τ).loc main_arg7) (fun k => k.elim0) := by
  show V m c main_v8 ((win0_1.blk t).view.emb (ix1 0)) = _
  rw [V_main_v8]
  unfold shapeCast
  exact congrArg _ (funext fun k => k.elim0)

/-- One element of the spectrum over the arguments: part `p`, batch `a`, output `o`, mode `M`. -/
def spectrum (dy : Vec Ideal S32x2048x64 .fp8e5m2) (s : Vec Ideal S_ .f32) (ft : Vec Ideal S2x768x2048 .bf16) (p : Fin 2) (a : Fin 32) (o : Fin 64) (M : Fin 768) : EReal :=
  (∑ n : Fin 2048, dy (ix3 a n o) * ft (ix3 p M n)) * (s (fun k => k.elim0) * fac M.val)

/-- The spectrum of a block is the spectrum at the block's modes. -/
theorem spec_eq (c : Dev nD) (p : Fin 2) (a : Fin 32) (o : Fin 64) (M : Fin 768) :
    spec (blk m c (pt M)) p a o (lane M)
      = spectrum (m ((c : Thread nD τ).loc main_arg6)) (m ((c : Thread nD τ).loc main_arg7)) (m ((c : Thread nD τ).loc main_arg8)) p a o M := by
  unfold spec spectrum
  simp only [x8_eq, x9_eq, x2_eq]
  have e : 128 * ((blk m c (pt M)).i 0).val + (lane M).val = M.val := by
    show 128 * ((grid0.coords (pt M)) 0).val + M.val % 128 = M.val
    rw [coord]
    show 128 * (M.val / 128) + M.val % 128 = M.val
    omega
  rw [e]
  rfl

end Cert.Proof.Sem
-- ==== Proof.Grad.lean ====
/-
  The rows of the spectrum that the products read, at the ideal instance.
-/
module

public import proofs.«01_k».proof.Proof.Dyh
public import Idealize.ShloMosaic.Lib.BitcastFour
public import Idealize.ShloMosaic.Lib.Pointwise

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Byte `k` of a word. -/
def byteOf (w : BitVec 32) (k : ℕ) : BitVec 8 := w.extractLsb' (8 * k) 8

/-- Words read at eight bits: row `p` of a column is byte `p % 4` of word `p / 4`. -/
theorem unbyte {R r n : ℕ} (x : (⟨2, ![r, n]⟩ : Shape).Idx → BitVec 32) (h : (⟨2, ![r, n]⟩ : Shape).Bitcasts 32 ⟨2, ![R, n]⟩ 8)
    (p : Fin R) (l : Fin n) (a : Fin r) (hp : a.val = p.val / 4) :
    bitcast ⟨2, ![R, n]⟩ 8 x h (ix2 p l) = byteOf (x (ix2 a l)) (p.val % 4) := by
  apply BitVec.eq_of_getLsbD_eq
  intro i hi
  rw [bitcast_getLsbD x h _ i hi (by decide)]
  unfold byteOf
  rw [BitVec.getLsbD_extractLsb']
  have e1 : (p.val * 8 + i) / 32 = a.val := by omega
  have e2 : (p.val * 8 + i) % 32 = 8 * (p.val % 4) + i := by omega
  have hrow : (⟨2, ![R, n]⟩ : Shape).row (ix2 p l) = p.val := rfl
  simp only [hi, decide_true, Bool.true_and]
  congr 1
  · congr 1
    funext c
    match c with
    | ⟨0, _⟩ => exact Fin.ext ((h.srcIdx_row _ _ _ ⟨0, Nat.zero_lt_two⟩ rfl).trans (by rw [hrow]; exact e1))
    | ⟨1, _⟩ => exact Fin.ext (h.srcIdx_other _ _ _ ⟨1, Nat.one_lt_two⟩ (by show ¬ 1 + 2 = 2; omega))

/-- A byte of the word that four rows of a column make is one of the rows. -/
theorem byte_word {R r n : ℕ} (x : (⟨2, ![R, n]⟩ : Shape).Idx → BitVec 8) (h : (⟨2, ![R, n]⟩ : Shape).Bitcasts 8 ⟨2, ![r, n]⟩ 32)
    (a : Fin r) (l : Fin n) (k : ℕ) (hk : k < 4) (p : Fin R) (hp : p.val = 4 * a.val + k) :
    byteOf (bitcast ⟨2, ![r, n]⟩ 32 x h (ix2 a l)) k = x (ix2 p l) := by
  apply BitVec.eq_of_getLsbD_eq
  intro i hi
  unfold byteOf
  have e : (8 * k + i) % 8 = i := by omega
  have e' : (bitcast ⟨2, ![r, n]⟩ 32 x h (ix2 a l)).getLsbD (8 * k + i) = (x (ix2 p l)).getLsbD ((8 * k + i) % 8) :=
    bitcast_8_32_getLsbD_ix2 x h a l (8 * k + i) (by omega) p (by omega)
  rw [BitVec.getLsbD_extractLsb', e', e]
  simp only [hi, decide_true, Bool.true_and]

/-- A byte of the packed `x`. -/
theorem byte_x (X : Vec Ideal S1x96x128 .i8) (r : Fin 24) (l : Fin 128) (k : ℕ) (hk : k < 4) (p : Fin 96) (hp : p.val = 4 * r.val + k) :
    byteOf (k0_pay91 (F := Ideal) X (ix3 0 r l)) k = X (ix3 0 p l) := by
  unfold k0_pay91
  pointwise
  refine (byte_word (shapeCast S96x128 X shapeCasts_S1x96x128_S96x128) bitcasts_S96x128_w8_S24x128_w32 r l k hk p hp).trans ?_
  pointwise

/-- A byte of the packed weights. -/
theorem byte_w (X : Vec Ideal S1x64x128 .i8) (r : Fin 16) (l : Fin 128) (k : ℕ) (hk : k < 4) (p : Fin 64) (hp : p.val = 4 * r.val + k) :
    byteOf (k0_pay1 (F := Ideal) X (ix3 0 r l)) k = X (ix3 0 p l) := by
  unfold k0_pay1
  pointwise
  refine (byte_word (shapeCast S64x128 X shapeCasts_S1x64x128_S64x128) bitcasts_S64x128_w8_S16x128_w32 r l k hk p hp).trans ?_
  pointwise

/-- The spectrum of a block at natural numbers. -/
def sp (B : Blk Ideal) (q b o : ℕ) (m : Fin 128) : EReal := spec B (Fin.ofNat 2 q) (Fin.ofNat 32 b) (Fin.ofNat 64 o) m

/-- The spectrum at numbers that are its indices. -/
theorem sp_eq (B : Blk Ideal) (q' : Fin 2) (b' : Fin 32) (o' : Fin 64) (m : Fin 128) (q b o : ℕ) (hq : q'.val = q) (hb : b'.val = b) (ho : o'.val = o) :
    spec B q' b' o' m = sp B q b o m := by
  subst hq hb ho
  unfold sp
  rw [Fin.ofNat_val_eq_self, Fin.ofNat_val_eq_self, Fin.ofNat_val_eq_self]

/-- Row `s` of a mode's spectrum: the real part beside the imaginary part, then the imaginary part beside the negated real part. -/
def row (B : Blk Ideal) (s l : ℕ) (m : Fin 128) : EReal :=
  if s < 32 then sp B (l / 64) s (l % 64) m else if l < 64 then sp B 1 (s - 32) l m else - sp B 0 (s - 32) (l - 64) m

/-- Four batches of the gradient. -/
theorem v8_at (B : Blk Ideal) (n : ℕ) (hn : n < 8) (a : Fin 4) (o : Fin 64) (k : Fin 2048) : B.v8 n (ix3 a o k) = B.x8 (ix3 ⟨4 * n + a.val, by omega⟩ o k) := by
  have e : (Fin.ofNat 32 (4 * n + 1 * a.val)) = (⟨4 * n + a.val, by omega⟩ : Fin 32) := by
    apply Fin.ext
    simp only [Fin.ofNat]
    omega
  show B.x8 (ix3 (Fin.ofNat 32 (4 * n + 1 * a.val)) o k) = _
  rw [e]

/-- The real part of four batches. -/
theorem p15_at (B : Blk Ideal) (n : ℕ) (hn : n < 8) (a : Fin 4) (o : Fin 64) (m : Fin 128) (b : ℕ) (hb : b = 4 * n + a.val) (o' : ℕ) (ho : o.val = o') :
    k0_pay15 B.coef B.ff (B.v8 n) (ix3 a o m) = sp B 0 b o' m := by
  rw [← sp_eq B 0 ⟨4 * n + a.val, by omega⟩ o m 0 b o' rfl hb.symm ho]
  unfold k0_pay15 k0_pay14
  pointwise
  rw [coef_apply]
  simp only [v8_at B n hn, ff_lo]
  rfl

/-- The imaginary part of four batches. -/
theorem p16_at (B : Blk Ideal) (n : ℕ) (hn : n < 8) (a : Fin 4) (o : Fin 64) (m : Fin 128) (b : ℕ) (hb : b = 4 * n + a.val) (o' : ℕ) (ho : o.val = o') :
    k0_pay16 B.coef B.ff (B.v8 n) (ix3 a o m) = sp B 1 b o' m := by
  rw [← sp_eq B 1 ⟨4 * n + a.val, by omega⟩ o m 1 b o' rfl hb.symm ho]
  unfold k0_pay16 k0_pay14
  pointwise
  rw [coef_apply]
  simp only [v8_at B n hn, ff_hi]
  rfl

/-- The first half of the rows, four batches at a time, two of them in a row. -/
theorem rows_lo (B : Blk Ideal) (n : ℕ) (hn : n < 8) (a a' : Fin 4) (m : Fin 128) (h : Fin 2) (l : Fin 128) (s : ℕ)
    (ha : h.val = 0 → s = 4 * n + a.val) (ha' : h.val = 1 → s = 4 * n + a'.val) :
    (if h.val % 2 = 0 then
      if hl : l.val < 64 then k0_pay15 B.coef B.ff (B.v8 n) (ix3 a ⟨l.val, hl⟩ m) else k0_pay16 B.coef B.ff (B.v8 n) (ix3 a ⟨l.val - 64, by omega⟩ m)
    else
      if hl : l.val < 64 then k0_pay15 B.coef B.ff (B.v8 n) (ix3 a' ⟨l.val, hl⟩ m) else k0_pay16 B.coef B.ff (B.v8 n) (ix3 a' ⟨l.val - 64, by omega⟩ m))
      = sp B (l.val / 64) s (l.val % 64) m := by
  by_cases hl : l.val < 64
  · have e : l.val / 64 = 0 := by omega
    by_cases hh : h.val % 2 = 0
    · simp only [hl, hh, dif_pos, if_true, e]
      exact p15_at B n hn a _ m s (ha (by omega)) _ (by show l.val = l.val % 64; omega)
    · simp only [hl, hh, dif_pos, if_false, e]
      exact p15_at B n hn a' _ m s (ha' (by omega)) _ (by show l.val = l.val % 64; omega)
  · have e : l.val / 64 = 1 := by omega
    by_cases hh : h.val % 2 = 0
    · simp only [hl, hh, dif_neg, not_false_eq_true, if_true, e]
      exact p16_at B n hn a _ m s (ha (by omega)) _ (by show l.val - 64 = l.val % 64; omega)
    · simp only [hl, hh, dif_neg, not_false_eq_true, if_false, e]
      exact p16_at B n hn a' _ m s (ha' (by omega)) _ (by show l.val - 64 = l.val % 64; omega)

/-- The second half of the rows. -/
theorem rows_hi (B : Blk Ideal) (n : ℕ) (hn : n < 8) (a a' : Fin 4) (m : Fin 128) (h : Fin 2) (l : Fin 128) (s : ℕ)
    (ha : h.val = 0 → s = 4 * n + a.val) (ha' : h.val = 1 → s = 4 * n + a'.val) :
    (if h.val % 2 = 0 then
      if hl : l.val < 64 then k0_pay16 B.coef B.ff (B.v8 n) (ix3 a ⟨l.val, hl⟩ m) else 0 - k0_pay15 B.coef B.ff (B.v8 n) (ix3 a ⟨l.val - 64, by omega⟩ m)
    else
      if hl : l.val < 64 then k0_pay16 B.coef B.ff (B.v8 n) (ix3 a' ⟨l.val, hl⟩ m) else 0 - k0_pay15 B.coef B.ff (B.v8 n) (ix3 a' ⟨l.val - 64, by omega⟩ m))
      = (if l.val < 64 then sp B 1 s l.val m else - sp B 0 s (l.val - 64) m : EReal) := by
  by_cases hl : l.val < 64
  · by_cases hh : h.val % 2 = 0
    · simp only [hl, hh, dif_pos, if_true]
      exact p16_at B n hn a _ m s (ha (by omega)) _ rfl
    · simp only [hl, hh, dif_pos, if_true, if_false]
      exact p16_at B n hn a' _ m s (ha' (by omega)) _ rfl
  · by_cases hh : h.val % 2 = 0
    · simp only [hl, hh, dif_neg, not_false_eq_true, if_true, if_false]
      exact (zero_sub (_ : EReal)).trans (congrArg (fun x : EReal => -x) (p15_at B n hn a _ m s (ha (by omega)) _ rfl))
    · simp only [hl, hh, dif_neg, not_false_eq_true, if_false]
      exact (zero_sub (_ : EReal)).trans (congrArg (fun x : EReal => -x) (p15_at B n hn a' _ m s (ha' (by omega)) _ rfl))

/-- A row of every mode's spectrum. -/
theorem y19_at (B : Blk Ideal) (R : ℕ) (hR : R < 32) (m : Fin 128) (h : Fin 2) (l : Fin 128) : B.y19 R (ix3 m h l) = row B (2 * R + h.val) l.val m := by
  unfold Blk.y19 row
  by_cases h16 : R < 16
  · have hs : 2 * R + h.val < 32 := by omega
    by_cases h2 : R % 2 = 0
    · simp only [h16, h2, hs, if_true]
      unfold k0_pay22 k0_pay19 k0_pay20
      pointwise
      exact rows_lo B (R / 2) (by omega) 0 1 m h l _ (fun e => by show _ = 4 * (R / 2) + 0; omega) (fun e => by show _ = 4 * (R / 2) + 1; omega)
    · simp only [h16, h2, hs, if_true, if_false]
      unfold k0_pay89 k0_pay24 k0_pay25 Blk.p15 Blk.p16
      pointwise
      exact rows_lo B (R / 2) (by omega) 2 3 m h l _ (fun e => by show _ = 4 * (R / 2) + 2; omega) (fun e => by show _ = 4 * (R / 2) + 3; omega)
  · have hs : ¬ 2 * R + h.val < 32 := by omega
    by_cases h2 : R % 2 = 0
    · simp only [h16, h2, hs, if_true, if_false]
      unfold k0_pay23 k0_pay21 Blk.p15 Blk.p16
      pointwise
      exact rows_hi B ((R - 16) / 2) (by omega) 0 1 m h l _ (fun e => by show _ = 4 * ((R - 16) / 2) + 0; omega) (fun e => by show _ = 4 * ((R - 16) / 2) + 1; omega)
    · simp only [h16, h2, hs, if_false]
      unfold k0_pay90 k0_pay26 k0_pay27 k0_pay28 Blk.p15 Blk.p16
      pointwise
      exact rows_hi B ((R - 16) / 2) (by omega) 2 3 m h l _ (fun e => by show _ = 4 * ((R - 16) / 2) + 2; omega) (fun e => by show _ = 4 * ((R - 16) / 2) + 3; omega)

/-- The spectrum of mode `n`, row by row. -/
theorem yt_at (B : Blk Ideal) (n : Fin 128) (R : Fin 32) (h : Fin 2) (l : Fin 128) : B.yt n.val (ix3 R h l) = row B (2 * R.val + h.val) l.val n := by
  have e1 : (36 * n.val + 1 * R.val) % 36 = R.val := by omega
  have e2 : Fin.ofNat 128 ((36 * n.val + 1 * R.val) / 36) = n := by
    apply Fin.ext
    simp only [Fin.ofNat]
    omega
  show B.y19 ((36 * n.val + 1 * R.val) % 36) (ix3 (Fin.ofNat 128 ((36 * n.val + 1 * R.val) / 36)) h l) = _
  rw [e1, e2, y19_at B R.val R.isLt]

/-- The rows that the products read. -/
theorem y30_at (B : Blk Ideal) (n : Fin 128) (s : Fin 64) (l : Fin 128) : k0_pay30 (B.yt n.val) (ix2 s l) = row B s.val l.val n := by
  unfold k0_pay30
  pointwise
  split
  · rw [yt_at]
    congr 1
    show 2 * (s.val / 2) + 0 = s.val
    omega
  · rw [yt_at]
    congr 1
    show 2 * (s.val / 2) + 1 = s.val
    omega

/-- The code of `x`, decoded: part and batch `s`, channel `d`. -/
def xd (B : Blk Ideal) (d s : ℕ) (m : Fin 128) : EReal :=
  Ideal.ofBits .fp8e4m3 (Blk.sel B.x4 B.x5 (s / 32) (ix3 (Fin.ofNat 32 (s % 32)) (Fin.ofNat 96 d) m))

/-- The code of a weight, decoded: part and output `t`, channel `d`. -/
def wd (B : Blk Ideal) (d t : ℕ) (m : Fin 128) : EReal :=
  Ideal.ofBits .fp8e4m3 (Blk.sel B.x6 B.x7 (t / 64) (ix3 (Fin.ofNat 96 d) (Fin.ofNat 64 (t % 64)) m))

/-- A byte of a word of `x`. -/
theorem xw_byte (B : Blk Ideal) (p : ℕ) (b : Fin 32) (r : Fin 24) (m : Fin 128) (k : ℕ) (hk : k < 4) (c : ℕ) (hc : c = 4 * r.val + k) :
    byteOf (B.xw p b r m) k = Blk.sel B.x4 B.x5 p (ix3 b (Fin.ofNat 96 c) m) := by
  have e : Fin.ofNat 96 c = (⟨c, by omega⟩ : Fin 96) := by
    apply Fin.ext
    simp only [Fin.ofNat]
    omega
  rw [e]
  exact byte_x (fun j => Blk.sel B.x4 B.x5 p (ix3 b (j 1 : Fin 96) (j 2 : Fin 128))) r m k hk ⟨c, by omega⟩ hc

/-- A byte of a word of the weights. -/
theorem ww_byte (B : Blk Ideal) (p : ℕ) (d : Fin 96) (r : Fin 16) (m : Fin 128) (k : ℕ) (hk : k < 4) (c : ℕ) (hc : c = 4 * r.val + k) :
    byteOf (B.ww p d r m) k = Blk.sel B.x6 B.x7 p (ix3 d (Fin.ofNat 64 c) m) := by
  have e : Fin.ofNat 64 c = (⟨c, by omega⟩ : Fin 64) := by
    apply Fin.ext
    simp only [Fin.ofNat]
    omega
  rw [e]
  exact byte_w (fun j => Blk.sel B.x6 B.x7 p (ix3 d (j 1 : Fin 64) (j 2 : Fin 128))) r m k hk ⟨c, by omega⟩ hc

/-- A word of `x` at equal numbers. -/
theorem xw_congr (B : Blk Ideal) (n : Fin 128) (p b r p' b' r' : ℕ) (hb : b < 32) (hp : p = p') (hb' : b = b') (hr : r = r') :
    B.xw p ⟨b, hb⟩ (Fin.ofNat 24 r) n = B.xw p' (Fin.ofNat 32 b') (Fin.ofNat 24 r') n := by
  subst hp hb' hr
  congr 1
  apply Fin.ext
  simp only [Fin.ofNat]
  omega

/-- The word of `x` at lane `t`: the half of the channels, the part and the batch are the lane's. -/
theorem f18_at (B : Blk Ideal) (j : ℕ) (hj : j < 12) (n : Fin 128) (t : Fin 128) :
    B.f18 (12 * n.val + j) t = B.xw (t.val / 32 % 2) (Fin.ofNat 32 (t.val % 32)) (Fin.ofNat 24 (j + 12 * (t.val / 64))) n := by
  have e1 : (12 * n.val + j) % 12 = j := by omega
  have e2 : Fin.ofNat 128 ((12 * n.val + j) / 12) = n := by
    apply Fin.ext
    simp only [Fin.ofNat]
    omega
  unfold Blk.f18
  rw [e1, e2]
  unfold k0_pay2
  pointwise
  unfold Blk.g16
  split
  · exact xw_congr B n _ _ _ _ _ _ _ (by omega) (by omega) (by omega)
  · split
    · exact xw_congr B n _ _ _ _ _ _ _ (by omega) (by omega) (by omega)
    · split
      · exact xw_congr B n _ _ _ _ _ _ _ (by omega) (by omega) (by omega)
      · exact xw_congr B n _ _ _ _ _ _ _ (by omega) (by omega) (by omega)

/-- The decoded codes that the products of mode `n` read. -/
theorem xt_at (B : Blk Ideal) (n : Fin 128) (r : Fin 96) (a : ℕ) (ha : a < 48) (hr : r.val = 48 * (n.val % 2) + a) (t : Fin 128) :
    bitcast S96x128 8 (B.xt (n.val / 2)) bitcasts_S24x128_w32_S96x128_w8 (ix2 r t)
      = Blk.sel B.x4 B.x5 (t.val / 32 % 2) (ix3 (Fin.ofNat 32 (t.val % 32)) (Fin.ofNat 96 (48 * (t.val / 64) + a)) n) := by
  refine (unbyte (B.xt (n.val / 2)) bitcasts_S24x128_w32_S96x128_w8 r t ⟨r.val / 4, by omega⟩ rfl).trans ?_
  have e : B.xt (n.val / 2) (ix2 (⟨r.val / 4, by omega⟩ : Fin 24) t) = B.f18 (12 * n.val + a / 4) t := by
    show B.f18 (24 * (n.val / 2) + 1 * (r.val / 4)) t = _
    congr 1
    omega
  rw [e, f18_at B (a / 4) (by omega)]
  refine xw_byte B _ _ _ n _ (by omega) _ ?_
  have : (Fin.ofNat 24 (a / 4 + 12 * (t.val / 64))).val = a / 4 + 12 * (t.val / 64) := by
    simp only [Fin.ofNat]
    omega
  omega

/-- The decoded weights that the products of mode `n` read. -/
theorem wt_at (B : Blk Ideal) (n : Fin 128) (d : Fin 96) (t : Fin 128) :
    bitcast S128x128 8 (B.wt n.val) bitcasts_S32x128_w32_S128x128_w8 (ix2 t ⟨d.val, by omega⟩)
      = Blk.sel B.x6 B.x7 (t.val / 64) (ix3 d (Fin.ofNat 64 (t.val % 64)) n) := by
  refine (unbyte (B.wt n.val) bitcasts_S32x128_w32_S128x128_w8 t ⟨d.val, by omega⟩ ⟨t.val / 4, by omega⟩ rfl).trans ?_
  have e1 : (36 * n.val + 1 * (t.val / 4)) % 36 = t.val / 4 := by omega
  have e2 : Fin.ofNat 128 ((36 * n.val + 1 * (t.val / 4)) / 36) = n := by
    apply Fin.ext
    simp only [Fin.ofNat]
    omega
  have e : B.wt n.val (ix2 (⟨t.val / 4, by omega⟩ : Fin 32) (⟨d.val, by omega⟩ : Fin 128)) = B.ww (t.val / 64) d (Fin.ofNat 16 (t.val / 4 % 16)) n := by
    show B.f20 (36 * n.val + 1 * (t.val / 4)) _ = _
    unfold Blk.f20
    rw [e1, e2]
    unfold k0_pay3 k0_pay4
    pointwise
    unfold Blk.g17
    split
    · have h0 : t.val / 64 = 0 := by omega
      have h1 : t.val / 4 % 16 = t.val / 4 := by omega
      rw [h0, h1]
      rfl
    · have h0 : t.val / 64 = 1 := by omega
      have h1 : t.val / 4 % 16 = t.val / 4 - 16 := by omega
      rw [h0, h1]
      rfl
  rw [e]
  refine ww_byte B _ _ _ n _ (by omega) _ ?_
  have : (Fin.ofNat 16 (t.val / 4 % 16)).val = t.val / 4 % 16 := by
    simp only [Fin.ofNat]
    omega
  omega

/-- The decoded codes of the first half of the channels. -/
theorem x_lo (B : Blk Ideal) (n : Fin 128) (r : Fin 96) (a : ℕ) (ha : a < 48) (hr : r.val = 48 * (n.val % 2) + a) (s : Fin 64) (hs : s.val < 128) :
    Ideal.ofBits .fp8e4m3 (bitcast S96x128 8 (B.xt (n.val / 2)) bitcasts_S24x128_w32_S96x128_w8 (ix2 r ⟨s.val, hs⟩)) = xd B a s.val n := by
  rw [xt_at B n r a ha hr]
  have e1 : s.val / 32 % 2 = s.val / 32 := by omega
  have e2 : 48 * (s.val / 64) + a = a := by omega
  unfold xd
  simp only [e1, e2]

/-- The decoded codes of the second half. -/
theorem x_hi (B : Blk Ideal) (n : Fin 128) (r : Fin 96) (a : ℕ) (ha : a < 48) (hr : r.val = 48 * (n.val % 2) + a) (s : Fin 64) (hs : 64 + s.val < 128) :
    Ideal.ofBits .fp8e4m3 (bitcast S96x128 8 (B.xt (n.val / 2)) bitcasts_S24x128_w32_S96x128_w8 (ix2 r ⟨64 + s.val, hs⟩)) = xd B (48 + a) s.val n := by
  rw [xt_at B n r a ha hr]
  have e1 : (64 + s.val) / 32 % 2 = s.val / 32 := by omega
  have e2 : 48 * ((64 + s.val) / 64) + a = 48 + a := by omega
  have e3 : (64 + s.val) % 32 = s.val % 32 := by omega
  unfold xd
  simp only [e1, e2, e3]

/-- The rows that the products of the odd modes read. -/
theorem y36_at (B : Blk Ideal) (n : Fin 128) (s : Fin 64) (l : Fin 128) : k0_pay36 (B.yt n.val) (ix2 s l) = row B s.val l.val n :=
  y30_at B n s l

/-- Of the two sums of a product with a block-diagonal matrix, the one over the zero block is zero. -/
theorem sum_left {ι κ : Type} [Fintype ι] [Fintype κ] (f g : ι → EReal) (z : κ → EReal) (h : ∀ i, f i = g i) :
    (∑ i, f i) + (∑ k, z k * 0) = ∑ i, g i := by
  have e : (∑ k, z k * 0) = 0 := Finset.sum_eq_zero (fun k _ => mul_zero _)
  rw [e, add_zero]
  exact Finset.sum_congr rfl (fun i _ => h i)

/-- The same with the zero block first. -/
theorem sum_right {ι κ : Type} [Fintype ι] [Fintype κ] (f g : ι → EReal) (z : κ → EReal) (h : ∀ i, f i = g i) :
    (∑ k, z k * 0) + (∑ i, f i) = ∑ i, g i := by
  rw [add_comm]
  exact sum_left f g z h

/-- The products of a mode with the first half of the channels. -/
theorem f21_at (B : Blk Ideal) (n : Fin 128) (a : ℕ) (ha : a < 48) (l : Fin 128) :
    B.f21 (a + 52 * n.val) l = ∑ s : Fin 64, xd B a s.val n * row B s.val l.val n := by
  have e1 : (a + 52 * n.val) / 52 = n.val := by omega
  have e2 : (a + 52 * n.val) / 104 = n.val / 2 := by omega
  have e3 : Fin.ofNat 48 ((a + 52 * n.val) % 52) = (⟨a, ha⟩ : Fin 48) := by
    apply Fin.ext
    simp only [Fin.ofNat]
    omega
  unfold Blk.f21
  rw [e1, e2, e3]
  split
  · unfold k0_pay32 k0_pay31 k0_pay29
    pointwise
    rename_i hp
    exact sum_left _ _ _ (fun s => congrArg₂ (· * ·) (x_lo B n _ a ha (by show a = _; omega) s _) (y30_at B n s l))
  · unfold k0_pay38 k0_pay37 k0_pay29
    pointwise
    rename_i hp
    exact sum_left _ _ _ (fun s => congrArg₂ (· * ·) (x_lo B n _ a ha (by show 48 + a = _; omega) s _) (y36_at B n s l))

/-- The products of a mode with the second half of the channels. -/
theorem f22_at (B : Blk Ideal) (n : Fin 128) (a : ℕ) (ha : a < 48) (l : Fin 128) :
    B.f22 (a + 52 * n.val) l = ∑ s : Fin 64, xd B (48 + a) s.val n * row B s.val l.val n := by
  have e1 : (a + 52 * n.val) / 52 = n.val := by omega
  have e2 : (a + 52 * n.val) / 104 = n.val / 2 := by omega
  have e3 : Fin.ofNat 48 ((a + 52 * n.val) % 52) = (⟨a, ha⟩ : Fin 48) := by
    apply Fin.ext
    simp only [Fin.ofNat]
    omega
  unfold Blk.f22
  rw [e1, e2, e3]
  split
  · unfold k0_pay33 k0_pay31 k0_pay29
    pointwise
    rename_i hp
    exact sum_right _ _ _ (fun s => congrArg₂ (· * ·) (x_hi B n _ a ha (by show a = _; omega) s _) (y30_at B n s l))
  · unfold k0_pay39 k0_pay37 k0_pay29
    pointwise
    rename_i hp
    exact sum_right _ _ _ (fun s => congrArg₂ (· * ·) (x_hi B n _ a ha (by show 48 + a = _; omega) s _) (y36_at B n s l))

/-- The decoded weights. -/
theorem w_at (B : Blk Ideal) (n : Fin 128) (d : Fin 96) (t : Fin 128) :
    Ideal.ofBits .fp8e4m3 (bitcast S128x128 8 (B.wt n.val) bitcasts_S32x128_w32_S128x128_w8 (ix2 t ⟨d.val, by omega⟩)) = wd B d.val t.val n := by
  rw [wt_at B n d t]
  unfold wd
  rw [Fin.ofNat_val_eq_self]

/-- The products of a mode for the gradient of `x`. -/
theorem f23_at (B : Blk Ideal) (n : Fin 128) (r : ℕ) (hr : r < 32) (h : Fin 2) (d : Fin 96) :
    B.f23 (r + 36 * n.val) h ⟨d.val, by omega⟩ = (∑ t : Fin 128, row B (2 * r + h.val) t.val n * wd B d.val t.val n) * B.ws n.val := by
  have e1 : (r + 36 * n.val) / 36 = n.val := by omega
  have e2 : Fin.ofNat 32 ((r + 36 * n.val) % 36) = (⟨r, hr⟩ : Fin 32) := by
    apply Fin.ext
    simp only [Fin.ofNat]
    omega
  unfold Blk.f23
  rw [e1, e2]
  unfold k0_pay35 k0_pay34
  pointwise
  split
  · have e : 2 * r + h.val = 2 * r := by omega
    rw [e]
    exact congrArg (· * B.ws n.val) (Finset.sum_congr rfl (fun t _ => congrArg₂ (· * ·) (y30_at B n _ t) (w_at B n d t)))
  · have e : 2 * r + h.val = 2 * r + 1 := by omega
    rw [e]
    exact congrArg (· * B.ws n.val) (Finset.sum_congr rfl (fun t _ => congrArg₂ (· * ·) (y30_at B n _ t) (w_at B n d t)))

/-- The real part of the gradient of the weights. -/
theorem f10_at (B : Blk Ideal) (a : ℕ) (ha : a < 96) (o : Fin 64) (m : Fin 128) :
    B.f10 a o m = (∑ s : Fin 64, xd B a s.val m * row B s.val o.val m) * B.xs (ix1 m) := by
  unfold Blk.f10
  split
  · rename_i h
    unfold k0_pay7 k0_pay6 Blk.v18 k0_pay87
    pointwise
    exact congrArg (· * B.xs (ix1 m)) (f21_at B m a h ⟨o.val, by omega⟩)
  · rename_i h
    unfold k0_pay10 k0_pay9 Blk.v18 k0_pay87
    pointwise
    have e : 48 + (a - 48) = a := by omega
    have q := f22_at B m (a - 48) (by omega) ⟨o.val, by omega⟩
    rw [e] at q
    exact congrArg (· * B.xs (ix1 m)) q

/-- The imaginary part of the gradient of the weights. -/
theorem f11_at (B : Blk Ideal) (a : ℕ) (ha : a < 96) (o : Fin 64) (m : Fin 128) :
    B.f11 a o m = (∑ s : Fin 64, xd B a s.val m * row B s.val (64 + o.val) m) * B.xs (ix1 m) := by
  unfold Blk.f11
  split
  · rename_i h
    unfold k0_pay8 k0_pay6 Blk.v18 k0_pay87
    pointwise
    exact congrArg (· * B.xs (ix1 m)) (f21_at B m a h ⟨64 + o.val, by omega⟩)
  · rename_i h
    unfold k0_pay11 k0_pay9 Blk.v18 k0_pay87
    pointwise
    have e : 48 + (a - 48) = a := by omega
    have q := f22_at B m (a - 48) (by omega) ⟨64 + o.val, by omega⟩
    rw [e] at q
    exact congrArg (· * B.xs (ix1 m)) q

/-- The real part of the gradient of `x`. -/
theorem f12_at (B : Blk Ideal) (a : ℕ) (ha : a < 32) (d : Fin 96) (m : Fin 128) :
    B.f12 a d m = (∑ t : Fin 128, row B a t.val m * wd B d.val t.val m) * B.ws m.val := by
  unfold Blk.f12
  split
  · unfold k0_pay82
    pointwise
    rename_i hp
    refine (f23_at B m (a / 2) (by omega) 0 d).trans ?_
    have e : 2 * (a / 2) + (0 : Fin 2).val = a := by show 2 * (a / 2) + 0 = a; omega
    rw [e]
  · unfold k0_pay83
    pointwise
    rename_i hp
    refine (f23_at B m (a / 2) (by omega) 1 d).trans ?_
    have e : 2 * (a / 2) + (1 : Fin 2).val = a := by show 2 * (a / 2) + 1 = a; omega
    rw [e]

/-- The imaginary part of the gradient of `x`. -/
theorem f13_at (B : Blk Ideal) (a : ℕ) (ha : a < 32) (d : Fin 96) (m : Fin 128) :
    B.f13 a d m = (∑ t : Fin 128, row B (32 + a) t.val m * wd B d.val t.val m) * B.ws m.val := by
  unfold Blk.f13
  split
  · unfold k0_pay12 k0_pay85
    pointwise
    rename_i hp
    refine (f23_at B m (16 + a / 2) (by omega) 0 d).trans ?_
    have e : 2 * (16 + a / 2) + (0 : Fin 2).val = 32 + a := by show 2 * (16 + a / 2) + 0 = 32 + a; omega
    rw [e]
  · unfold k0_pay13 k0_pay84
    pointwise
    rename_i hp
    refine (f23_at B m (16 + a / 2) (by omega) 1 d).trans ?_
    have e : 2 * (16 + a / 2) + (1 : Fin 2).val = 32 + a := by show 2 * (16 + a / 2) + 1 = 32 + a; omega
    rw [e]

end Cert.Proof.Sem
-- ==== Proof.Arrays.lean ====
/-
  The two gradients in the output arrays, over the arguments.
-/
module

public import proofs.«01_k».proof.Proof.Spectrum
public import proofs.«01_k».proof.Proof.Grad
public import Idealize.ShloMosaic.Lib.Pipeline.ValueKit

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window)

variable (m : (ℓ : Loc nD τ sig) → Buf (Elt Ideal) ℓ) (ρ : Dev nD → PrngReg)

theorem idx_0 : ∀ t : Fin cfg0.N, win0_0.index t = ![0] := (by decide +kernel : ∀ t : Fin grid0.N, _)
theorem idx_2 : ∀ t : Fin cfg0.N, win0_2.index t = ![0] := (by decide +kernel : ∀ t : Fin grid0.N, _)
theorem idx_3 : ∀ t : Fin cfg0.N, win0_3.index t = ![0, 0, t.val] := (by decide +kernel : ∀ t : Fin grid0.N, _)
theorem idx_4 : ∀ t : Fin cfg0.N, win0_4.index t = ![0, 0, t.val] := (by decide +kernel : ∀ t : Fin grid0.N, _)
theorem idx_5 : ∀ t : Fin cfg0.N, win0_5.index t = ![0, 0, t.val] := (by decide +kernel : ∀ t : Fin grid0.N, _)
theorem idx_6 : ∀ t : Fin cfg0.N, win0_6.index t = ![0, 0, t.val] := (by decide +kernel : ∀ t : Fin grid0.N, _)
theorem idx_9 : ∀ t : Fin cfg0.N, win0_9.index t = ![0, 0, t.val] := (by decide +kernel : ∀ t : Fin grid0.N, _)
theorem idx_10 : ∀ t : Fin cfg0.N, win0_10.index t = ![0, 0, t.val] := (by decide +kernel : ∀ t : Fin grid0.N, _)
theorem idx_11 : ∀ t : Fin cfg0.N, win0_11.index t = ![0, 0, t.val] := (by decide +kernel : ∀ t : Fin grid0.N, _)
theorem idx_12 : ∀ t : Fin cfg0.N, win0_12.index t = ![0, 0, t.val] := (by decide +kernel : ∀ t : Fin grid0.N, _)

/-- The codes as the program lays them out. -/
theorem V_main_v0 (c : Dev nD) : V m c main_v0 = transpose S32x96x768 [0, 2, 1] (m ((c : Thread nD τ).loc main_arg0)) transposes_S32x768x96_S32x96x768_0_2_1 := by
  entry_read
  rfl

theorem V_main_v1 (c : Dev nD) : V m c main_v1 = transpose S32x96x768 [0, 2, 1] (m ((c : Thread nD τ).loc main_arg1)) transposes_S32x768x96_S32x96x768_0_2_1 := by
  entry_read
  rfl

theorem V_main_v2 (c : Dev nD) : V m c main_v2 = transpose S96x64x768 [1, 2, 0] (m ((c : Thread nD τ).loc main_arg3)) transposes_S768x96x64_S96x64x768_1_2_0 := by
  entry_read
  rfl

theorem V_main_v3 (c : Dev nD) : V m c main_v3 = transpose S96x64x768 [1, 2, 0] (m ((c : Thread nD τ).loc main_arg4)) transposes_S768x96x64_S96x64x768_1_2_0 := by
  entry_read
  rfl

/-- A mode is its grid point's block and its lane. -/
theorem mode_eq (M : Fin 768) (h : (pt M).val * 128 + (lane M).val < 768) : (⟨(pt M).val * 128 + (lane M).val, h⟩ : Fin 768) = M :=
  Fin.ext (by show M.val / 128 * 128 + M.val % 128 = M.val; omega)

theorem mode_lt (M : Fin 768) : (pt M).val * 128 + (lane M).val < 768 := by
  have := M.isLt
  show M.val / 128 * 128 + M.val % 128 < 768
  omega

/-- The codes of one block. -/
theorem x4_eq (c : Dev nD) (M : Fin 768) (b : Fin 32) (d : Fin 96) :
    (blk m c (pt M)).x4 (ix3 b d (lane M)) = m ((c : Thread nD τ).loc main_arg0) (ix3 b M d) := by
  show V m c main_v0 ((win0_3.blk (pt M)).view.emb (ix3 b d (lane M))) = _
  have e : (win0_3.blk (pt M)).view.emb (ix3 b d (lane M)) = ix3 b d (⟨_, mode_lt M⟩ : Fin 768) := by blk_ext [idx_3 (pt M)]
  rw [e, V_main_v0, mode_eq]
  pointwise

/-- The codes of one block. -/
theorem x5_eq (c : Dev nD) (M : Fin 768) (b : Fin 32) (d : Fin 96) :
    (blk m c (pt M)).x5 (ix3 b d (lane M)) = m ((c : Thread nD τ).loc main_arg1) (ix3 b M d) := by
  show V m c main_v1 ((win0_4.blk (pt M)).view.emb (ix3 b d (lane M))) = _
  have e : (win0_4.blk (pt M)).view.emb (ix3 b d (lane M)) = ix3 b d (⟨_, mode_lt M⟩ : Fin 768) := by blk_ext [idx_4 (pt M)]
  rw [e, V_main_v1, mode_eq]
  pointwise

/-- The codes of one block. -/
theorem x6_eq (c : Dev nD) (M : Fin 768) (d : Fin 96) (o : Fin 64) :
    (blk m c (pt M)).x6 (ix3 d o (lane M)) = m ((c : Thread nD τ).loc main_arg3) (ix3 M d o) := by
  show V m c main_v2 ((win0_5.blk (pt M)).view.emb (ix3 d o (lane M))) = _
  have e : (win0_5.blk (pt M)).view.emb (ix3 d o (lane M)) = ix3 d o (⟨_, mode_lt M⟩ : Fin 768) := by blk_ext [idx_5 (pt M)]
  rw [e, V_main_v2, mode_eq]
  pointwise

/-- The codes of one block. -/
theorem x7_eq (c : Dev nD) (M : Fin 768) (d : Fin 96) (o : Fin 64) :
    (blk m c (pt M)).x7 (ix3 d o (lane M)) = m ((c : Thread nD τ).loc main_arg4) (ix3 M d o) := by
  show V m c main_v3 ((win0_6.blk (pt M)).view.emb (ix3 d o (lane M))) = _
  have e : (win0_6.blk (pt M)).view.emb (ix3 d o (lane M)) = ix3 d o (⟨_, mode_lt M⟩ : Fin 768) := by blk_ext [idx_6 (pt M)]
  rw [e, V_main_v3, mode_eq]
  pointwise

/-- The scales of `x` of one block. -/
theorem xs_eq (c : Dev nD) (M : Fin 768) : (blk m c (pt M)).xs (ix1 (lane M)) = m ((c : Thread nD τ).loc main_arg2) (ix1 M) := by
  have h : 128 * ((grid0.coords (pt M)) 0).val + (lane M).val = M.val := by
    rw [coord]
    show 128 * (M.val / 128) + M.val % 128 = M.val
    omega
  have e : ∀ k : Fin 768, k = M → V m c main_arg2 ((win0_2.blk (pt M)).view.emb (ix1 k)) = m ((c : Thread nD τ).loc main_arg2) (ix1 M) := by
    intro k hk
    subst hk
    have e1 : (win0_2.blk (pt k)).view.emb (ix1 k) = ix1 k := by blk_ext [idx_2 (pt k)]
    rw [e1, V_main_arg2]
  exact e _ (Fin.ext h)

/-- The scales of the weights of one block. -/
theorem ws_eq (c : Dev nD) (M : Fin 768) : (blk m c (pt M)).ws (lane M).val = m ((c : Thread nD τ).loc main_arg5) (ix1 M) := by
  have h : Fin.ofNat 768 (128 * ((grid0.coords (pt M)) 0).val + (lane M).val) = M := by
    apply Fin.ext
    rw [coord]
    show (128 * (M.val / 128) + M.val % 128) % 768 = M.val
    omega
  show V m c main_arg5 ((win0_0.blk (pt M)).view.emb (ix1 (Fin.ofNat 768 (128 * ((grid0.coords (pt M)) 0).val + (lane M).val)))) = _
  rw [h]
  have e : (win0_0.blk (pt M)).view.emb (ix1 M) = ix1 M := by blk_ext [idx_0 (pt M)]
  rw [e, V_main_arg5]

/-- The spectrum over the arguments at natural numbers. -/
def spN (dy : Vec Ideal S32x2048x64 .fp8e5m2) (s : Vec Ideal S_ .f32) (ft : Vec Ideal S2x768x2048 .bf16) (q b o : ℕ) (M : Fin 768) : EReal :=
  spectrum dy s ft (Fin.ofNat 2 q) (Fin.ofNat 32 b) (Fin.ofNat 64 o) M

/-- Row `r` of the spectrum of mode `M`. -/
def Row (dy : Vec Ideal S32x2048x64 .fp8e5m2) (s : Vec Ideal S_ .f32) (ft : Vec Ideal S2x768x2048 .bf16) (r l : ℕ) (M : Fin 768) : EReal :=
  if r < 32 then spN dy s ft (l / 64) r (l % 64) M else if l < 64 then spN dy s ft 1 (r - 32) l M else - spN dy s ft 0 (r - 32) (l - 64) M

/-- The decoded code of `x`: part and batch `r`, channel `d`. -/
def XD (xr xi : Vec Ideal S32x768x96 .i8) (d r : ℕ) (M : Fin 768) : EReal :=
  Ideal.ofBits .fp8e4m3 (Blk.sel xr xi (r / 32) (ix3 (Fin.ofNat 32 (r % 32)) M (Fin.ofNat 96 d)))

/-- The decoded code of a weight: part and output `t`, channel `d`. -/
def WD (wr wi : Vec Ideal S768x96x64 .i8) (d t : ℕ) (M : Fin 768) : EReal :=
  Ideal.ofBits .fp8e4m3 (Blk.sel wr wi (t / 64) (ix3 M (Fin.ofNat 96 d) (Fin.ofNat 64 (t % 64))))

/-- The gradient of the weights at mode `M`, channel `a`: part and output `l`. -/
def DW (xr xi : Vec Ideal S32x768x96 .i8) (xs : Vec Ideal S768 .f32) (dy : Vec Ideal S32x2048x64 .fp8e5m2) (s : Vec Ideal S_ .f32) (ft : Vec Ideal S2x768x2048 .bf16)
    (a l : ℕ) (M : Fin 768) : EReal :=
  (∑ r : Fin 64, XD xr xi a r.val M * Row dy s ft r.val l M) * xs (ix1 M)

/-- The gradient of `x` at mode `M`, channel `d`: part and batch `r`. -/
def DX (wr wi : Vec Ideal S768x96x64 .i8) (ws : Vec Ideal S768 .f32) (dy : Vec Ideal S32x2048x64 .fp8e5m2) (s : Vec Ideal S_ .f32) (ft : Vec Ideal S2x768x2048 .bf16)
    (r d : ℕ) (M : Fin 768) : EReal :=
  (∑ t : Fin 128, Row dy s ft r t.val M * WD wr wi d t.val M) * ws (ix1 M)

/-- The gradient of the weights over the arguments in `m`. -/
abbrev DWm (c : Dev nD) (a l : ℕ) (M : Fin 768) : EReal :=
  DW (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) a l M

/-- The gradient of `x` over the arguments in `m`. -/
abbrev DXm (c : Dev nD) (r d : ℕ) (M : Fin 768) : EReal :=
  DX (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r d M

theorem row_eq (c : Dev nD) (r l : ℕ) (M : Fin 768) : row (blk m c (pt M)) r l (lane M)
    = Row (m ((c : Thread nD τ).loc main_arg6)) (m ((c : Thread nD τ).loc main_arg7)) (m ((c : Thread nD τ).loc main_arg8)) r l M := by
  unfold row Row sp spN
  simp only [spec_eq]

theorem xd_eq (c : Dev nD) (d r : ℕ) (M : Fin 768) : xd (blk m c (pt M)) d r (lane M) = XD (m ((c : Thread nD τ).loc main_arg0)) (m ((c : Thread nD τ).loc main_arg1)) d r M := by
  unfold xd XD
  refine congrArg (Ideal.ofBits .fp8e4m3) ?_
  cases r / 32 with
  | zero => exact x4_eq m c M _ _
  | succ k => exact x5_eq m c M _ _

theorem wd_eq (c : Dev nD) (d t : ℕ) (M : Fin 768) : wd (blk m c (pt M)) d t (lane M) = WD (m ((c : Thread nD τ).loc main_arg3)) (m ((c : Thread nD τ).loc main_arg4)) d t M := by
  unfold wd WD
  refine congrArg (Ideal.ofBits .fp8e4m3) ?_
  cases t / 64 with
  | zero => exact x6_eq m c M _ _
  | succ k => exact x7_eq m c M _ _

/-- A block's gradient of the weights. -/
theorem dw_eq (c : Dev nD) (a l : ℕ) (M : Fin 768) :
    (∑ r : Fin 64, xd (blk m c (pt M)) a r.val (lane M) * row (blk m c (pt M)) r.val l (lane M)) * (blk m c (pt M)).xs (ix1 (lane M)) = DWm m c a l M := by
  unfold DWm DW
  simp only [xd_eq, row_eq, xs_eq]

/-- A block's gradient of `x`. -/
theorem dx_eq (c : Dev nD) (r d : ℕ) (M : Fin 768) :
    (∑ t : Fin 128, row (blk m c (pt M)) r t.val (lane M) * wd (blk m c (pt M)) d t.val (lane M)) * (blk m c (pt M)).ws (lane M).val = DXm m c r d M := by
  unfold DXm DX
  simp only [wd_eq, row_eq, ws_eq]

/-- A place in an array of blocks, from its place in the block. -/
theorem place (t : Fin cfg0.N) (M : Fin 768) (l : Fin 128) (h : M.val = t.val * 128 + l.val) : pt M = t ∧ lane M = l :=
  ⟨Fin.ext (by show M.val / 128 = t.val; omega), Fin.ext (by show M.val % 128 = l.val; omega)⟩

/-- The gradient of the weights from any grid point and lane. -/
theorem dw_at (c : Dev nD) (t : Fin cfg0.N) (l : Fin 128) (a k : ℕ) (M : Fin 768) (h : M.val = t.val * 128 + l.val) :
    (∑ r : Fin 64, xd (blk m c t) a r.val l * row (blk m c t) r.val k l) * (blk m c t).xs (ix1 l) = DWm m c a k M := by
  obtain ⟨rfl, rfl⟩ := place t M l h
  exact dw_eq m c a k M

/-- The gradient of `x` from any grid point and lane. -/
theorem dx_at (c : Dev nD) (t : Fin cfg0.N) (l : Fin 128) (r d : ℕ) (M : Fin 768) (h : M.val = t.val * 128 + l.val) :
    (∑ k : Fin 128, row (blk m c t) r k.val l * wd (blk m c t) d k.val l) * (blk m c t).ws l.val = DXm m c r d M := by
  obtain ⟨rfl, rfl⟩ := place t M l h
  exact dx_eq m c r d M

/-- The array of the real part of the gradient of the weights. -/
theorem fin9 (c : Dev nD) : (dats m 0 c).arrAt 9 cfg0.N = fun j => DWm m c (j 0 : Fin 96).val (j 1 : Fin 64).val (j 2) := by
  refine (dats m 0 c).arrAt_eq_of_covers 9 _ (by decide +kernel) fun t hf y => ?_
  rw [after_9]
  blk_simp [idx_9 t]
  idx_bounds y
  refine Eq.trans ?_ (dw_at m c t (y 2 : Fin 128) (y 0 : Fin 96).val (y 1 : Fin 64).val ((win0_9.blk t).view.emb y 2) (by blk_simp [idx_9 t]))
  exact f10_at (blk m c t) (y 0).val (y 0).isLt (y 1) (y 2)

/-- The array of its imaginary part. -/
theorem fin10 (c : Dev nD) : (dats m 0 c).arrAt 10 cfg0.N = fun j => DWm m c (j 0 : Fin 96).val (64 + (j 1 : Fin 64).val) (j 2) := by
  refine (dats m 0 c).arrAt_eq_of_covers 10 _ (by decide +kernel) fun t hf y => ?_
  rw [after_10]
  blk_simp [idx_10 t]
  idx_bounds y
  refine Eq.trans ?_ (dw_at m c t (y 2 : Fin 128) (y 0 : Fin 96).val (64 + (y 1 : Fin 64).val) ((win0_10.blk t).view.emb y 2) (by blk_simp [idx_10 t]))
  exact f11_at (blk m c t) (y 0).val (y 0).isLt (y 1) (y 2)

/-- The array of the real part of the gradient of `x`. -/
theorem fin11 (c : Dev nD) : (dats m 0 c).arrAt 11 cfg0.N = fun j => DXm m c (j 0 : Fin 32).val (j 1 : Fin 96).val (j 2) := by
  refine (dats m 0 c).arrAt_eq_of_covers 11 _ (by decide +kernel) fun t hf y => ?_
  rw [after_11]
  blk_simp [idx_11 t]
  idx_bounds y
  refine Eq.trans ?_ (dx_at m c t (y 2 : Fin 128) (y 0 : Fin 32).val (y 1 : Fin 96).val ((win0_11.blk t).view.emb y 2) (by blk_simp [idx_11 t]))
  exact f12_at (blk m c t) (y 0).val (y 0).isLt (y 1) (y 2)

/-- The array of its imaginary part. -/
theorem fin12 (c : Dev nD) : (dats m 0 c).arrAt 12 cfg0.N = fun j => DXm m c (32 + (j 0 : Fin 32).val) (j 1 : Fin 96).val (j 2) := by
  refine (dats m 0 c).arrAt_eq_of_covers 12 _ (by decide +kernel) fun t hf y => ?_
  rw [after_12]
  blk_simp [idx_12 t]
  idx_bounds y
  refine Eq.trans ?_ (dx_at m c t (y 2 : Fin 128) (32 + (y 0 : Fin 32).val) (y 1 : Fin 96).val ((win0_12.blk t).view.emb y 2) (by blk_simp [idx_12 t]))
  exact f13_at (blk m c t) (y 0).val (y 0).isLt (y 1) (y 2)

end Cert.Proof.Sem
-- ==== Proof.KernelRun.lean ====
/-
  What the ideal program leaves in its results.
-/
module

public import proofs.«01_k».proof.Proof.Arrays
public import Idealize.ShloMosaic.Lib.Claim

@[expose] public section

set_option maxRecDepth 65536

noncomputable section

namespace Cert.Proof.Sem

open Cert.KernelIdeal Cert.KernelIdeal.Gen Cert.Proof.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt Ideal) ℓ) (ρ : Dev nD → PrngReg)

/-- What the last transposes start from: the arrays the launch leaves. -/
theorem start (c : Dev nD) : ∃ W : Valuation τ sig (Elt Ideal),
    (∀ b, Pipeline.afterTail₀ cfgs (dats m) 0 (V0 m) [hostOps1] c b = StableHlo.after hostOps1 W (Proc.devRef .tc b))
    ∧ ∀ w, W (Proc.devRef .tc (Pipeline.arrRef spec0 w)) = (dats m 0 c).arrAt w cfg0.N :=
  ⟨Pipeline.withArrays spec0 c (V0 m c) (fun w => (dats m 0 c).arrAt w cfg0.N), fun b => rfl,
    fun w => Pipeline.withArrays_arr spec0 launch0.win.arr_inj c (V0 m c) (fun w => (dats m 0 c).arrAt w cfg0.N) w⟩

/-- The real part of the gradient of the weights, modes first. -/
theorem tail_10 (c : Dev nD) : Pipeline.afterTail₀ cfgs (dats m) 0 (V0 m) [hostOps1] c main_v10 = transpose S768x96x64 [2, 0, 1] ((dats m 0 c).arrAt 9 cfg0.N) transposes_S96x64x768_S768x96x64_2_0_1 := by
  obtain ⟨W, hW, h⟩ := start m c
  rw [hW]
  simp only [hostOps1, StableHlo.after_cons, StableHlo.after_nil]
  after_results_simp
  exact congrArg (fun X => transpose S768x96x64 [2, 0, 1] X transposes_S96x64x768_S768x96x64_2_0_1) (h 9)

/-- Its imaginary part. -/
theorem tail_11 (c : Dev nD) : Pipeline.afterTail₀ cfgs (dats m) 0 (V0 m) [hostOps1] c main_v11 = transpose S768x96x64 [2, 0, 1] ((dats m 0 c).arrAt 10 cfg0.N) transposes_S96x64x768_S768x96x64_2_0_1 := by
  obtain ⟨W, hW, h⟩ := start m c
  rw [hW]
  simp only [hostOps1, StableHlo.after_cons, StableHlo.after_nil]
  after_results_simp
  exact congrArg (fun X => transpose S768x96x64 [2, 0, 1] X transposes_S96x64x768_S768x96x64_2_0_1) (h 10)

/-- The real part of the gradient of `x`, modes in the middle. -/
theorem tail_12 (c : Dev nD) : Pipeline.afterTail₀ cfgs (dats m) 0 (V0 m) [hostOps1] c main_v12 = transpose S32x768x96 [0, 2, 1] ((dats m 0 c).arrAt 11 cfg0.N) transposes_S32x96x768_S32x768x96_0_2_1 := by
  obtain ⟨W, hW, h⟩ := start m c
  rw [hW]
  simp only [hostOps1, StableHlo.after_cons, StableHlo.after_nil]
  after_results_simp
  exact congrArg (fun X => transpose S32x768x96 [0, 2, 1] X transposes_S32x96x768_S32x768x96_0_2_1) (h 11)

/-- Its imaginary part. -/
theorem tail_13 (c : Dev nD) : Pipeline.afterTail₀ cfgs (dats m) 0 (V0 m) [hostOps1] c main_v13 = transpose S32x768x96 [0, 2, 1] ((dats m 0 c).arrAt 12 cfg0.N) transposes_S32x96x768_S32x768x96_0_2_1 := by
  obtain ⟨W, hW, h⟩ := start m c
  rw [hW]
  simp only [hostOps1, StableHlo.after_cons, StableHlo.after_nil]
  after_results_simp
  exact congrArg (fun X => transpose S32x768x96 [0, 2, 1] X transposes_S32x96x768_S32x768x96_0_2_1) (h 12)

/-- The real part of the spectrum, modes in the middle. -/
theorem tail_14 (c : Dev nD) : Pipeline.afterTail₀ cfgs (dats m) 0 (V0 m) [hostOps1] c main_v14 = transpose S32x768x64 [0, 2, 1] ((dats m 0 c).arrAt 13 cfg0.N) transposes_S32x64x768_S32x768x64_0_2_1 := by
  obtain ⟨W, hW, h⟩ := start m c
  rw [hW]
  simp only [hostOps1, StableHlo.after_cons, StableHlo.after_nil]
  after_results_simp
  exact congrArg (fun X => transpose S32x768x64 [0, 2, 1] X transposes_S32x64x768_S32x768x64_0_2_1) (h 13)

/-- Its imaginary part. -/
theorem tail_15 (c : Dev nD) : Pipeline.afterTail₀ cfgs (dats m) 0 (V0 m) [hostOps1] c main_v15 = transpose S32x768x64 [0, 2, 1] ((dats m 0 c).arrAt 14 cfg0.N) transposes_S32x64x768_S32x768x64_0_2_1 := by
  obtain ⟨W, hW, h⟩ := start m c
  rw [hW]
  simp only [hostOps1, StableHlo.after_cons, StableHlo.after_nil]
  after_results_simp
  exact congrArg (fun X => transpose S32x768x64 [0, 2, 1] X transposes_S32x64x768_S32x768x64_0_2_1) (h 14)

/-- The first result is the real part of the gradient of the weights. -/
theorem result_10 (c : Dev nD) : Pipeline.afterTail₀ cfgs (dats m) 0 (V0 m) [hostOps1] c main_v10 = fun j => DWm m c (j 1 : Fin 96).val (64 * (0 : Fin 2).val + (j 2 : Fin 64).val) (j 0) := by
  rw [tail_10, fin9]
  funext j
  idx_vars j
  pointwise

/-- The second result is its imaginary part. -/
theorem result_11 (c : Dev nD) : Pipeline.afterTail₀ cfgs (dats m) 0 (V0 m) [hostOps1] c main_v11 = fun j => DWm m c (j 1 : Fin 96).val (64 * (1 : Fin 2).val + (j 2 : Fin 64).val) (j 0) := by
  rw [tail_11, fin10]
  funext j
  idx_vars j
  pointwise

/-- The third result is the real part of the gradient of `x`. -/
theorem result_12 (c : Dev nD) : Pipeline.afterTail₀ cfgs (dats m) 0 (V0 m) [hostOps1] c main_v12 = fun j => DXm m c (32 * (0 : Fin 2).val + (j 0 : Fin 32).val) (j 2 : Fin 96).val (j 1) := by
  rw [tail_12, fin11]
  funext j
  idx_vars j
  pointwise

/-- The fourth result is its imaginary part. -/
theorem result_13 (c : Dev nD) : Pipeline.afterTail₀ cfgs (dats m) 0 (V0 m) [hostOps1] c main_v13 = fun j => DXm m c (32 * (1 : Fin 2).val + (j 0 : Fin 32).val) (j 2 : Fin 96).val (j 1) := by
  rw [tail_13, fin12]
  funext j
  idx_vars j
  pointwise

/-- The fifth result is the real part of the spectrum. -/
theorem result_14 (c : Dev nD) : Pipeline.afterTail₀ cfgs (dats m) 0 (V0 m) [hostOps1] c main_v14 = fun j => spectrum (m ((c : Thread nD τ).loc main_arg6)) (m ((c : Thread nD τ).loc main_arg7)) (m ((c : Thread nD τ).loc main_arg8)) 0 (j 0) (j 2) (j 1) := by
  rw [tail_14, fin13]
  funext j
  idx_vars j
  pointwise
  exact spec_eq m c 0 _ _ _

/-- The sixth result is its imaginary part. -/
theorem result_15 (c : Dev nD) : Pipeline.afterTail₀ cfgs (dats m) 0 (V0 m) [hostOps1] c main_v15 = fun j => spectrum (m ((c : Thread nD τ).loc main_arg6)) (m ((c : Thread nD τ).loc main_arg7)) (m ((c : Thread nD τ).loc main_arg8)) 1 (j 0) (j 2) (j 1) := by
  rw [tail_15, fin14]
  funext j
  idx_vars j
  pointwise
  exact spec_eq m c 1 _ _ _

/-- The six results: the two parts of the gradient of the weights, of the gradient of `x`, and of the spectrum. -/
theorem run : θ_run defs (onTc (τ := τ) (main (F := Ideal))) ⟨m, fun _ => 0, ρ⟩ (fun r => ∀ c : Dev nD,
    r.2.mem ((c : Thread nD τ).loc main_v10) = (fun j => DWm m c (j 1 : Fin 96).val (64 * (0 : Fin 2).val + (j 2 : Fin 64).val) (j 0))
    ∧ r.2.mem ((c : Thread nD τ).loc main_v11) = (fun j => DWm m c (j 1 : Fin 96).val (64 * (1 : Fin 2).val + (j 2 : Fin 64).val) (j 0))
    ∧ r.2.mem ((c : Thread nD τ).loc main_v12) = (fun j => DXm m c (32 * (0 : Fin 2).val + (j 0 : Fin 32).val) (j 2 : Fin 96).val (j 1))
    ∧ r.2.mem ((c : Thread nD τ).loc main_v13) = (fun j => DXm m c (32 * (1 : Fin 2).val + (j 0 : Fin 32).val) (j 2 : Fin 96).val (j 1))
    ∧ r.2.mem ((c : Thread nD τ).loc main_v14) = (fun j => spectrum (m ((c : Thread nD τ).loc main_arg6)) (m ((c : Thread nD τ).loc main_arg7)) (m ((c : Thread nD τ).loc main_arg8)) 0 (j 0) (j 2) (j 1))
    ∧ r.2.mem ((c : Thread nD τ).loc main_v15) = (fun j => spectrum (m ((c : Thread nD τ).loc main_arg6)) (m ((c : Thread nD τ).loc main_arg7)) (m ((c : Thread nD τ).loc main_arg8)) 1 (j 0) (j 2) (j 1))) := by
  run_from run_main m ρ
  · exact result_10 m c
  · exact result_11 m c
  · exact result_12 m c
  · exact result_13 m c
  · exact result_14 m c
  · exact result_15 m c

end Cert.Proof.Sem
-- ==== Proof.RefGrad.lean ====
/-
  The two products of the reference, over the spectrum and the decoded codes.
-/
module

public import proofs.«01_k».proof.Proof.Arrays
public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 65536

noncomputable section

namespace Cert.Proof.Ref

open Cert.ReferenceIdeal Cert.ReferenceIdeal.Gen
open Idealize.ShloMosaic Idealize.ShloMosaic.TcCoe Idealize.SL.Sem
open Idealize.ShloMosaic.Pipeline (Dat)

/-- The factors of the modes, with the gradient's scale. -/
def coefR (s : Vec Ideal S_ .f32) : FVec Ideal S768 .f32 :=
  mulf (broadcastInDim S768 ![] bcast_S_S768 s)
    (Host.divf
      (select (cmpi .eq (iotaInDim S768 32 0) (broadcastInDim S768 ![] bcast_S_S768 (constantI S_ 32 0#32)))
        (broadcastInDim S768 ![] bcast_S_S768 (constant S_ .f32 0x3F800000#32)) (broadcastInDim S768 ![] bcast_S_S768 (constant S_ .f32 0x40000000#32)))
      (broadcastInDim S768 ![] bcast_S_S768 (constant S_ .f32 0x45000000#32)))

/-- Only the first mode's number is zero. -/
theorem first_mode (M : Fin 768) : IntOp.cmpi .eq (BitVec.ofNat 32 M.val) 0#32 = if M.val = 0 then 1#1 else 0#1 := by
  revert M
  decide +kernel

/-- The reference's spectrum. -/
def dyhR (dy : FVec Ideal S32x2048x64 .bf16) (s : Vec Ideal S_ .f32) (ft : FVec Ideal S2x768x2048 .bf16) : FVec Ideal S2x768x32x64 .bf16 :=
  truncf .bf16 (mulf (Host.dotGeneral dot_S2x768x2048_S32x2048x64_S2x768x32x64_2_1_01_02_n_n none ft dy)
    (broadcastInDim S2x768x32x64 ![0, 1, 2, 3] bcast_S1x768x1x1_S2x768x32x64_0_1_2_3 (broadcastInDim S1x768x1x1 ![1] bcast_S768_S1x768x1x1_1 (coefR s)))) bitsLt_bf16_f32

theorem dyhR_apply (dy : FVec Ideal S32x2048x64 .bf16) (s : Vec Ideal S_ .f32) (ft : FVec Ideal S2x768x2048 .bf16) (p : Fin 2) (M : Fin 768) (b : Fin 32) (o : Fin 64) :
    dyhR dy s ft (ix4 p M b o) = Sem.spectrum dy s ft p b o M := by
  unfold dyhR coefR
  pointwise
  unfold Sem.spectrum Sem.fac
  rw [first_mode M]
  refine congrArg₂ (· * ·) (Finset.sum_congr rfl (fun n _ => mul_comm _ _)) ?_
  refine congrArg₂ (· * ·) (congrArg s (funext fun k => k.elim0)) ?_
  by_cases hM : M.val = 0 <;> simp only [hM, if_true, if_false] <;> rfl

/-- The spectrum by mode. -/
def lrR (y : FVec Ideal S2x768x32x64 .bf16) : FVec Ideal S768x2x32x64 .bf16 :=
  transpose S768x2x32x64 [1, 0, 2, 3] y transposes_S2x768x32x64_S768x2x32x64_1_0_2_3

/-- The spectrum times the negated imaginary unit, by mode. -/
def liR (y : FVec Ideal S2x768x32x64 .bf16) : FVec Ideal S768x2x32x64 .bf16 :=
  concatenate S768x2x32x64 1 [⟨S768x1x32x64, broadcastInDim S768x1x32x64 ![0, 2, 3] bcast_S768x32x64_S768x1x32x64_0_2_3 (shapeCast S768x32x64 (extractStridedSlice S1x768x32x64 ![1, 0, 0, 0] y slices_S2x768x32x64_S1x768x32x64_1_0_0_0) shapeCasts_S1x768x32x64_S768x32x64)⟩,
    ⟨S768x1x32x64, broadcastInDim S768x1x32x64 ![0, 2, 3] bcast_S768x32x64_S768x1x32x64_0_2_3 (Host.negf (shapeCast S768x32x64 (extractStridedSlice S1x768x32x64 ![0, 0, 0, 0] y slices_S2x768x32x64_S1x768x32x64_0_0_0_0) shapeCasts_S1x768x32x64_S768x32x64))⟩] concatenates_S768x1x32x64_S768x1x32x64_S768x2x32x64_d1

/-- The gradient of the weights. -/
def dwR (xr xi : FVec Ideal S32x768x96 .bf16) (xs : Vec Ideal S768 .f32) (y : FVec Ideal S2x768x32x64 .bf16) : FVec Ideal S768x96x2x64 .f32 :=
  mulf (Host.dotGeneral dot_S2x32x768x96_S768x2x2x32x64_S768x96x2x64_10_31_3_24_2_0 none
      (concatenate S2x32x768x96 0 [⟨S1x32x768x96, broadcastInDim S1x32x768x96 ![1, 2, 3] bcast_S32x768x96_S1x32x768x96_1_2_3 xr⟩, ⟨S1x32x768x96, broadcastInDim S1x32x768x96 ![1, 2, 3] bcast_S32x768x96_S1x32x768x96_1_2_3 xi⟩] concatenates_S1x32x768x96_S1x32x768x96_S2x32x768x96_d0)
      (concatenate S768x2x2x32x64 1 [⟨S768x1x2x32x64, broadcastInDim S768x1x2x32x64 ![0, 2, 3, 4] bcast_S768x2x32x64_S768x1x2x32x64_0_2_3_4 (lrR y)⟩, ⟨S768x1x2x32x64, broadcastInDim S768x1x2x32x64 ![0, 2, 3, 4] bcast_S768x2x32x64_S768x1x2x32x64_0_2_3_4 (liR y)⟩] concatenates_S768x1x2x32x64_S768x1x2x32x64_S768x2x2x32x64_d1))
    (broadcastInDim S768x96x2x64 ![0, 1, 2, 3] bcast_S768x1x1x1_S768x96x2x64_0_1_2_3 (broadcastInDim S768x1x1x1 ![0] bcast_S768_S768x1x1x1_0 xs))

/-- The gradient of `x`. -/
def dxR (wr wi : FVec Ideal S768x96x64 .bf16) (ws : Vec Ideal S768 .f32) (y : FVec Ideal S2x768x32x64 .bf16) : FVec Ideal S2x32x768x96 .bf16 :=
  truncf .bf16 (mulf
    (addf (transpose S2x32x768x96 [2, 3, 0, 1] (Host.dotGeneral dot_S768x96x64_S768x2x32x64_S768x96x2x32_2_3_1_12_0_0 none wr (lrR y)) transposes_S768x96x2x32_S2x32x768x96_2_3_0_1)
      (transpose S2x32x768x96 [2, 3, 0, 1] (Host.dotGeneral dot_S768x96x64_S768x2x32x64_S768x96x2x32_2_3_1_12_0_0 none wi (liR y)) transposes_S768x96x2x32_S2x32x768x96_2_3_0_1))
    (broadcastInDim S2x32x768x96 ![0, 1, 2, 3] bcast_S1x1x768x1_S2x32x768x96_0_1_2_3 (broadcastInDim S1x1x768x1 ![2] bcast_S768_S1x1x768x1_2 ws))) bitsLt_bf16_f32

/-- A sum over 128 rows is a sum over two times 64. -/
theorem sum_128 (f : ℕ → EReal) : ∑ t : Fin 128, f t.val = ∑ t : Fin 64, f t.val + ∑ t : Fin 64, f (64 + t.val) :=
  Fin.sum_univ_add (a := 64) (b := 64) fun t => f t.val

/-- A sum over 64 rows is a sum over two times 32. -/
theorem sum_64 (f : ℕ → EReal) : ∑ t : Fin 64, f t.val = ∑ t : Fin 32, f t.val + ∑ t : Fin 32, f (32 + t.val) :=
  Fin.sum_univ_add (a := 32) (b := 32) fun t => f t.val

section
variable (dy : Vec Ideal S32x2048x64 .fp8e5m2) (s : Vec Ideal S_ .f32) (ft : Vec Ideal S2x768x2048 .bf16)

theorem spN_eq (q b o : ℕ) (q' : Fin 2) (b' : Fin 32) (o' : Fin 64) (M : Fin 768) (hq : q = q'.val) (hb : b = b'.val) (ho : o = o'.val) :
    Sem.spN dy s ft q b o M = Sem.spectrum dy s ft q' b' o' M := by
  subst hq hb ho
  unfold Sem.spN
  simp only [Fin.ofNat_val_eq_self]

/-- The rows of the spectrum. -/
theorem row_lo (b : Fin 32) (q : Fin 2) (o : Fin 64) (M : Fin 768) : Sem.Row dy s ft b.val (64 * q.val + o.val) M = Sem.spectrum dy s ft q b o M := by
  unfold Sem.Row
  rw [if_pos b.isLt]
  exact spN_eq dy s ft _ _ _ q b o M (by omega) rfl (by omega)

theorem row_lo_0 (b : Fin 32) (o : Fin 64) (M : Fin 768) : Sem.Row dy s ft b.val o.val M = Sem.spectrum dy s ft 0 b o M := by
  have h := row_lo dy s ft b 0 o M
  rwa [show 64 * (0 : Fin 2).val + o.val = o.val from Nat.zero_add _] at h

/-- The rows of the spectrum times the negated imaginary unit: the real part is the spectrum's imaginary part. -/
theorem row_hi_0 (b : Fin 32) (o : Fin 64) (M : Fin 768) : Sem.Row dy s ft (32 + b.val) o.val M = Sem.spectrum dy s ft 1 b o M := by
  unfold Sem.Row
  rw [if_neg (by omega), if_pos o.isLt]
  exact spN_eq dy s ft _ _ _ 1 b o M rfl (by omega) rfl

/-- The imaginary part is the spectrum's negated real part. -/
theorem row_hi_1 (b : Fin 32) (o : Fin 64) (M : Fin 768) : Sem.Row dy s ft (32 + b.val) (64 + o.val) M = - Sem.spectrum dy s ft 0 b o M := by
  unfold Sem.Row
  rw [if_neg (by omega), if_neg (by omega)]
  exact congrArg (- ·) (spN_eq dy s ft _ _ _ 0 b o M rfl (by omega) (by omega))

/-- The codes of `x` by part. -/
theorem xd_lo (xr xi : Vec Ideal S32x768x96 .i8) (d : Fin 96) (b : Fin 32) (M : Fin 768) : Sem.XD xr xi d.val b.val M = Ideal.ofBits .fp8e4m3 (xr (ix3 b M d)) := by
  unfold Sem.XD
  rw [Nat.div_eq_of_lt b.isLt, Nat.mod_eq_of_lt b.isLt, Fin.ofNat_val_eq_self, Fin.ofNat_val_eq_self]
  rfl

theorem xd_hi (xr xi : Vec Ideal S32x768x96 .i8) (d : Fin 96) (b : Fin 32) (M : Fin 768) : Sem.XD xr xi d.val (32 + b.val) M = Ideal.ofBits .fp8e4m3 (xi (ix3 b M d)) := by
  unfold Sem.XD
  rw [show (32 + b.val) / 32 = 1 by omega, show (32 + b.val) % 32 = b.val by omega, Fin.ofNat_val_eq_self, Fin.ofNat_val_eq_self]
  rfl

/-- The codes of the weights by part. -/
theorem wd_lo (wr wi : Vec Ideal S768x96x64 .i8) (d : Fin 96) (o : Fin 64) (M : Fin 768) : Sem.WD wr wi d.val o.val M = Ideal.ofBits .fp8e4m3 (wr (ix3 M d o)) := by
  unfold Sem.WD
  rw [Nat.div_eq_of_lt o.isLt, Nat.mod_eq_of_lt o.isLt, Fin.ofNat_val_eq_self, Fin.ofNat_val_eq_self]
  rfl

theorem wd_hi (wr wi : Vec Ideal S768x96x64 .i8) (d : Fin 96) (o : Fin 64) (M : Fin 768) : Sem.WD wr wi d.val (64 + o.val) M = Ideal.ofBits .fp8e4m3 (wi (ix3 M d o)) := by
  unfold Sem.WD
  rw [show (64 + o.val) / 64 = 1 by omega, show (64 + o.val) % 64 = o.val by omega, Fin.ofNat_val_eq_self, Fin.ofNat_val_eq_self]
  rfl

/-- The reference's gradient of `x` is the sum over parts and outputs. -/
theorem dxR_apply (cr ci : Vec Ideal S768x96x64 .i8) (ws : Vec Ideal S768 .f32) (wr wi : FVec Ideal S768x96x64 .bf16)
    (hr : ∀ M d o, wr (ix3 M d o) = Ideal.ofBits .fp8e4m3 (cr (ix3 M d o))) (hi : ∀ M d o, wi (ix3 M d o) = Ideal.ofBits .fp8e4m3 (ci (ix3 M d o)))
    (q : Fin 2) (b : Fin 32) (M : Fin 768) (d : Fin 96) :
    dxR wr wi ws (dyhR dy s ft) (ix4 q b M d) = Sem.DX cr ci ws dy s ft (32 * q.val + b.val) d.val M := by
  unfold dxR liR lrR Sem.DX
  pointwise
  refine congrArg (· * ws (ix1 M)) ?_
  rw [sum_128 fun t => Sem.Row dy s ft (32 * q.val + b.val) t M * Sem.WD cr ci d.val t M]
  simp only [dyhR_apply, hr, hi, wd_lo, wd_hi]
  match q with
  | 0 =>
    have e : 32 * (0 : Fin 2).val + b.val = b.val := Nat.zero_add _
    have h1 : ∀ o : Fin 64, Sem.Row dy s ft b.val (64 + o.val) M = Sem.spectrum dy s ft 1 b o M := fun o => row_lo dy s ft b 1 o M
    simp only [e, row_lo_0, h1]
    refine congrArg₂ (· + ·) (Finset.sum_congr rfl fun o _ => mul_comm _ _) (Finset.sum_congr rfl fun o _ => ?_)
    exact mul_comm _ _
  | 1 =>
    have e : 32 * (1 : Fin 2).val + b.val = 32 + b.val := rfl
    simp only [e, row_hi_0, row_hi_1]
    refine congrArg₂ (· + ·) (Finset.sum_congr rfl fun o _ => mul_comm _ _) (Finset.sum_congr rfl fun o _ => ?_)
    exact mul_comm _ _

/-- The reference's gradient of the weights is the sum over parts and batch. -/
theorem dwR_apply (cr ci : Vec Ideal S32x768x96 .i8) (xs : Vec Ideal S768 .f32) (xr xi : FVec Ideal S32x768x96 .bf16)
    (hr : ∀ b M d, xr (ix3 b M d) = Ideal.ofBits .fp8e4m3 (cr (ix3 b M d))) (hi : ∀ b M d, xi (ix3 b M d) = Ideal.ofBits .fp8e4m3 (ci (ix3 b M d)))
    (M : Fin 768) (a : Fin 96) (q : Fin 2) (o : Fin 64) :
    dwR xr xi xs (dyhR dy s ft) (ix4 M a q o) = Sem.DW cr ci xs dy s ft a.val (64 * q.val + o.val) M := by
  unfold dwR liR lrR Sem.DW
  pointwise
  refine congrArg (· * xs (ix1 M)) ?_
  rw [sum_64 fun r => Sem.XD cr ci a.val r M * Sem.Row dy s ft r (64 * q.val + o.val) M, ← Finset.sum_add_distrib]
  refine Finset.sum_congr rfl fun b _ => ?_
  simp only [Finset.univ_unique, Finset.sum_singleton, Finset.sum_const, Finset.card_singleton, one_smul, dyhR_apply, hr, hi, xd_lo, xd_hi, row_lo]
  refine congrArg₂ (· + ·) rfl (congrArg (_ * ·) ?_)
  match q with
  | 0 =>
    have e : 64 * (0 : Fin 2).val + o.val = o.val := Nat.zero_add _
    rw [e, row_hi_0]
    rfl
  | 1 =>
    have e : 64 * (1 : Fin 2).val + o.val = 64 + o.val := rfl
    rw [e, row_hi_1]
    rfl

end

end Cert.Proof.Ref
-- ==== Proof.RefDecode.lean ====
/-
  What the ideal reference decodes before its products.
-/
module

public import proofs.«01_k».proof.Proof.Spectrum
public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 65536

noncomputable section

namespace Cert.Proof.Ref

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx_0 : ∀ t : Fin cfg0.N, win0_0.index t = ![0, 0, 0] := (by decide +kernel : ∀ t : Fin grid0.N, _)
theorem idx_1 : ∀ t : Fin cfg0.N, win0_1.index t = ![0, 0, 0] := (by decide +kernel : ∀ t : Fin grid0.N, _)
theorem idx_2 : ∀ t : Fin cfg0.N, win0_2.index t = ![0, 0, 0] := (by decide +kernel : ∀ t : Fin grid0.N, _)
theorem idx_3 : ∀ t : Fin cfg0.N, win0_3.index t = ![0, 0, 0] := (by decide +kernel : ∀ t : Fin grid0.N, _)
theorem idx_4 : ∀ t : Fin cfg0.N, win0_4.index t = ![0, 0, 0] := (by decide +kernel : ∀ t : Fin grid0.N, _)
theorem idx_5 : ∀ t : Fin cfg0.N, win0_5.index t = ![0, 0, 0] := (by decide +kernel : ∀ t : Fin grid0.N, _)
theorem idx_6 : ∀ t : Fin cfg0.N, win0_6.index t = ![0, 0, 0] := (by decide +kernel : ∀ t : Fin grid0.N, _)
theorem idx_7 : ∀ t : Fin cfg0.N, win0_7.index t = ![0, 0, 0] := (by decide +kernel : ∀ t : Fin grid0.N, _)
theorem idx_8 : ∀ t : Fin cfg0.N, win0_8.index t = ![0, 0, 0] := (by decide +kernel : ∀ t : Fin grid0.N, _)
theorem idx_9 : ∀ t : Fin cfg0.N, win0_9.index t = ![0, 0, 0] := (by decide +kernel : ∀ t : Fin grid0.N, _)

/-- The real codes of `x`, decoded. -/
theorem fin5 (c : Dev nD) : (dats m 0 c).arrAt 5 cfg0.N = fun j => Ideal.ofBits .fp8e4m3 (m ((c : Thread nD τ).loc main_arg0) j) := by
  refine (dats m 0 c).arrAt_eq_of_covers 5 _ (by decide +kernel) fun t hf y => ?_
  blk_simp
  rw [after0_5]
  frame_out
  unfold k0_pay1
  refine congrArg (Ideal.ofBits .fp8e4m3) ?_
  show iblk m c 0 t y = _
  blk_ext! [iblk, V, idx_0 t, idx_5 t]

/-- The imaginary codes of `x`, decoded. -/
theorem fin6 (c : Dev nD) : (dats m 0 c).arrAt 6 cfg0.N = fun j => Ideal.ofBits .fp8e4m3 (m ((c : Thread nD τ).loc main_arg1) j) := by
  refine (dats m 0 c).arrAt_eq_of_covers 6 _ (by decide +kernel) fun t hf y => ?_
  blk_simp
  rw [after0_6]
  frame_out
  unfold k0_pay2
  refine congrArg (Ideal.ofBits .fp8e4m3) ?_
  show iblk m c 1 t y = _
  blk_ext! [iblk, V, idx_1 t, idx_6 t]

/-- The real codes of the weights, decoded. -/
theorem fin7 (c : Dev nD) : (dats m 0 c).arrAt 7 cfg0.N = fun j => Ideal.ofBits .fp8e4m3 (m ((c : Thread nD τ).loc main_arg3) j) := by
  refine (dats m 0 c).arrAt_eq_of_covers 7 _ (by decide +kernel) fun t hf y => ?_
  blk_simp
  rw [after0_7]
  frame_out
  unfold k0_pay3
  refine congrArg (Ideal.ofBits .fp8e4m3) ?_
  show iblk m c 2 t y = _
  blk_ext! [iblk, V, idx_2 t, idx_7 t]

/-- The imaginary codes of the weights, decoded. -/
theorem fin8 (c : Dev nD) : (dats m 0 c).arrAt 8 cfg0.N = fun j => Ideal.ofBits .fp8e4m3 (m ((c : Thread nD τ).loc main_arg4) j) := by
  refine (dats m 0 c).arrAt_eq_of_covers 8 _ (by decide +kernel) fun t hf y => ?_
  blk_simp
  rw [after0_8]
  frame_out
  unfold k0_pay4
  refine congrArg (Ideal.ofBits .fp8e4m3) ?_
  show iblk m c 3 t y = _
  blk_ext! [iblk, V, idx_3 t, idx_8 t]

/-- The gradient, decoded. -/
theorem fin9 (c : Dev nD) : (dats m 0 c).arrAt 9 cfg0.N = fun j => m ((c : Thread nD τ).loc main_arg6) j := by
  refine (dats m 0 c).arrAt_eq_of_covers 9 _ (by decide +kernel) fun t hf y => ?_
  blk_simp
  rw [after0_9]
  frame_out
  unfold k0_pay5
  show iblk m c 4 t y = _
  blk_ext! [iblk, V, idx_4 t, idx_9 t]

end Cert.Proof.Ref
-- ==== Proof.RefRun.lean ====
/-
  What the ideal reference leaves in its results.
-/
module

public import proofs.«01_k».proof.Proof.RefGrad
public import proofs.«01_k».proof.Proof.RefDecode
public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 65536

noncomputable section

namespace Cert.Proof.Ref

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the operations of the reference after its decoding start from. -/
theorem start (c : Dev nD) : ∃ W : Valuation τ sig (Elt Ideal),
    (∀ b, Pipeline.afterTail₀ cfgs (dats m) 0 (V0 m) [hostOps1, hostOps1_1, hostOps1_2] c b
      = StableHlo.after (hostOps1 ++ hostOps1_1 ++ hostOps1_2) W (Proc.devRef .tc b))
    ∧ W (Proc.devRef .tc main_v0_0) = (fun j => Ideal.ofBits .fp8e4m3 (m ((c : Thread nD τ).loc main_arg0) j))
    ∧ W (Proc.devRef .tc main_v0_1) = (fun j => Ideal.ofBits .fp8e4m3 (m ((c : Thread nD τ).loc main_arg1) j))
    ∧ W (Proc.devRef .tc main_v0_2) = (fun j => Ideal.ofBits .fp8e4m3 (m ((c : Thread nD τ).loc main_arg3) j))
    ∧ W (Proc.devRef .tc main_v0_3) = (fun j => Ideal.ofBits .fp8e4m3 (m ((c : Thread nD τ).loc main_arg4) j))
    ∧ W (Proc.devRef .tc main_v0_4) = (fun j => m ((c : Thread nD τ).loc main_arg6) j)
    ∧ W (Proc.devRef .tc main_arg2) = m ((c : Thread nD τ).loc main_arg2)
    ∧ W (Proc.devRef .tc main_arg5) = m ((c : Thread nD τ).loc main_arg5)
    ∧ W (Proc.devRef .tc main_arg7) = m ((c : Thread nD τ).loc main_arg7)
    ∧ W (Proc.devRef .tc main_arg8) = m ((c : Thread nD τ).loc main_arg8) := by
  refine ⟨Pipeline.withArrays spec0 c (V0 m c) (fun w => (dats m 0 c).arrAt w cfg0.N), fun b => rfl, ?_, ?_, ?_, ?_, ?_, ?_, ?_, ?_, ?_⟩
  · exact (Pipeline.withArrays_arr spec0 launch0.win.arr_inj c (V0 m c) (fun w => (dats m 0 c).arrAt w cfg0.N) 5).trans (fin5 m c)
  · exact (Pipeline.withArrays_arr spec0 launch0.win.arr_inj c (V0 m c) (fun w => (dats m 0 c).arrAt w cfg0.N) 6).trans (fin6 m c)
  · exact (Pipeline.withArrays_arr spec0 launch0.win.arr_inj c (V0 m c) (fun w => (dats m 0 c).arrAt w cfg0.N) 7).trans (fin7 m c)
  · exact (Pipeline.withArrays_arr spec0 launch0.win.arr_inj c (V0 m c) (fun w => (dats m 0 c).arrAt w cfg0.N) 8).trans (fin8 m c)
  · exact (Pipeline.withArrays_arr spec0 launch0.win.arr_inj c (V0 m c) (fun w => (dats m 0 c).arrAt w cfg0.N) 9).trans (fin9 m c)
  · rw [Pipeline.withArrays_of_ne _ c (V0 m c) _ main_arg2 (by exact (by decide : ∀ w, Pipeline.arrRef spec0 w ≠ main_arg2))]
    exact V_main_arg2 m c
  · rw [Pipeline.withArrays_of_ne _ c (V0 m c) _ main_arg5 (by exact (by decide : ∀ w, Pipeline.arrRef spec0 w ≠ main_arg5))]
    exact V_main_arg5 m c
  · rw [Pipeline.withArrays_of_ne _ c (V0 m c) _ main_arg7 (by exact (by decide : ∀ w, Pipeline.arrRef spec0 w ≠ main_arg7))]
    exact V_main_arg7 m c
  · rw [Pipeline.withArrays_of_ne _ c (V0 m c) _ main_arg8 (by exact (by decide : ∀ w, Pipeline.arrRef spec0 w ≠ main_arg8))]
    exact V_main_arg8 m c

/-- The reference's spectrum of the gradient `m` holds. -/
abbrev dyhM (c : Dev nD) : FVec Ideal S2x768x32x64 .bf16 :=
  dyhR (fun j => m ((c : Thread nD τ).loc main_arg6) j) (m ((c : Thread nD τ).loc main_arg7)) (m ((c : Thread nD τ).loc main_arg8))

/-- The reference's gradient of the weights `m` holds. -/
abbrev dwM (c : Dev nD) : FVec Ideal S768x96x2x64 .f32 :=
  dwR (fun j => Ideal.ofBits .fp8e4m3 (m ((c : Thread nD τ).loc main_arg0) j)) (fun j => Ideal.ofBits .fp8e4m3 (m ((c : Thread nD τ).loc main_arg1) j)) (m ((c : Thread nD τ).loc main_arg2)) (dyhM m c)

/-- The reference's gradient of the `x` `m` holds. -/
abbrev dxM (c : Dev nD) : FVec Ideal S2x32x768x96 .bf16 :=
  dxR (fun j => Ideal.ofBits .fp8e4m3 (m ((c : Thread nD τ).loc main_arg3) j)) (fun j => Ideal.ofBits .fp8e4m3 (m ((c : Thread nD τ).loc main_arg4) j)) (m ((c : Thread nD τ).loc main_arg5)) (dyhM m c)

/-- The real part of the gradient of the weights. -/
theorem tail_40 (c : Dev nD) : Pipeline.afterTail₀ cfgs (dats m) 0 (V0 m) [hostOps1, hostOps1_1, hostOps1_2] c main_v40
    = shapeCast S768x96x64 (extractStridedSlice S768x96x1x64 ![0, 0, 0, 0] (dwM m c) slices_S768x96x2x64_S768x96x1x64_0_0_0_0) shapeCasts_S768x96x1x64_S768x96x64 := by
  obtain ⟨W, hW, h0, h1, h2, h3, h6, a2, a5, a7, a8⟩ := start m c
  rw [hW]
  have e : dwM m c = dwR (W (Proc.devRef .tc main_v0_0)) (W (Proc.devRef .tc main_v0_1)) (W (Proc.devRef .tc main_arg2)) (dyhR (W (Proc.devRef .tc main_v0_4)) (W (Proc.devRef .tc main_arg7)) (W (Proc.devRef .tc main_arg8))) := by
    unfold dwM dyhM
    rw [h0, h1, h6, a2, a7, a8]
    rfl
  rw [e]
  simp only [hostOps1, hostOps1_1, hostOps1_2, List.cons_append, List.nil_append, StableHlo.after_cons, StableHlo.after_nil]
  after_results_simp
  rfl

/-- Its imaginary part. -/
theorem tail_42 (c : Dev nD) : Pipeline.afterTail₀ cfgs (dats m) 0 (V0 m) [hostOps1, hostOps1_1, hostOps1_2] c main_v42
    = shapeCast S768x96x64 (extractStridedSlice S768x96x1x64 ![0, 0, 1, 0] (dwM m c) slices_S768x96x2x64_S768x96x1x64_0_0_1_0) shapeCasts_S768x96x1x64_S768x96x64 := by
  obtain ⟨W, hW, h0, h1, h2, h3, h6, a2, a5, a7, a8⟩ := start m c
  rw [hW]
  have e : dwM m c = dwR (W (Proc.devRef .tc main_v0_0)) (W (Proc.devRef .tc main_v0_1)) (W (Proc.devRef .tc main_arg2)) (dyhR (W (Proc.devRef .tc main_v0_4)) (W (Proc.devRef .tc main_arg7)) (W (Proc.devRef .tc main_arg8))) := by
    unfold dwM dyhM
    rw [h0, h1, h6, a2, a7, a8]
    rfl
  rw [e]
  simp only [hostOps1, hostOps1_1, hostOps1_2, List.cons_append, List.nil_append, StableHlo.after_cons, StableHlo.after_nil]
  after_results_simp
  rfl

/-- The real part of the gradient of `x`. -/
theorem tail_53 (c : Dev nD) : Pipeline.afterTail₀ cfgs (dats m) 0 (V0 m) [hostOps1, hostOps1_1, hostOps1_2] c main_v53
    = shapeCast S32x768x96 (extractStridedSlice S1x32x768x96 ![0, 0, 0, 0] (dxM m c) slices_S2x32x768x96_S1x32x768x96_0_0_0_0) shapeCasts_S1x32x768x96_S32x768x96 := by
  obtain ⟨W, hW, h0, h1, h2, h3, h6, a2, a5, a7, a8⟩ := start m c
  rw [hW]
  have e : dxM m c = dxR (W (Proc.devRef .tc main_v0_2)) (W (Proc.devRef .tc main_v0_3)) (W (Proc.devRef .tc main_arg5)) (dyhR (W (Proc.devRef .tc main_v0_4)) (W (Proc.devRef .tc main_arg7)) (W (Proc.devRef .tc main_arg8))) := by
    unfold dxM dyhM
    rw [h2, h3, h6, a5, a7, a8]
    rfl
  rw [e]
  simp only [hostOps1, hostOps1_1, hostOps1_2, List.cons_append, List.nil_append, StableHlo.after_cons, StableHlo.after_nil]
  after_results_simp
  rfl

/-- Its imaginary part. -/
theorem tail_55 (c : Dev nD) : Pipeline.afterTail₀ cfgs (dats m) 0 (V0 m) [hostOps1, hostOps1_1, hostOps1_2] c main_v55
    = shapeCast S32x768x96 (extractStridedSlice S1x32x768x96 ![1, 0, 0, 0] (dxM m c) slices_S2x32x768x96_S1x32x768x96_1_0_0_0) shapeCasts_S1x32x768x96_S32x768x96 := by
  obtain ⟨W, hW, h0, h1, h2, h3, h6, a2, a5, a7, a8⟩ := start m c
  rw [hW]
  have e : dxM m c = dxR (W (Proc.devRef .tc main_v0_2)) (W (Proc.devRef .tc main_v0_3)) (W (Proc.devRef .tc main_arg5)) (dyhR (W (Proc.devRef .tc main_v0_4)) (W (Proc.devRef .tc main_arg7)) (W (Proc.devRef .tc main_arg8))) := by
    unfold dxM dyhM
    rw [h2, h3, h6, a5, a7, a8]
    rfl
  rw [e]
  simp only [hostOps1, hostOps1_1, hostOps1_2, List.cons_append, List.nil_append, StableHlo.after_cons, StableHlo.after_nil]
  after_results_simp
  rfl

/-- The spectrum's real part, batches first. -/
theorem tail_16 (c : Dev nD) : Pipeline.afterTail₀ cfgs (dats m) 0 (V0 m) [hostOps1, hostOps1_1, hostOps1_2] c main_v16
    = transpose S32x768x64 [1, 0, 2] (shapeCast S768x32x64 (extractStridedSlice S1x768x32x64 ![0, 0, 0, 0] (dyhM m c) slices_S2x768x32x64_S1x768x32x64_0_0_0_0) shapeCasts_S1x768x32x64_S768x32x64) transposes_S768x32x64_S32x768x64_1_0_2 := by
  obtain ⟨W, hW, h0, h1, h2, h3, h6, a2, a5, a7, a8⟩ := start m c
  rw [hW]
  have e : dyhM m c = dyhR (W (Proc.devRef .tc main_v0_4)) (W (Proc.devRef .tc main_arg7)) (W (Proc.devRef .tc main_arg8)) := by
    unfold dyhM
    rw [h6, a7, a8]
    rfl
  rw [e]
  simp only [hostOps1, hostOps1_1, hostOps1_2, List.cons_append, List.nil_append, StableHlo.after_cons, StableHlo.after_nil]
  after_results_simp
  rfl

/-- The spectrum's imaginary part, batches first. -/
theorem tail_19 (c : Dev nD) : Pipeline.afterTail₀ cfgs (dats m) 0 (V0 m) [hostOps1, hostOps1_1, hostOps1_2] c main_v19
    = transpose S32x768x64 [1, 0, 2] (shapeCast S768x32x64 (extractStridedSlice S1x768x32x64 ![1, 0, 0, 0] (dyhM m c) slices_S2x768x32x64_S1x768x32x64_1_0_0_0) shapeCasts_S1x768x32x64_S768x32x64) transposes_S768x32x64_S32x768x64_1_0_2 := by
  obtain ⟨W, hW, h0, h1, h2, h3, h6, a2, a5, a7, a8⟩ := start m c
  rw [hW]
  have e : dyhM m c = dyhR (W (Proc.devRef .tc main_v0_4)) (W (Proc.devRef .tc main_arg7)) (W (Proc.devRef .tc main_arg8)) := by
    unfold dyhM
    rw [h6, a7, a8]
    rfl
  rw [e]
  simp only [hostOps1, hostOps1_1, hostOps1_2, List.cons_append, List.nil_append, StableHlo.after_cons, StableHlo.after_nil]
  after_results_simp
  rfl

/-- The first result is the real part of the gradient of the weights. -/
theorem result_40 (c : Dev nD) : Pipeline.afterTail₀ cfgs (dats m) 0 (V0 m) [hostOps1, hostOps1_1, hostOps1_2] c main_v40 = fun j => Sem.DW (m ((c : Thread nD τ).loc main_arg0)) (m ((c : Thread nD τ).loc main_arg1)) (m ((c : Thread nD τ).loc main_arg2)) (fun j => m ((c : Thread nD τ).loc main_arg6) j) (m ((c : Thread nD τ).loc main_arg7)) (m ((c : Thread nD τ).loc main_arg8)) (j 1 : Fin 96).val (64 * (0 : Fin 2).val + (j 2 : Fin 64).val) (j 0) := by
  rw [tail_40]
  funext j
  idx_vars j
  pointwise
  refine (dwR_apply _ _ _ (m ((c : Thread nD τ).loc main_arg0)) (m ((c : Thread nD τ).loc main_arg1)) _
    (fun j => Ideal.ofBits .fp8e4m3 (m ((c : Thread nD τ).loc main_arg0) j)) (fun j => Ideal.ofBits .fp8e4m3 (m ((c : Thread nD τ).loc main_arg1) j)) (fun _ _ _ => rfl) (fun _ _ _ => rfl) _ _ 0 _).trans ?_
  rw [Fin.val_zero, Nat.mul_zero, Nat.zero_add]

/-- The second result is its imaginary part. -/
theorem result_42 (c : Dev nD) : Pipeline.afterTail₀ cfgs (dats m) 0 (V0 m) [hostOps1, hostOps1_1, hostOps1_2] c main_v42 = fun j => Sem.DW (m ((c : Thread nD τ).loc main_arg0)) (m ((c : Thread nD τ).loc main_arg1)) (m ((c : Thread nD τ).loc main_arg2)) (fun j => m ((c : Thread nD τ).loc main_arg6) j) (m ((c : Thread nD τ).loc main_arg7)) (m ((c : Thread nD τ).loc main_arg8)) (j 1 : Fin 96).val (64 * (1 : Fin 2).val + (j 2 : Fin 64).val) (j 0) := by
  rw [tail_42]
  funext j
  idx_vars j
  pointwise
  exact dwR_apply _ _ _ (m ((c : Thread nD τ).loc main_arg0)) (m ((c : Thread nD τ).loc main_arg1)) _
    (fun j => Ideal.ofBits .fp8e4m3 (m ((c : Thread nD τ).loc main_arg0) j)) (fun j => Ideal.ofBits .fp8e4m3 (m ((c : Thread nD τ).loc main_arg1) j)) (fun _ _ _ => rfl) (fun _ _ _ => rfl) _ _ 1 _

/-- The third result is the real part of the gradient of `x`. -/
theorem result_53 (c : Dev nD) : Pipeline.afterTail₀ cfgs (dats m) 0 (V0 m) [hostOps1, hostOps1_1, hostOps1_2] c main_v53 = fun j => Sem.DX (m ((c : Thread nD τ).loc main_arg3)) (m ((c : Thread nD τ).loc main_arg4)) (m ((c : Thread nD τ).loc main_arg5)) (fun j => m ((c : Thread nD τ).loc main_arg6) j) (m ((c : Thread nD τ).loc main_arg7)) (m ((c : Thread nD τ).loc main_arg8)) (32 * (0 : Fin 2).val + (j 0 : Fin 32).val) (j 2 : Fin 96).val (j 1) := by
  rw [tail_53]
  funext j
  idx_vars j
  pointwise
  refine (dxR_apply _ _ _ (m ((c : Thread nD τ).loc main_arg3)) (m ((c : Thread nD τ).loc main_arg4)) _
    (fun j => Ideal.ofBits .fp8e4m3 (m ((c : Thread nD τ).loc main_arg3) j)) (fun j => Ideal.ofBits .fp8e4m3 (m ((c : Thread nD τ).loc main_arg4) j)) (fun _ _ _ => rfl) (fun _ _ _ => rfl) 0 _ _ _).trans ?_
  rw [Fin.val_zero, Nat.mul_zero, Nat.zero_add]

/-- The fourth result is its imaginary part. -/
theorem result_55 (c : Dev nD) : Pipeline.afterTail₀ cfgs (dats m) 0 (V0 m) [hostOps1, hostOps1_1, hostOps1_2] c main_v55 = fun j => Sem.DX (m ((c : Thread nD τ).loc main_arg3)) (m ((c : Thread nD τ).loc main_arg4)) (m ((c : Thread nD τ).loc main_arg5)) (fun j => m ((c : Thread nD τ).loc main_arg6) j) (m ((c : Thread nD τ).loc main_arg7)) (m ((c : Thread nD τ).loc main_arg8)) (32 * (1 : Fin 2).val + (j 0 : Fin 32).val) (j 2 : Fin 96).val (j 1) := by
  rw [tail_55]
  funext j
  idx_vars j
  pointwise
  exact dxR_apply _ _ _ (m ((c : Thread nD τ).loc main_arg3)) (m ((c : Thread nD τ).loc main_arg4)) _
    (fun j => Ideal.ofBits .fp8e4m3 (m ((c : Thread nD τ).loc main_arg3) j)) (fun j => Ideal.ofBits .fp8e4m3 (m ((c : Thread nD τ).loc main_arg4) j)) (fun _ _ _ => rfl) (fun _ _ _ => rfl) 1 _ _ _

/-- The fifth result is the real part of the spectrum. -/
theorem result_16 (c : Dev nD) : Pipeline.afterTail₀ cfgs (dats m) 0 (V0 m) [hostOps1, hostOps1_1, hostOps1_2] c main_v16 = fun j => Sem.spectrum (fun j => m ((c : Thread nD τ).loc main_arg6) j) (m ((c : Thread nD τ).loc main_arg7)) (m ((c : Thread nD τ).loc main_arg8)) 0 (j 0) (j 2) (j 1) := by
  rw [tail_16]
  funext j
  idx_vars j
  pointwise
  exact dyhR_apply _ _ _ 0 _ _ _

/-- The sixth result is its imaginary part. -/
theorem result_19 (c : Dev nD) : Pipeline.afterTail₀ cfgs (dats m) 0 (V0 m) [hostOps1, hostOps1_1, hostOps1_2] c main_v19 = fun j => Sem.spectrum (fun j => m ((c : Thread nD τ).loc main_arg6) j) (m ((c : Thread nD τ).loc main_arg7)) (m ((c : Thread nD τ).loc main_arg8)) 1 (j 0) (j 2) (j 1) := by
  rw [tail_19]
  funext j
  idx_vars j
  pointwise
  exact dyhR_apply _ _ _ 1 _ _ _

/-- Every schedule of the reference ends with the two gradients and the spectrum, each in two parts, in its results. -/
theorem run (ρ : Dev nD → PrngReg) : θ_run defs (onTc (nD := nD) main) ⟨m, fun _ => 0, ρ⟩ (fun r => ∀ c : Dev nD,
    r.2.mem ((c : Thread nD τ).loc main_v40) = (fun j => Sem.DW (m ((c : Thread nD τ).loc main_arg0)) (m ((c : Thread nD τ).loc main_arg1)) (m ((c : Thread nD τ).loc main_arg2)) (fun j => m ((c : Thread nD τ).loc main_arg6) j) (m ((c : Thread nD τ).loc main_arg7)) (m ((c : Thread nD τ).loc main_arg8)) (j 1 : Fin 96).val (64 * (0 : Fin 2).val + (j 2 : Fin 64).val) (j 0))
    ∧ r.2.mem ((c : Thread nD τ).loc main_v42) = (fun j => Sem.DW (m ((c : Thread nD τ).loc main_arg0)) (m ((c : Thread nD τ).loc main_arg1)) (m ((c : Thread nD τ).loc main_arg2)) (fun j => m ((c : Thread nD τ).loc main_arg6) j) (m ((c : Thread nD τ).loc main_arg7)) (m ((c : Thread nD τ).loc main_arg8)) (j 1 : Fin 96).val (64 * (1 : Fin 2).val + (j 2 : Fin 64).val) (j 0))
    ∧ r.2.mem ((c : Thread nD τ).loc main_v53) = (fun j => Sem.DX (m ((c : Thread nD τ).loc main_arg3)) (m ((c : Thread nD τ).loc main_arg4)) (m ((c : Thread nD τ).loc main_arg5)) (fun j => m ((c : Thread nD τ).loc main_arg6) j) (m ((c : Thread nD τ).loc main_arg7)) (m ((c : Thread nD τ).loc main_arg8)) (32 * (0 : Fin 2).val + (j 0 : Fin 32).val) (j 2 : Fin 96).val (j 1))
    ∧ r.2.mem ((c : Thread nD τ).loc main_v55) = (fun j => Sem.DX (m ((c : Thread nD τ).loc main_arg3)) (m ((c : Thread nD τ).loc main_arg4)) (m ((c : Thread nD τ).loc main_arg5)) (fun j => m ((c : Thread nD τ).loc main_arg6) j) (m ((c : Thread nD τ).loc main_arg7)) (m ((c : Thread nD τ).loc main_arg8)) (32 * (1 : Fin 2).val + (j 0 : Fin 32).val) (j 2 : Fin 96).val (j 1))
    ∧ r.2.mem ((c : Thread nD τ).loc main_v16) = (fun j => Sem.spectrum (fun j => m ((c : Thread nD τ).loc main_arg6) j) (m ((c : Thread nD τ).loc main_arg7)) (m ((c : Thread nD τ).loc main_arg8)) 0 (j 0) (j 2) (j 1))
    ∧ r.2.mem ((c : Thread nD τ).loc main_v19) = (fun j => Sem.spectrum (fun j => m ((c : Thread nD τ).loc main_arg6) j) (m ((c : Thread nD τ).loc main_arg7)) (m ((c : Thread nD τ).loc main_arg8)) 1 (j 0) (j 2) (j 1))) := by
  run_from run_main m ρ
  · exact result_40 m c
  · exact result_42 m c
  · exact result_53 m c
  · exact result_55 m c
  · exact result_16 m c
  · exact result_19 m c

end Cert.Proof.Ref
-- ==== Proof.Algebraic.lean ====
/-
  The ideal program and the ideal reference leave the same six results.
-/
module

public import proofs.«01_k».proof.Defs
public import proofs.«01_k».proof.Proof.KernelRun
public import proofs.«01_k».proof.Proof.RefRun
public import proofs.«01_k».proof.Proof.KIFrame
public import Idealize.ShloMosaic.Lib.Claim

@[expose] public section

set_option maxRecDepth 65536

noncomputable section

namespace Cert.Proof

open Idealize.ShloMosaic Idealize.SL.Sem

/-- The program and the reference both leave the gradients of the weights and of `x` and the spectrum in their results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c j => Sem.DWm m c (j 1 : Fin 96).val (64 * (0 : Fin 2).val + (j 2 : Fin 64).val) (j 0),
    fun c j => Sem.DWm m c (j 1 : Fin 96).val (64 * (1 : Fin 2).val + (j 2 : Fin 64).val) (j 0),
    fun c j => Sem.DXm m c (32 * (0 : Fin 2).val + (j 0 : Fin 32).val) (j 2 : Fin 96).val (j 1),
    fun c j => Sem.DXm m c (32 * (1 : Fin 2).val + (j 0 : Fin 32).val) (j 2 : Fin 96).val (j 1),
    fun c j => Sem.spectrum (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) 0 (j 0) (j 2) (j 1),
    fun c j => Sem.spectrum (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) 1 (j 0) (j 2) (j 1), ?_, ?_⟩
  · refine θ_run_mono (θ_run_and (Sem.run m g) (KernelIdeal.run_frame m g)) ?_
    rintro r ⟨hv, hf⟩ c
    obtain ⟨h1, h2, h3, h4, h5, h6⟩ := hv c
    exact ⟨h1, h2, h3, h4, h5, h6, hf.1 c⟩
  · refine θ_run_mono (θ_run_and (Ref.run m' g') (Cert.ReferenceIdeal.Gen.frame m' g')) ?_
    rintro r ⟨hv, hf⟩ c
    obtain ⟨h1, h2, h3, h4, h5, h6⟩ := hv c
    obtain ⟨e0, e1, e2, e3, e4, e5, e6, e7, e8⟩ := hagree c
    rw [e0, e1, e2, e6, e7, e8] at h1 h2
    rw [e3, e4, e5, e6, e7, e8] at h3 h4
    rw [e6, e7, e8] at h5 h6
    exact ⟨h1, h2, h3, h4, h5, h6, hf.1 c⟩

end Cert.Proof
-- ==== Proof.lean ====
module

public import proofs.«01_k».proof.Defs
public import proofs.«01_k».proof.Proof.Gen.Kernel
public import proofs.«01_k».proof.Proof.Gen.Kernel.Loops
public import proofs.«01_k».proof.Proof.Gen.Kernel.Points
public import proofs.«01_k».proof.Proof.Gen.KernelIdeal
public import proofs.«01_k».proof.Proof.Gen.KernelIdeal.Loops
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.KFrame
public import proofs.«01_k».proof.Proof.KIFrame
public import proofs.«01_k».proof.Proof.Algebraic
public import Idealize.ShloMosaic.Lib.Bf16PairInverse

@[expose] public section

namespace Cert.Proof

open Idealize.ShloMosaic

/-- Each packed pair of halves of the ideal program carries the words of the printed one. -/
theorem preserves : Cert.preserves_Kernel_KernelIdeal :=
  open Cert.KernelIdeal IdealRules.bf16_pair in
  ⟨bufferStatement S4608x2x128 S4608x1x128, packStatement S128x128, statement S128x2x128 S128x1x128,
    statement S32x2x128 S32x1x128, statement S64x128 S32x128, statement S256x128 S128x128⟩

theorem claim : Cert.Claim :=
  ⟨Cert.Kernel.Gen.facts, Cert.KernelIdeal.Gen.facts, Cert.ReferenceIdeal.Gen.facts,
    fun m ρ _ => Kernel.run_frame m ρ, fun m ρ _ => KernelIdeal.run_frame m ρ,
    fun m ρ _ => Cert.ReferenceIdeal.Gen.frame m ρ, preserves, algebraic⟩

end Cert.Proof
